-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_routed [hPre_routed : Cert.Pre_routed.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_routed.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_routed [hPre_routed : Cert.Pre_routed.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_routed.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Kernel8Ideal_pre_routed [hKernel8Ideal : Cert.Kernel8Ideal.Facts] [hPre_routed : Cert.Pre_routed.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_routed m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Reference8Ideal_pre_routed [hReference8Ideal : Cert.Reference8Ideal.Facts] [hPre_routed : Cert.Pre_routed.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_routed m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v116)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v116) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v205) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_v15) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_v14) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v87) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal_pre_routed [hKernel8Ideal : Cert.Kernel8Ideal.Facts] [hReference8Ideal : Cert.Reference8Ideal.Facts] [hPre_routed : Cert.Pre_routed.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_routed m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v28) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_routed : Cert.Pre_routed.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_routed (hKernel8Ideal := hKernel8Ideal) (hPre_routed := hPre_routed)
    ∧ quiescent_Reference8Ideal (hReference8Ideal := hReference8Ideal)
    ∧ quiescent_Reference8Ideal_pre_routed (hReference8Ideal := hReference8Ideal) (hPre_routed := hPre_routed)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_routed (hKernel8Ideal := hKernel8Ideal) (hReference8Ideal := hReference8Ideal) (hPre_routed := hPre_routed)
-- ==== Pre_routed.lean ====
abbrev S65536x1024 : Shape := ⟨2, ![65536, 1024]⟩
abbrev S65536x128 : Shape := ⟨2, ![65536, 128]⟩
abbrev S16384x1024 : Shape := ⟨2, ![16384, 1024]⟩
abbrev S_ : Shape := ⟨0, ![]⟩

class Facts : Prop where
  bcast_S_S65536x128 : S_.BroadcastsInDim S65536x128 (![] : Fin 0 → Fin S65536x128.rank)

variable [Facts]

def fn {F : FTy → Type} [FloatOps F] (main_arg0 : FVec F S65536x1024 .bf16) (main_arg1 : IVec S65536x128 32) (main_arg2 : IVec S65536x128 32) (main_arg3 : FVec F S65536x128 .f32) (main_arg4 : FVec F S16384x1024 .f32) (main_arg5 : FVec F S16384x1024 .f32) (main_arg6 : FVec F S65536x1024 .f32) : IVec S65536x128 1 :=
  let main_c : IVec S_ 32 := constantI S_ 32 0#32
  let main_v0 : IVec S65536x128 32 := broadcastInDim S65536x128 ![] bcast_S_S65536x128 main_c
  let main_v1 : IVec S65536x128 1 := cmpi .sge main_arg1 main_v0
  let main_c_0 : IVec S_ 32 := constantI S_ 32 128#32
  let main_v2 : IVec S65536x128 32 := broadcastInDim S65536x128 ![] bcast_S_S65536x128 main_c_0
  let main_v3 : IVec S65536x128 1 := cmpi .slt main_arg1 main_v2
  let main_v4 : IVec S65536x128 1 := andi main_v1 main_v3
  let main_c_1 : IVec S_ 32 := constantI S_ 32 0#32
  let main_v5 : IVec S65536x128 32 := broadcastInDim S65536x128 ![] bcast_S_S65536x128 main_c_1
  let main_v6 : IVec S65536x128 1 := cmpi .sge main_arg2 main_v5
  let main_v7 : IVec S65536x128 1 := andi main_v4 main_v6
  let main_c_2 : IVec S_ 32 := constantI S_ 32 128#32
  let main_v8 : IVec S65536x128 32 := broadcastInDim S65536x128 ![] bcast_S_S65536x128 main_c_2
  let main_v9 : IVec S65536x128 1 := cmpi .slt main_arg2 main_v8
  let main_v10 : IVec S65536x128 1 := andi main_v7 main_v9
  let main_cst : FVec F S_ .f32 := constant S_ .f32 0x00000000#32
  let main_v11 : FVec F S65536x128 .f32 := broadcastInDim S65536x128 ![] bcast_S_S65536x128 main_cst
  let main_v12 : IVec S65536x128 1 := cmpf .oge main_arg3 main_v11
  let main_v13 : IVec S65536x128 1 := andi main_v10 main_v12
  main_v13
-- ==== Kernel.lean ====
abbrev S65536x2048 : Shape := ⟨2, ![65536, 2048]⟩
abbrev S2x4 : Shape := ⟨2, ![2, 4]⟩
abbrev S512 : Shape := ⟨1, ![512]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x4 : Shape := ⟨2, ![1, 4]⟩
abbrev S4 : Shape := ⟨1, ![4]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S4x1x128 : Shape := ⟨3, ![4, 1, 128]⟩
abbrev S4x6x128 : Shape := ⟨3, ![4, 6, 128]⟩
abbrev S4x6x128x1 : Shape := ⟨4, ![4, 6, 128, 1]⟩
abbrev S4x6x128x128 : Shape := ⟨4, ![4, 6, 128, 128]⟩
abbrev S64 : Shape := ⟨1, ![64]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S1x512 : Shape := ⟨2, ![1, 512]⟩
abbrev S65536x512 : Shape := ⟨2, ![65536, 512]⟩
abbrev S1x6x128x128 : Shape := ⟨4, ![1, 6, 128, 128]⟩
abbrev S16x128x128 : Shape := ⟨3, ![16, 128, 128]⟩
abbrev S1x1x128x128 : Shape := ⟨4, ![1, 1, 128, 128]⟩

abbrev nBuf : Space → Nat
  | .hbm => 152
  | .vmem => 21
  | .smem => 0
  | _ => 0

abbrev hbmTy0_0 (i : Nat) : BufTy := match i % 128 with
  | 0 => ⟨S65536x2048, .f32⟩
  | 1 => ⟨S2x4, .f32⟩
  | 2 => ⟨S512, .f32⟩
  | 3 => ⟨S2x4, .f32⟩
  | 4 => ⟨S_, .f32⟩
  | 5 => ⟨S2x4, .f32⟩
  | 6 => ⟨S2x4, .f32⟩
  | 7 => ⟨S2x4, .f32⟩
  | 8 => ⟨S2x4, .f32⟩
  | 9 => ⟨S2x4, .i1⟩
  | 10 => ⟨S2x4, .f32⟩
  | 11 => ⟨S2x4, .f32⟩
  | 12 => ⟨S2x4, .f32⟩
  | 13 => ⟨S2x4, .f32⟩
  | 14 => ⟨S2x4, .f32⟩
  | 15 => ⟨S2x4, .f32⟩
  | 16 => ⟨S2x4, .f32⟩
  | 17 => ⟨S2x4, .f32⟩
  | 18 => ⟨S2x4, .f32⟩
  | 19 => ⟨S128, .f32⟩
  | 20 => ⟨S128x1, .f32⟩
  | 21 => ⟨S1x128, .f32⟩
  | 22 => ⟨S128x128, .f32⟩
  | 23 => ⟨S128x128, .f32⟩
  | 24 => ⟨S128x128, .f32⟩
  | 25 => ⟨S_, .f32⟩
  | 26 => ⟨S128x128, .f32⟩
  | 27 => ⟨S128x128, .i1⟩
  | 28 => ⟨S1x4, .f32⟩
  | 29 => ⟨S4, .f32⟩
  | 30 => ⟨S4x1x1, .f32⟩
  | 31 => ⟨S_, .f32⟩
  | 32 => ⟨S128x128, .f32⟩
  | 33 => ⟨S128x128, .f32⟩
  | 34 => ⟨S1x128x128, .f32⟩
  | 35 => ⟨S4x128x128, .f32⟩
  | 36 => ⟨S4x128x128, .f32⟩
  | 37 => ⟨S4x128x128, .f32⟩
  | 38 => ⟨S4x128x128, .f32⟩
  | 39 => ⟨S_, .f32⟩
  | 40 => ⟨S_, .f32⟩
  | 41 => ⟨S4x128x128, .i1⟩
  | 42 => ⟨S4x128x128, .f32⟩
  | 43 => ⟨S4x128x128, .f32⟩
  | 44 => ⟨S_, .f32⟩
  | 45 => ⟨S128x128, .f32⟩
  | 46 => ⟨S128x128, .i1⟩
  | 47 => ⟨S1x4, .f32⟩
  | 48 => ⟨S4, .f32⟩
  | 49 => ⟨S4x1x1, .f32⟩
  | 50 => ⟨S128x128, .f32⟩
  | 51 => ⟨S_, .f32⟩
  | 52 => ⟨S128x128, .f32⟩
  | 53 => ⟨S128x128, .f32⟩
  | 54 => ⟨S1x128x128, .f32⟩
  | 55 => ⟨S4x128x128, .f32⟩
  | 56 => ⟨S4x128x128, .f32⟩
  | 57 => ⟨S4x128x128, .f32⟩
  | 58 => ⟨S4x128x128, .f32⟩
  | 59 => ⟨S_, .f32⟩
  | 60 => ⟨S_, .f32⟩
  | 61 => ⟨S4x128x128, .i1⟩
  | 62 => ⟨S4x128x128, .f32⟩
  | 63 => ⟨S4x128x128, .f32⟩
  | 64 => ⟨S1x4, .f32⟩
  | 65 => ⟨S4, .f32⟩
  | 66 => ⟨S4x1, .f32⟩
  | 67 => ⟨S_, .f32⟩
  | 68 => ⟨S128, .f32⟩
  | 69 => ⟨S128, .f32⟩
  | 70 => ⟨S1x128, .f32⟩
  | 71 => ⟨S4x128, .f32⟩
  | 72 => ⟨S4x128, .f32⟩
  | 73 => ⟨S4x128, .f32⟩
  | 74 => ⟨S4x128, .f32⟩
  | 75 => ⟨S1x4, .f32⟩
  | 76 => ⟨S4, .f32⟩
  | 77 => ⟨S4x1, .f32⟩
  | 78 => ⟨S1x128, .f32⟩
  | 79 => ⟨S4x128, .f32⟩
  | 80 => ⟨S4x128, .f32⟩
  | 81 => ⟨S4x128, .f32⟩
  | 82 => ⟨S4x128, .f32⟩
  | 83 => ⟨S1x4, .f32⟩
  | 84 => ⟨S4, .f32⟩
  | 85 => ⟨S4x1, .f32⟩
  | 86 => ⟨S_, .f32⟩
  | 87 => ⟨S128, .f32⟩
  | 88 => ⟨S128, .f32⟩
  | 89 => ⟨S1x128, .f32⟩
  | 90 => ⟨S4x128, .f32⟩
  | 91 => ⟨S4x128, .f32⟩
  | 92 => ⟨S4x128, .f32⟩
  | 93 => ⟨S4x128, .f32⟩
  | 94 => ⟨S1x4, .f32⟩
  | 95 => ⟨S4, .f32⟩
  | 96 => ⟨S4x1, .f32⟩
  | 97 => ⟨S_, .f32⟩
  | 98 => ⟨S128, .f32⟩
  | 99 => ⟨S128, .f32⟩
  | 100 => ⟨S1x128, .f32⟩
  | 101 => ⟨S4x128, .f32⟩
  | 102 => ⟨S4x128, .f32⟩
  | 103 => ⟨S4x128, .f32⟩
  | 104 => ⟨S4x128, .f32⟩
  | 105 => ⟨S1x4, .f32⟩
  | 106 => ⟨S4, .f32⟩
  | 107 => ⟨S_, .f32⟩
  | 108 => ⟨S4, .f32⟩
  | 109 => ⟨S4, .f32⟩
  | 110 => ⟨S4, .f32⟩
  | 111 => ⟨S4x1, .f32⟩
  | 112 => ⟨S4x128, .f32⟩
  | 113 => ⟨S1x4, .f32⟩
  | 114 => ⟨S4, .f32⟩
  | 115 => ⟨S_, .f32⟩
  | 116 => ⟨S4, .f32⟩
  | 117 => ⟨S4, .f32⟩
  | 118 => ⟨S4, .f32⟩
  | 119 => ⟨S4x1, .f32⟩
  | 120 => ⟨S4x128, .f32⟩
  | 121 => ⟨S4x1x128, .f32⟩
  | 122 => ⟨S4x1x128, .f32⟩
  | 123 => ⟨S4x1x128, .f32⟩
  | 124 => ⟨S4x1x128, .f32⟩
  | 125 => ⟨S4x1x128, .f32⟩
  | 126 => ⟨S4x1x128, .f32⟩
  | 127 => ⟨S4x6x128, .f32⟩
  | _ => ⟨S65536x2048, .f32⟩

abbrev hbmTy0_1 (i : Nat) : BufTy := match i % 128 with
  | 0 => ⟨S4x128x128, .f32⟩
  | 1 => ⟨S4x6x128x1, .f32⟩
  | 2 => ⟨S4x6x128x128, .f32⟩
  | 3 => ⟨S64, .f32⟩
  | 4 => ⟨S64, .f32⟩
  | 5 => ⟨S_, .f32⟩
  | 6 => ⟨S64, .f32⟩
  | 7 => ⟨S64, .f32⟩
  | 8 => ⟨S_, .f32⟩
  | 9 => ⟨S64, .f32⟩
  | 10 => ⟨S64, .f32⟩
  | 11 => ⟨S2048, .f32⟩
  | 12 => ⟨S2048x1, .f32⟩
  | 13 => ⟨S1x64, .f32⟩
  | 14 => ⟨S2048x64, .f32⟩
  | 15 => ⟨S2048x64, .f32⟩
  | 16 => ⟨S2048x64, .f32⟩
  | 17 => ⟨S2048x64, .f32⟩
  | 18 => ⟨S2048x64, .f32⟩
  | 19 => ⟨S2048x128, .f32⟩
  | 20 => ⟨S2048x64, .f32⟩
  | 21 => ⟨S2048x128, .f32⟩
  | 22 => ⟨S1x512, .f32⟩
  | 23 => ⟨S65536x512, .bf16⟩
  | _ => ⟨S65536x2048, .f32⟩

abbrev hbmTy (i : Nat) : BufTy := match i / 128 with
  | 0 => hbmTy0_0 i
  | 1 => hbmTy0_1 i
  | _ => ⟨S65536x2048, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S1x128x128, .f32⟩
  | .local _ .vmem, ⟨11, _⟩ => ⟨S1x128x128, .f32⟩
  | .local _ .vmem, ⟨12, _⟩ => ⟨S1x6x128x128, .f32⟩
  | .local _ .vmem, ⟨13, _⟩ => ⟨S1x6x128x128, .f32⟩
  | .local _ .vmem, ⟨14, _⟩ => ⟨S1x128, .f32⟩
  | .local _ .vmem, ⟨15, _⟩ => ⟨S1x128, .f32⟩
  | .local _ .vmem, ⟨16, _⟩ => ⟨S2048x128, .bf16⟩
  | .local _ .vmem, ⟨17, _⟩ => ⟨S2048x128, .bf16⟩
  | .local _ .vmem, ⟨18, _⟩ => ⟨S2048x128, .f32⟩
  | .local _ .vmem, ⟨19, _⟩ => ⟨S2048x128, .f32⟩
  | .local _ .vmem, ⟨20, _⟩ => ⟨S16x128x128, .f32⟩
  | _, _ => ⟨S65536x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_1 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v21 : Ref sig .tc := ⟨.hbm, 43, rfl⟩
abbrev main_cst_2 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_3 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_4 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_5 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_6 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_7 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_8 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_9 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_cst_10 : Ref sig .tc := ⟨.hbm, 133, rfl⟩
abbrev main_v100 : Ref sig .tc := ⟨.hbm, 134, rfl⟩
abbrev main_v101 : Ref sig .tc := ⟨.hbm, 135, rfl⟩
abbrev main_cst_11 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![32, 4], ![false, false]⟩

@[reducible] def k0_t1_loop : Scf.Loop 32 :=
  let c0_i32 : BitVec 32 := 0#32
  let c16_i32 : BitVec 32 := 16#32
  let v35 : BitVec 32 := Scalar.addi c0_i32 c16_i32
  let c1_i32 : BitVec 32 := 1#32
  ⟨c0_i32, v35, c1_i32⟩
def k0_mult1 (k0_t1 : Fin k0_t1_loop.trips) : BitVec 32 :=
  let c15_i32 : BitVec 32 := 15#32
  let c0_i32 : BitVec 32 := 0#32
  let c1_i32 : BitVec 32 := 1#32
  let arg15 : BitVec 32 := Scf.iv c0_i32 c1_i32 k0_t1
  let v40 : BitVec 32 := Scalar.subi c15_i32 arg15
  let c128_i32 : BitVec 32 := 128#32
  let v41 : BitVec 32 := Scalar.muli v40 c128_i32
  v41
def k0_off1 (k0_t1 : Fin k0_t1_loop.trips) : Fin 3 → Nat :=
  let c15_i32 : BitVec 32 := 15#32
  let c0_i32 : BitVec 32 := 0#32
  let c1_i32 : BitVec 32 := 1#32
  let arg15 : BitVec 32 := Scf.iv c0_i32 c1_i32 k0_t1
  let v40 : BitVec 32 := Scalar.subi c15_i32 arg15
  let v43 : Index := Scalar.indexCast v40
  let c0_38 : Index := 0#32
  let c0_39 : Index := 0#32
  ![v43.toNat, 0, 0]
def k0_off2 (k0_t1 : Fin k0_t1_loop.trips) : Fin 2 → Nat :=
  let c15_i32 : BitVec 32 := 15#32
  let c0_i32 : BitVec 32 := 0#32
  let c1_i32 : BitVec 32 := 1#32
  let arg15 : BitVec 32 := Scf.iv c0_i32 c1_i32 k0_t1
  let v40 : BitVec 32 := Scalar.subi c15_i32 arg15
  let c128_i32 : BitVec 32 := 128#32
  let v41 : BitVec 32 := Scalar.muli v40 c128_i32
  let v42 : BitVec 32 := v41
  let v47 : Index := Scalar.indexCast v42
  let c0_40 : Index := 0#32
  ![v47.toNat, 0]
@[reducible] def k0_t2_loop : Scf.Loop 32 :=
  let c0_i32_34 : BitVec 32 := 0#32
  let c16_i32_35 : BitVec 32 := 16#32
  let v38 : BitVec 32 := Scalar.addi c0_i32_34 c16_i32_35
  let c1_i32_36 : BitVec 32 := 1#32
  ⟨c0_i32_34, v38, c1_i32_36⟩
def k0_mult2 (k0_t2 : Fin k0_t2_loop.trips) : BitVec 32 :=
  let c0_i32_34 : BitVec 32 := 0#32
  let c1_i32_36 : BitVec 32 := 1#32
  let arg15 : BitVec 32 := Scf.iv c0_i32_34 c1_i32_36 k0_t2
  let c128_i32 : BitVec 32 := 128#32
  let v40 : BitVec 32 := Scalar.muli arg15 c128_i32
  v40
def k0_off3 (k0_t2 : Fin k0_t2_loop.trips) : Fin 2 → Nat :=
  let c0_i32_34 : BitVec 32 := 0#32
  let c1_i32_36 : BitVec 32 := 1#32
  let arg15 : BitVec 32 := Scf.iv c0_i32_34 c1_i32_36 k0_t2
  let c128_i32 : BitVec 32 := 128#32
  let v40 : BitVec 32 := Scalar.muli arg15 c128_i32
  let v41 : BitVec 32 := v40
  let v42 : Index := Scalar.indexCast v41
  let c0_38 : Index := 0#32
  ![v42.toNat, 0]
def k0_off4 (k0_t2 : Fin k0_t2_loop.trips) : Fin 3 → Nat :=
  let c0_i32_34 : BitVec 32 := 0#32
  let c1_i32_36 : BitVec 32 := 1#32
  let arg15 : BitVec 32 := Scf.iv c0_i32_34 c1_i32_36 k0_t2
  let v64 : Index := Scalar.indexCast arg15
  let c0_47 : Index := 0#32
  let c0_48 : Index := 0#32
  ![v64.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x6x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S65536x2048 : Shape := ⟨2, ![65536, 2048]⟩
abbrev S2x4 : Shape := ⟨2, ![2, 4]⟩
abbrev S512 : Shape := ⟨1, ![512]⟩
abbrev S65536x512 : Shape := ⟨2, ![65536, 512]⟩
abbrev S32x2048x4x128 : Shape := ⟨4, ![32, 2048, 4, 128]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S1x2048x1x64 : Shape := ⟨4, ![1, 2048, 1, 64]⟩
abbrev S32x2048x4x64 : Shape := ⟨4, ![32, 2048, 4, 64]⟩
abbrev S32x4x2048x128 : Shape := ⟨4, ![32, 4, 2048, 128]⟩
abbrev S1x4 : Shape := ⟨2, ![1, 4]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S4x1 : Shape := ⟨2, ![4, 1]⟩
abbrev S4x128 : Shape := ⟨2, ![4, 128]⟩
abbrev S1x4x128x1 : Shape := ⟨4, ![1, 4, 128, 1]⟩
abbrev S1x4x1x1 : Shape := ⟨4, ![1, 4, 1, 1]⟩
abbrev S32x4x128x128 : Shape := ⟨4, ![32, 4, 128, 128]⟩
abbrev S32x4x16x128x128 : Shape := ⟨5, ![32, 4, 16, 128, 128]⟩
abbrev S16x32x4x128x128 : Shape := ⟨5, ![16, 32, 4, 128, 128]⟩
abbrev S1x32x4x128x128 : Shape := ⟨5, ![1, 32, 4, 128, 128]⟩
abbrev S1x4x128x128 : Shape := ⟨4, ![1, 4, 128, 128]⟩
abbrev S32x2048x4 : Shape := ⟨3, ![32, 2048, 4]⟩
abbrev S32x2048x4x1 : Shape := ⟨4, ![32, 2048, 4, 1]⟩
abbrev S1x512 : Shape := ⟨2, ![1, 512]⟩

abbrev nBuf : Space → Nat
  | .hbm => 362
  | .vmem => 0
  | .smem => 0
  | _ => 0

abbrev hbmTy0_0 (i : Nat) : BufTy := match i % 128 with
  | 0 => ⟨S65536x2048, .f32⟩
  | 1 => ⟨S2x4, .f32⟩
  | 2 => ⟨S512, .f32⟩
  | 3 => ⟨S65536x512, .f32⟩
  | 4 => ⟨S32x2048x4x128, .f32⟩
  | 5 => ⟨S64, .f32⟩
  | 6 => ⟨S64, .f32⟩
  | 7 => ⟨S_, .f32⟩
  | 8 => ⟨S64, .f32⟩
  | 9 => ⟨S64, .f32⟩
  | 10 => ⟨S_, .f32⟩
  | 11 => ⟨S64, .f32⟩
  | 12 => ⟨S64, .f32⟩
  | 13 => ⟨S2048, .f32⟩
  | 14 => ⟨S2048x1, .f32⟩
  | 15 => ⟨S1x64, .f32⟩
  | 16 => ⟨S2048x64, .f32⟩
  | 17 => ⟨S2048x64, .f32⟩
  | 18 => ⟨S2048x64, .f32⟩
  | 19 => ⟨S2048x64, .f32⟩
  | 20 => ⟨S1x2048x1x64, .f32⟩
  | 21 => ⟨S2048x64, .f32⟩
  | 22 => ⟨S1x2048x1x64, .f32⟩
  | 23 => ⟨S32x2048x4x64, .f32⟩
  | 24 => ⟨S32x2048x4x64, .f32⟩
  | 25 => ⟨S32x2048x4x64, .f32⟩
  | 26 => ⟨S32x2048x4x64, .f32⟩
  | 27 => ⟨S32x2048x4x64, .f32⟩
  | 28 => ⟨S32x2048x4x64, .f32⟩
  | 29 => ⟨S32x2048x4x64, .f32⟩
  | 30 => ⟨S32x2048x4x64, .f32⟩
  | 31 => ⟨S32x2048x4x64, .f32⟩
  | 32 => ⟨S32x2048x4x64, .f32⟩
  | 33 => ⟨S32x2048x4x64, .f32⟩
  | 34 => ⟨S32x2048x4x64, .f32⟩
  | 35 => ⟨S32x2048x4x128, .f32⟩
  | 36 => ⟨S32x4x2048x128, .f32⟩
  | 37 => ⟨S65536x512, .f32⟩
  | 38 => ⟨S32x2048x4x128, .f32⟩
  | 39 => ⟨S64, .f32⟩
  | 40 => ⟨S64, .f32⟩
  | 41 => ⟨S_, .f32⟩
  | 42 => ⟨S64, .f32⟩
  | 43 => ⟨S64, .f32⟩
  | 44 => ⟨S_, .f32⟩
  | 45 => ⟨S64, .f32⟩
  | 46 => ⟨S64, .f32⟩
  | 47 => ⟨S2048, .f32⟩
  | 48 => ⟨S2048x1, .f32⟩
  | 49 => ⟨S1x64, .f32⟩
  | 50 => ⟨S2048x64, .f32⟩
  | 51 => ⟨S2048x64, .f32⟩
  | 52 => ⟨S2048x64, .f32⟩
  | 53 => ⟨S2048x64, .f32⟩
  | 54 => ⟨S1x2048x1x64, .f32⟩
  | 55 => ⟨S2048x64, .f32⟩
  | 56 => ⟨S1x2048x1x64, .f32⟩
  | 57 => ⟨S32x2048x4x64, .f32⟩
  | 58 => ⟨S32x2048x4x64, .f32⟩
  | 59 => ⟨S32x2048x4x64, .f32⟩
  | 60 => ⟨S32x2048x4x64, .f32⟩
  | 61 => ⟨S32x2048x4x64, .f32⟩
  | 62 => ⟨S32x2048x4x64, .f32⟩
  | 63 => ⟨S32x2048x4x64, .f32⟩
  | 64 => ⟨S32x2048x4x64, .f32⟩
  | 65 => ⟨S32x2048x4x64, .f32⟩
  | 66 => ⟨S32x2048x4x64, .f32⟩
  | 67 => ⟨S32x2048x4x64, .f32⟩
  | 68 => ⟨S32x2048x4x64, .f32⟩
  | 69 => ⟨S32x2048x4x128, .f32⟩
  | 70 => ⟨S_, .f32⟩
  | 71 => ⟨S32x2048x4x128, .f32⟩
  | 72 => ⟨S32x2048x4x128, .f32⟩
  | 73 => ⟨S32x4x2048x128, .f32⟩
  | 74 => ⟨S65536x512, .f32⟩
  | 75 => ⟨S32x2048x4x128, .f32⟩
  | 76 => ⟨S32x4x2048x128, .f32⟩
  | 77 => ⟨S2x4, .f32⟩
  | 78 => ⟨S_, .f32⟩
  | 79 => ⟨S2x4, .f32⟩
  | 80 => ⟨S2x4, .f32⟩
  | 81 => ⟨S2x4, .f32⟩
  | 82 => ⟨S2x4, .f32⟩
  | 83 => ⟨S2x4, .i1⟩
  | 84 => ⟨S2x4, .f32⟩
  | 85 => ⟨S2x4, .f32⟩
  | 86 => ⟨S2x4, .f32⟩
  | 87 => ⟨S2x4, .f32⟩
  | 88 => ⟨S2x4, .f32⟩
  | 89 => ⟨S2x4, .f32⟩
  | 90 => ⟨S2x4, .f32⟩
  | 91 => ⟨S2x4, .f32⟩
  | 92 => ⟨S2x4, .f32⟩
  | 93 => ⟨S1x4, .f32⟩
  | 94 => ⟨S4, .f32⟩
  | 95 => ⟨S128, .f32⟩
  | 96 => ⟨S128x1, .f32⟩
  | 97 => ⟨S1x128, .f32⟩
  | 98 => ⟨S128x128, .f32⟩
  | 99 => ⟨S128x128, .f32⟩
  | 100 => ⟨S128x128, .f32⟩
  | 101 => ⟨S_, .f32⟩
  | 102 => ⟨S128x128, .f32⟩
  | 103 => ⟨S128x128, .i1⟩
  | 104 => ⟨S1x128x128, .i1⟩
  | 105 => ⟨S4x1x1, .f32⟩
  | 106 => ⟨S_, .f32⟩
  | 107 => ⟨S128x128, .f32⟩
  | 108 => ⟨S128x128, .f32⟩
  | 109 => ⟨S1x128x128, .f32⟩
  | 110 => ⟨S4x128x128, .f32⟩
  | 111 => ⟨S4x128x128, .f32⟩
  | 112 => ⟨S4x128x128, .f32⟩
  | 113 => ⟨S4x128x128, .f32⟩
  | 114 => ⟨S_, .f32⟩
  | 115 => ⟨S_, .f32⟩
  | 116 => ⟨S4x128x128, .i1⟩
  | 117 => ⟨S4x128x128, .f32⟩
  | 118 => ⟨S4x128x128, .f32⟩
  | 119 => ⟨S4x1, .f32⟩
  | 120 => ⟨S_, .f32⟩
  | 121 => ⟨S128, .f32⟩
  | 122 => ⟨S128, .f32⟩
  | 123 => ⟨S1x128, .f32⟩
  | 124 => ⟨S4x128, .f32⟩
  | 125 => ⟨S4x128, .f32⟩
  | 126 => ⟨S4x128, .f32⟩
  | 127 => ⟨S4x128, .f32⟩
  | _ => ⟨S65536x2048, .f32⟩

abbrev hbmTy0_1 (i : Nat) : BufTy := match i % 128 with
  | 0 => ⟨S1x4x128x1, .f32⟩
  | 1 => ⟨S4x1, .f32⟩
  | 2 => ⟨S_, .f32⟩
  | 3 => ⟨S128, .f32⟩
  | 4 => ⟨S128, .f32⟩
  | 5 => ⟨S1x128, .f32⟩
  | 6 => ⟨S4x128, .f32⟩
  | 7 => ⟨S4x128, .f32⟩
  | 8 => ⟨S4x128, .f32⟩
  | 9 => ⟨S4x128, .f32⟩
  | 10 => ⟨S1x4x128x1, .f32⟩
  | 11 => ⟨S_, .f32⟩
  | 12 => ⟨S4, .f32⟩
  | 13 => ⟨S4, .f32⟩
  | 14 => ⟨S4, .f32⟩
  | 15 => ⟨S1x4x1x1, .f32⟩
  | 16 => ⟨S1x4, .f32⟩
  | 17 => ⟨S4, .f32⟩
  | 18 => ⟨S128, .f32⟩
  | 19 => ⟨S128x1, .f32⟩
  | 20 => ⟨S1x128, .f32⟩
  | 21 => ⟨S128x128, .f32⟩
  | 22 => ⟨S128x128, .f32⟩
  | 23 => ⟨S128x128, .f32⟩
  | 24 => ⟨S_, .f32⟩
  | 25 => ⟨S128x128, .f32⟩
  | 26 => ⟨S128x128, .i1⟩
  | 27 => ⟨S1x128x128, .i1⟩
  | 28 => ⟨S4x1x1, .f32⟩
  | 29 => ⟨S_, .f32⟩
  | 30 => ⟨S128x128, .f32⟩
  | 31 => ⟨S128x128, .f32⟩
  | 32 => ⟨S1x128x128, .f32⟩
  | 33 => ⟨S4x128x128, .f32⟩
  | 34 => ⟨S4x128x128, .f32⟩
  | 35 => ⟨S4x128x128, .f32⟩
  | 36 => ⟨S4x128x128, .f32⟩
  | 37 => ⟨S_, .f32⟩
  | 38 => ⟨S_, .f32⟩
  | 39 => ⟨S4x128x128, .i1⟩
  | 40 => ⟨S4x128x128, .f32⟩
  | 41 => ⟨S4x128x128, .f32⟩
  | 42 => ⟨S4x1, .f32⟩
  | 43 => ⟨S_, .f32⟩
  | 44 => ⟨S128, .f32⟩
  | 45 => ⟨S128, .f32⟩
  | 46 => ⟨S1x128, .f32⟩
  | 47 => ⟨S4x128, .f32⟩
  | 48 => ⟨S4x128, .f32⟩
  | 49 => ⟨S4x128, .f32⟩
  | 50 => ⟨S4x128, .f32⟩
  | 51 => ⟨S1x4x128x1, .f32⟩
  | 52 => ⟨S4x1, .f32⟩
  | 53 => ⟨S_, .f32⟩
  | 54 => ⟨S128, .f32⟩
  | 55 => ⟨S128, .f32⟩
  | 56 => ⟨S1x128, .f32⟩
  | 57 => ⟨S4x128, .f32⟩
  | 58 => ⟨S4x128, .f32⟩
  | 59 => ⟨S4x128, .f32⟩
  | 60 => ⟨S4x128, .f32⟩
  | 61 => ⟨S1x4x128x1, .f32⟩
  | 62 => ⟨S_, .f32⟩
  | 63 => ⟨S4, .f32⟩
  | 64 => ⟨S4, .f32⟩
  | 65 => ⟨S4, .f32⟩
  | 66 => ⟨S1x4x1x1, .f32⟩
  | 67 => ⟨S_, .f32⟩
  | 68 => ⟨S32x4x128x128, .f32⟩
  | 69 => ⟨S32x4x16x128x128, .f32⟩
  | 70 => ⟨S16x32x4x128x128, .f32⟩
  | 71 => ⟨S32x4x16x128x128, .f32⟩
  | 72 => ⟨S16x32x4x128x128, .f32⟩
  | 73 => ⟨S32x4x16x128x128, .f32⟩
  | 74 => ⟨S16x32x4x128x128, .f32⟩
  | 75 => ⟨S32x4x2048x128, .f32⟩
  | 76 => ⟨S32x4x16x128x128, .f32⟩
  | 77 => ⟨S16x32x4x128x128, .f32⟩
  | 78 => ⟨S32x4x2048x128, .f32⟩
  | 79 => ⟨S32x4x16x128x128, .f32⟩
  | 80 => ⟨S16x32x4x128x128, .f32⟩
  | 81 => ⟨S32x4x2048x128, .f32⟩
  | 82 => ⟨S32x4x16x128x128, .f32⟩
  | 83 => ⟨S16x32x4x128x128, .f32⟩
  | 84 => ⟨S_, .f32⟩
  | 85 => ⟨S16x32x4x128x128, .f32⟩
  | 86 => ⟨S_, .f32⟩
  | 87 => ⟨S16x32x4x128x128, .f32⟩
  | 88 => ⟨S_, .i32⟩
  | 89 => ⟨S16x32x4x128x128, .f32⟩
  | 90 => ⟨S16x32x4x128x128, .f32⟩
  | 91 => ⟨S16x32x4x128x128, .f32⟩
  | 92 => ⟨S16x32x4x128x128, .f32⟩
  | 93 => ⟨S16x32x4x128x128, .f32⟩
  | 94 => ⟨S16x32x4x128x128, .f32⟩
  | 95 => ⟨S4x128x128, .f32⟩
  | 96 => ⟨S1x4x128x1, .f32⟩
  | 97 => ⟨S1x4x128x1, .f32⟩
  | 98 => ⟨S1x4x1x1, .f32⟩
  | 99 => ⟨S4x128x128, .f32⟩
  | 100 => ⟨S1x4x128x1, .f32⟩
  | 101 => ⟨S1x4x128x1, .f32⟩
  | 102 => ⟨S1x4x1x1, .f32⟩
  | 103 => ⟨S_, .i32⟩
  | 104 => ⟨S32x4x128x128, .f32⟩
  | 105 => ⟨S32x4x128x128, .f32⟩
  | 106 => ⟨S16x32x4x128x128, .f32⟩
  | 107 => ⟨S16x32x4x128x128, .f32⟩
  | 108 => ⟨S_, .i32⟩
  | 109 => ⟨S_, .i1⟩
  | 110 => ⟨S_, .i32⟩
  | 111 => ⟨S_, .i32⟩
  | 112 => ⟨S_, .i32⟩
  | 113 => ⟨S_, .i32⟩
  | 114 => ⟨S1x32x4x128x128, .f32⟩
  | 115 => ⟨S32x4x128x128, .f32⟩
  | 116 => ⟨S_, .i32⟩
  | 117 => ⟨S_, .i32⟩
  | 118 => ⟨S_, .i32⟩
  | 119 => ⟨S_, .i32⟩
  | 120 => ⟨S1x32x4x128x128, .f32⟩
  | 121 => ⟨S32x4x128x128, .f32⟩
  | 122 => ⟨S_, .i32⟩
  | 123 => ⟨S_, .i32⟩
  | 124 => ⟨S_, .i32⟩
  | 125 => ⟨S_, .i32⟩
  | 126 => ⟨S1x32x4x128x128, .f32⟩
  | 127 => ⟨S32x4x128x128, .f32⟩
  | _ => ⟨S65536x2048, .f32⟩

abbrev hbmTy0_2 (i : Nat) : BufTy := match i % 128 with
  | 0 => ⟨S_, .i32⟩
  | 1 => ⟨S_, .i32⟩
  | 2 => ⟨S_, .i32⟩
  | 3 => ⟨S_, .i32⟩
  | 4 => ⟨S1x32x4x128x128, .f32⟩
  | 5 => ⟨S32x4x128x128, .f32⟩
  | 6 => ⟨S_, .i32⟩
  | 7 => ⟨S_, .i32⟩
  | 8 => ⟨S_, .i32⟩
  | 9 => ⟨S_, .i32⟩
  | 10 => ⟨S1x32x4x128x128, .f32⟩
  | 11 => ⟨S32x4x128x128, .f32⟩
  | 12 => ⟨S_, .i32⟩
  | 13 => ⟨S_, .i32⟩
  | 14 => ⟨S_, .i32⟩
  | 15 => ⟨S_, .i32⟩
  | 16 => ⟨S1x32x4x128x128, .f32⟩
  | 17 => ⟨S32x4x128x128, .f32⟩
  | 18 => ⟨S32x4x128x128, .f32⟩
  | 19 => ⟨S1x4x128x128, .f32⟩
  | 20 => ⟨S32x4x128x128, .f32⟩
  | 21 => ⟨S32x4x128x128, .f32⟩
  | 22 => ⟨S32x4x128x128, .f32⟩
  | 23 => ⟨S32x4x128x128, .f32⟩
  | 24 => ⟨S32x4x128x128, .f32⟩
  | 25 => ⟨S32x4x128x128, .f32⟩
  | 26 => ⟨S32x4x128x128, .f32⟩
  | 27 => ⟨S32x4x128x128, .f32⟩
  | 28 => ⟨S32x4x128x128, .f32⟩
  | 29 => ⟨S32x4x128x128, .f32⟩
  | 30 => ⟨S32x4x128x128, .f32⟩
  | 31 => ⟨S32x4x128x128, .f32⟩
  | 32 => ⟨S32x4x128x128, .f32⟩
  | 33 => ⟨S32x4x128x128, .f32⟩
  | 34 => ⟨S1x4x128x128, .f32⟩
  | 35 => ⟨S32x4x128x128, .f32⟩
  | 36 => ⟨S32x4x128x128, .f32⟩
  | 37 => ⟨S32x4x128x128, .f32⟩
  | 38 => ⟨S32x4x128x128, .f32⟩
  | 39 => ⟨S32x4x128x128, .f32⟩
  | 40 => ⟨S32x4x128x128, .f32⟩
  | 41 => ⟨S32x4x128x128, .f32⟩
  | 42 => ⟨S32x4x128x128, .f32⟩
  | 43 => ⟨S32x4x128x128, .f32⟩
  | 44 => ⟨S32x4x128x128, .f32⟩
  | 45 => ⟨S32x4x128x128, .f32⟩
  | 46 => ⟨S32x4x128x128, .f32⟩
  | 47 => ⟨S32x4x128x128, .f32⟩
  | 48 => ⟨S1x32x4x128x128, .f32⟩
  | 49 => ⟨S_, .i32⟩
  | 50 => ⟨S_, .i32⟩
  | 51 => ⟨S_, .i32⟩
  | 52 => ⟨S_, .i32⟩
  | 53 => ⟨S16x32x4x128x128, .f32⟩
  | 54 => ⟨S1x32x4x128x128, .f32⟩
  | 55 => ⟨S_, .i32⟩
  | 56 => ⟨S_, .i32⟩
  | 57 => ⟨S_, .i32⟩
  | 58 => ⟨S_, .i32⟩
  | 59 => ⟨S16x32x4x128x128, .f32⟩
  | 60 => ⟨S_, .i32⟩
  | 61 => ⟨S_, .i32⟩
  | 62 => ⟨S32x4x16x128x128, .f32⟩
  | 63 => ⟨S32x4x2048x128, .f32⟩
  | 64 => ⟨S32x4x16x128x128, .f32⟩
  | 65 => ⟨S32x4x2048x128, .f32⟩
  | 66 => ⟨S32x4x2048x128, .f32⟩
  | 67 => ⟨S32x4x2048x128, .f32⟩
  | 68 => ⟨S32x2048x4x128, .f32⟩
  | 69 => ⟨S_, .f32⟩
  | 70 => ⟨S32x2048x4, .f32⟩
  | 71 => ⟨S32x2048x4x1, .f32⟩
  | 72 => ⟨S_, .f32⟩
  | 73 => ⟨S32x2048x4x1, .f32⟩
  | 74 => ⟨S32x2048x4x1, .f32⟩
  | 75 => ⟨S32x2048x4x128, .f32⟩
  | 76 => ⟨S32x2048x4x128, .f32⟩
  | 77 => ⟨S32x2048x4x128, .f32⟩
  | 78 => ⟨S_, .f32⟩
  | 79 => ⟨S32x2048x4, .f32⟩
  | 80 => ⟨S32x2048x4x1, .f32⟩
  | 81 => ⟨S_, .f32⟩
  | 82 => ⟨S32x2048x4x1, .f32⟩
  | 83 => ⟨S32x2048x4x1, .f32⟩
  | 84 => ⟨S_, .f32⟩
  | 85 => ⟨S32x2048x4x1, .f32⟩
  | 86 => ⟨S32x2048x4x1, .f32⟩
  | 87 => ⟨S32x2048x4x1, .f32⟩
  | 88 => ⟨S32x2048x4x128, .f32⟩
  | 89 => ⟨S32x2048x4x128, .f32⟩
  | 90 => ⟨S65536x512, .f32⟩
  | 91 => ⟨S65536x512, .f32⟩
  | 92 => ⟨S1x512, .f32⟩
  | 93 => ⟨S65536x512, .f32⟩
  | 94 => ⟨S65536x512, .f32⟩
  | 95 => ⟨S65536x512, .f32⟩
  | 96 => ⟨S65536x512, .f32⟩
  | 97 => ⟨S_, .f32⟩
  | 98 => ⟨S65536x512, .f32⟩
  | 99 => ⟨S65536x512, .f32⟩
  | 100 => ⟨S_, .f32⟩
  | 101 => ⟨S65536x512, .f32⟩
  | 102 => ⟨S65536x512, .f32⟩
  | 103 => ⟨S65536x512, .f32⟩
  | 104 => ⟨S65536x512, .f32⟩
  | 105 => ⟨S65536x512, .bf16⟩
  | _ => ⟨S65536x2048, .f32⟩

abbrev hbmTy (i : Nat) : BufTy := match i / 128 with
  | 0 => hbmTy0_0 i
  | 1 => hbmTy0_1 i
  | 2 => hbmTy0_2 i
  | _ => ⟨S65536x2048, .f32⟩

abbrev bufTy : (tb : Table) → Fin (tcTables nBuf tb) → BufTy
  | .hbm, ⟨i, _⟩ => hbmTy i
  | _, _ => ⟨S65536x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_cst_1 : Ref sig .tc := ⟨.hbm, 41, rfl⟩
abbrev main_v36 : Ref sig .tc := ⟨.hbm, 42, rfl⟩
abbrev main_v37 : Ref sig .tc := ⟨.hbm, 43, rfl⟩
abbrev main_cst_2 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_cst_3 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_call0_cst : Ref sig .tc := ⟨.hbm, 78, rfl⟩
abbrev main_call0_v0 : Ref sig .tc := ⟨.hbm, 79, rfl⟩
abbrev main_call0_v1 : Ref sig .tc := ⟨.hbm, 80, rfl⟩
abbrev main_call0_v2 : Ref sig .tc := ⟨.hbm, 81, rfl⟩
abbrev main_call0_v3 : Ref sig .tc := ⟨.hbm, 82, rfl⟩
abbrev main_call0_v4 : Ref sig .tc := ⟨.hbm, 83, rfl⟩
abbrev main_call0_v5 : Ref sig .tc := ⟨.hbm, 84, rfl⟩
abbrev main_call0_v6 : Ref sig .tc := ⟨.hbm, 85, rfl⟩
abbrev main_call0_v7 : Ref sig .tc := ⟨.hbm, 86, rfl⟩
abbrev main_call0_v8 : Ref sig .tc := ⟨.hbm, 87, rfl⟩
abbrev main_call0_v9 : Ref sig .tc := ⟨.hbm, 88, rfl⟩
abbrev main_call0_v10 : Ref sig .tc := ⟨.hbm, 89, rfl⟩
abbrev main_call0_v11 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_cst_4 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_cst_5 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_cst_6 : Ref sig .tc := ⟨.hbm, 114, rfl⟩
abbrev main_call1_v0 : Ref sig .tc := ⟨.hbm, 115, rfl⟩
abbrev main_call1_v1 : Ref sig .tc := ⟨.hbm, 116, rfl⟩
abbrev main_call1_v2 : Ref sig .tc := ⟨.hbm, 117, rfl⟩
abbrev main_v91 : Ref sig .tc := ⟨.hbm, 118, rfl⟩
abbrev main_v92 : Ref sig .tc := ⟨.hbm, 119, rfl⟩
abbrev main_cst_7 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_cst_8 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_cst_9 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_cst_10 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_cst_11 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_cst_12 : Ref sig .tc := ⟨.hbm, 165, rfl⟩
abbrev main_call2_v0 : Ref sig .tc := ⟨.hbm, 166, rfl⟩
abbrev main_call2_v1 : Ref sig .tc := ⟨.hbm, 167, rfl⟩
abbrev main_call2_v2 : Ref sig .tc := ⟨.hbm, 168, rfl⟩
abbrev main_v133 : Ref sig .tc := ⟨.hbm, 169, rfl⟩
abbrev main_v134 : Ref sig .tc := ⟨.hbm, 170, rfl⟩
abbrev main_cst_13 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_cst_14 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_cst_15 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_cst_16 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_cst_17 : Ref sig .tc := ⟨.hbm, 212, rfl⟩
abbrev main_v172 : Ref sig .tc := ⟨.hbm, 213, rfl⟩
abbrev main_cst_18 : Ref sig .tc := ⟨.hbm, 214, rfl⟩
abbrev main_v173 : Ref sig .tc := ⟨.hbm, 215, rfl⟩
abbrev main_c : Ref sig .tc := ⟨.hbm, 216, rfl⟩
abbrev main_v174_0 : Ref sig .tc := ⟨.hbm, 217, rfl⟩
abbrev main_v174_1 : Ref sig .tc := ⟨.hbm, 218, rfl⟩
abbrev main_v174_2 : Ref sig .tc := ⟨.hbm, 219, rfl⟩
abbrev main_v174_3 : Ref sig .tc := ⟨.hbm, 220, rfl⟩
abbrev main_v174_4 : Ref sig .tc := ⟨.hbm, 221, rfl⟩
abbrev main_v174_5 : Ref sig .tc := ⟨.hbm, 222, rfl⟩
abbrev main_v174_6 : Ref sig .tc := ⟨.hbm, 223, rfl⟩
abbrev main_v174_7 : Ref sig .tc := ⟨.hbm, 224, rfl⟩
abbrev main_v174_8 : Ref sig .tc := ⟨.hbm, 225, rfl⟩
abbrev main_v174_9 : Ref sig .tc := ⟨.hbm, 226, rfl⟩
abbrev main_v174_10 : Ref sig .tc := ⟨.hbm, 227, rfl⟩
abbrev main_v174_11 : Ref sig .tc := ⟨.hbm, 228, rfl⟩
abbrev main_v174_12 : Ref sig .tc := ⟨.hbm, 229, rfl⟩
abbrev main_v174_13 : Ref sig .tc := ⟨.hbm, 230, rfl⟩
abbrev main_v174_14 : Ref sig .tc := ⟨.hbm, 231, rfl⟩
abbrev main_v174_15 : Ref sig .tc := ⟨.hbm, 232, rfl⟩
abbrev main_v174_16 : Ref sig .tc := ⟨.hbm, 233, rfl⟩
abbrev main_v174_17 : Ref sig .tc := ⟨.hbm, 234, rfl⟩
abbrev main_v174_18 : Ref sig .tc := ⟨.hbm, 235, rfl⟩
abbrev main_while0c_c_42 : Ref sig .tc := ⟨.hbm, 236, rfl⟩
abbrev main_while0c_v206 : Ref sig .tc := ⟨.hbm, 237, rfl⟩
abbrev main_while0b_call6_c : Ref sig .tc := ⟨.hbm, 238, rfl⟩
abbrev main_while0b_call6_c_0 : Ref sig .tc := ⟨.hbm, 239, rfl⟩
abbrev main_while0b_call6_c_1 : Ref sig .tc := ⟨.hbm, 240, rfl⟩
abbrev main_while0b_call6_c_2 : Ref sig .tc := ⟨.hbm, 241, rfl⟩
abbrev main_while0b_call6_v0 : Ref sig .tc := ⟨.hbm, 242, rfl⟩
abbrev main_while0b_v206 : Ref sig .tc := ⟨.hbm, 243, rfl⟩
abbrev main_while0b_call7_c : Ref sig .tc := ⟨.hbm, 244, rfl⟩
abbrev main_while0b_call7_c_0 : Ref sig .tc := ⟨.hbm, 245, rfl⟩
abbrev main_while0b_call7_c_1 : Ref sig .tc := ⟨.hbm, 246, rfl⟩
abbrev main_while0b_call7_c_2 : Ref sig .tc := ⟨.hbm, 247, rfl⟩
abbrev main_while0b_call7_v0 : Ref sig .tc := ⟨.hbm, 248, rfl⟩
abbrev main_while0b_v207 : Ref sig .tc := ⟨.hbm, 249, rfl⟩
abbrev main_while0b_call8_c : Ref sig .tc := ⟨.hbm, 250, rfl⟩
abbrev main_while0b_call8_c_0 : Ref sig .tc := ⟨.hbm, 251, rfl⟩
abbrev main_while0b_call8_c_1 : Ref sig .tc := ⟨.hbm, 252, rfl⟩
abbrev main_while0b_call8_c_2 : Ref sig .tc := ⟨.hbm, 253, rfl⟩
abbrev main_while0b_call8_v0 : Ref sig .tc := ⟨.hbm, 254, rfl⟩
abbrev main_while0b_v208 : Ref sig .tc := ⟨.hbm, 255, rfl⟩
abbrev main_while0b_call9_c : Ref sig .tc := ⟨.hbm, 256, rfl⟩
abbrev main_while0b_call9_c_0 : Ref sig .tc := ⟨.hbm, 257, rfl⟩
abbrev main_while0b_call9_c_1 : Ref sig .tc := ⟨.hbm, 258, rfl⟩
abbrev main_while0b_call9_c_2 : Ref sig .tc := ⟨.hbm, 259, rfl⟩
abbrev main_while0b_call9_v0 : Ref sig .tc := ⟨.hbm, 260, rfl⟩
abbrev main_while0b_v209 : Ref sig .tc := ⟨.hbm, 261, rfl⟩
abbrev main_while0b_call10_c : Ref sig .tc := ⟨.hbm, 262, rfl⟩
abbrev main_while0b_call10_c_0 : Ref sig .tc := ⟨.hbm, 263, rfl⟩
abbrev main_while0b_call10_c_1 : Ref sig .tc := ⟨.hbm, 264, rfl⟩
abbrev main_while0b_call10_c_2 : Ref sig .tc := ⟨.hbm, 265, rfl⟩
abbrev main_while0b_call10_v0 : Ref sig .tc := ⟨.hbm, 266, rfl⟩
abbrev main_while0b_v210 : Ref sig .tc := ⟨.hbm, 267, rfl⟩
abbrev main_while0b_call11_c : Ref sig .tc := ⟨.hbm, 268, rfl⟩
abbrev main_while0b_call11_c_0 : Ref sig .tc := ⟨.hbm, 269, rfl⟩
abbrev main_while0b_call11_c_1 : Ref sig .tc := ⟨.hbm, 270, rfl⟩
abbrev main_while0b_call11_c_2 : Ref sig .tc := ⟨.hbm, 271, rfl⟩
abbrev main_while0b_call11_v0 : Ref sig .tc := ⟨.hbm, 272, rfl⟩
abbrev main_while0b_v211 : Ref sig .tc := ⟨.hbm, 273, rfl⟩
abbrev main_while0b_v212 : Ref sig .tc := ⟨.hbm, 274, rfl⟩
abbrev main_while0b_v213 : Ref sig .tc := ⟨.hbm, 275, rfl⟩
abbrev main_while0b_v214 : Ref sig .tc := ⟨.hbm, 276, rfl⟩
abbrev main_while0b_v215 : Ref sig .tc := ⟨.hbm, 277, rfl⟩
abbrev main_while0b_v216 : Ref sig .tc := ⟨.hbm, 278, rfl⟩
abbrev main_while0b_v217 : Ref sig .tc := ⟨.hbm, 279, rfl⟩
abbrev main_while0b_v218 : Ref sig .tc := ⟨.hbm, 280, rfl⟩
abbrev main_while0b_v219 : Ref sig .tc := ⟨.hbm, 281, rfl⟩
abbrev main_while0b_v220 : Ref sig .tc := ⟨.hbm, 282, rfl⟩
abbrev main_while0b_v221 : Ref sig .tc := ⟨.hbm, 283, rfl⟩
abbrev main_while0b_v222 : Ref sig .tc := ⟨.hbm, 284, rfl⟩
abbrev main_while0b_v223 : Ref sig .tc := ⟨.hbm, 285, rfl⟩
abbrev main_while0b_v224 : Ref sig .tc := ⟨.hbm, 286, rfl⟩
abbrev main_while0b_v225 : Ref sig .tc := ⟨.hbm, 287, rfl⟩
abbrev main_while0b_v226 : Ref sig .tc := ⟨.hbm, 288, rfl⟩
abbrev main_while0b_v227 : Ref sig .tc := ⟨.hbm, 289, rfl⟩
abbrev main_while0b_v228 : Ref sig .tc := ⟨.hbm, 290, rfl⟩
abbrev main_while0b_v229 : Ref sig .tc := ⟨.hbm, 291, rfl⟩
abbrev main_while0b_v230 : Ref sig .tc := ⟨.hbm, 292, rfl⟩
abbrev main_while0b_v231 : Ref sig .tc := ⟨.hbm, 293, rfl⟩
abbrev main_while0b_v232 : Ref sig .tc := ⟨.hbm, 294, rfl⟩
abbrev main_while0b_v233 : Ref sig .tc := ⟨.hbm, 295, rfl⟩
abbrev main_while0b_v234 : Ref sig .tc := ⟨.hbm, 296, rfl⟩
abbrev main_while0b_v235 : Ref sig .tc := ⟨.hbm, 297, rfl⟩
abbrev main_while0b_v236 : Ref sig .tc := ⟨.hbm, 298, rfl⟩
abbrev main_while0b_v237 : Ref sig .tc := ⟨.hbm, 299, rfl⟩
abbrev main_while0b_v238 : Ref sig .tc := ⟨.hbm, 300, rfl⟩
abbrev main_while0b_v239 : Ref sig .tc := ⟨.hbm, 301, rfl⟩
abbrev main_while0b_v240 : Ref sig .tc := ⟨.hbm, 302, rfl⟩
abbrev main_while0b_v241 : Ref sig .tc := ⟨.hbm, 303, rfl⟩
abbrev main_while0b_call12_v0 : Ref sig .tc := ⟨.hbm, 304, rfl⟩
abbrev main_while0b_call12_c : Ref sig .tc := ⟨.hbm, 305, rfl⟩
abbrev main_while0b_call12_c_0 : Ref sig .tc := ⟨.hbm, 306, rfl⟩
abbrev main_while0b_call12_c_1 : Ref sig .tc := ⟨.hbm, 307, rfl⟩
abbrev main_while0b_call12_c_2 : Ref sig .tc := ⟨.hbm, 308, rfl⟩
abbrev main_while0b_v242 : Ref sig .tc := ⟨.hbm, 309, rfl⟩
abbrev main_while0b_call13_v0 : Ref sig .tc := ⟨.hbm, 310, rfl⟩
abbrev main_while0b_call13_c : Ref sig .tc := ⟨.hbm, 311, rfl⟩
abbrev main_while0b_call13_c_0 : Ref sig .tc := ⟨.hbm, 312, rfl⟩
abbrev main_while0b_call13_c_1 : Ref sig .tc := ⟨.hbm, 313, rfl⟩
abbrev main_while0b_call13_c_2 : Ref sig .tc := ⟨.hbm, 314, rfl⟩
abbrev main_while0b_v243 : Ref sig .tc := ⟨.hbm, 315, rfl⟩
abbrev main_while0b_c_42 : Ref sig .tc := ⟨.hbm, 316, rfl⟩
abbrev main_while0b_v244 : Ref sig .tc := ⟨.hbm, 317, rfl⟩
abbrev main_v175 : Ref sig .tc := ⟨.hbm, 318, rfl⟩
abbrev main_v176 : Ref sig .tc := ⟨.hbm, 319, rfl⟩
abbrev main_v177 : Ref sig .tc := ⟨.hbm, 320, rfl⟩
abbrev main_v178 : Ref sig .tc := ⟨.hbm, 321, rfl⟩
abbrev main_v179 : Ref sig .tc := ⟨.hbm, 322, rfl⟩
abbrev main_v180 : Ref sig .tc := ⟨.hbm, 323, rfl⟩
abbrev main_v181 : Ref sig .tc := ⟨.hbm, 324, rfl⟩
abbrev main_cst_19 : Ref sig .tc := ⟨.hbm, 325, rfl⟩
abbrev main_v182 : Ref sig .tc := ⟨.hbm, 326, rfl⟩
abbrev main_v183 : Ref sig .tc := ⟨.hbm, 327, rfl⟩
abbrev main_cst_20 : Ref sig .tc := ⟨.hbm, 328, rfl⟩
abbrev main_v184 : Ref sig .tc := ⟨.hbm, 329, rfl⟩
abbrev main_v185 : Ref sig .tc := ⟨.hbm, 330, rfl⟩
abbrev main_v186 : Ref sig .tc := ⟨.hbm, 331, rfl⟩
abbrev main_v187 : Ref sig .tc := ⟨.hbm, 332, rfl⟩
abbrev main_v188 : Ref sig .tc := ⟨.hbm, 333, rfl⟩
abbrev main_cst_21 : Ref sig .tc := ⟨.hbm, 334, rfl⟩
abbrev main_v189 : Ref sig .tc := ⟨.hbm, 335, rfl⟩
abbrev main_v190 : Ref sig .tc := ⟨.hbm, 336, rfl⟩
abbrev main_cst_22 : Ref sig .tc := ⟨.hbm, 337, rfl⟩
abbrev main_v191 : Ref sig .tc := ⟨.hbm, 338, rfl⟩
abbrev main_v192 : Ref sig .tc := ⟨.hbm, 339, rfl⟩
abbrev main_cst_23 : Ref sig .tc := ⟨.hbm, 340, rfl⟩
abbrev main_v193 : Ref sig .tc := ⟨.hbm, 341, rfl⟩
abbrev main_v194 : Ref sig .tc := ⟨.hbm, 342, rfl⟩
abbrev main_v195 : Ref sig .tc := ⟨.hbm, 343, rfl⟩
abbrev main_v196 : Ref sig .tc := ⟨.hbm, 344, rfl⟩
abbrev main_v197 : Ref sig .tc := ⟨.hbm, 345, rfl⟩
abbrev main_v198 : Ref sig .tc := ⟨.hbm, 346, rfl⟩
abbrev main_v199 : Ref sig .tc := ⟨.hbm, 347, rfl⟩
abbrev main_v200 : Ref sig .tc := ⟨.hbm, 348, rfl⟩
abbrev main_v201 : Ref sig .tc := ⟨.hbm, 349, rfl⟩
abbrev main_v202 : Ref sig .tc := ⟨.hbm, 350, rfl⟩
abbrev main_call15_v0 : Ref sig .tc := ⟨.hbm, 351, rfl⟩
abbrev main_call15_v1 : Ref sig .tc := ⟨.hbm, 352, rfl⟩
abbrev main_call15_cst : Ref sig .tc := ⟨.hbm, 353, rfl⟩
abbrev main_call15_v2 : Ref sig .tc := ⟨.hbm, 354, rfl⟩
abbrev main_call15_v3 : Ref sig .tc := ⟨.hbm, 355, rfl⟩
abbrev main_call15_cst_0 : Ref sig .tc := ⟨.hbm, 356, rfl⟩
abbrev main_call15_v4 : Ref sig .tc := ⟨.hbm, 357, rfl⟩
abbrev main_call15_v5 : Ref sig .tc := ⟨.hbm, 358, rfl⟩
abbrev main_v203 : Ref sig .tc := ⟨.hbm, 359, rfl⟩
abbrev main_v204 : Ref sig .tc := ⟨.hbm, 360, rfl⟩
abbrev main_v205 : Ref sig .tc := ⟨.hbm, 361, rfl⟩

abbrev nD : Nat := 1
abbrev τ : Topo := Topo.v7x

variable {F : FTy → Type} [FloatOps F]

abbrev main_while0_count : Scf.Loop 32 := ⟨0#32, 16#32, 1#32⟩
-- ==== Kernel2.lean ====
abbrev S65536x1024 : Shape := ⟨2, ![65536, 1024]⟩
abbrev S1024 : Shape := ⟨1, ![1024]⟩
abbrev S1024x2560 : Shape := ⟨2, ![1024, 2560]⟩
abbrev S1x1024 : Shape := ⟨2, ![1, 1024]⟩
abbrev S65536x2048 : Shape := ⟨2, ![65536, 2048]⟩
abbrev S65536x512 : Shape := ⟨2, ![65536, 512]⟩
abbrev S512x1024 : Shape := ⟨2, ![512, 1024]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩
abbrev S512x2560 : Shape := ⟨2, ![512, 2560]⟩

abbrev nBuf : Space → Nat
  | .hbm => 7
  | .vmem => 8
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2560, .f32⟩
  | .hbm, ⟨3, _⟩ => ⟨S1024x2560, .bf16⟩
  | .hbm, ⟨4, _⟩ => ⟨S1x1024, .f32⟩
  | .hbm, ⟨5, _⟩ => ⟨S65536x2048, .f32⟩
  | .hbm, ⟨6, _⟩ => ⟨S65536x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .bf16⟩
  | .local _ .vmem, ⟨4, _⟩ => ⟨S512x2048, .f32⟩
  | .local _ .vmem, ⟨5, _⟩ => ⟨S512x2048, .f32⟩
  | .local _ .vmem, ⟨6, _⟩ => ⟨S512x512, .f32⟩
  | .local _ .vmem, ⟨7, _⟩ => ⟨S512x512, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S65536x1024 : Shape := ⟨2, ![65536, 1024]⟩
abbrev S1024 : Shape := ⟨1, ![1024]⟩
abbrev S1024x2560 : Shape := ⟨2, ![1024, 2560]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x2560 : Shape := ⟨2, ![65536, 2560]⟩
abbrev S65536x2048 : Shape := ⟨2, ![65536, 2048]⟩
abbrev S65536x512 : Shape := ⟨2, ![65536, 512]⟩

abbrev nBuf : Space → Nat
  | .hbm => 22
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2560, .f32⟩
  | .hbm, ⟨3, _⟩ => ⟨S65536x1024, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S_, .f32⟩
  | .hbm, ⟨8, _⟩ => ⟨S65536x1, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S65536x1, .f32⟩
  | .hbm, ⟨14, _⟩ => ⟨S65536x1024, .f32⟩
  | .hbm, ⟨15, _⟩ => ⟨S65536x1024, .f32⟩
  | .hbm, ⟨16, _⟩ => ⟨S1x1024, .f32⟩
  | .hbm, ⟨17, _⟩ => ⟨S65536x1024, .f32⟩
  | .hbm, ⟨18, _⟩ => ⟨S65536x1024, .f32⟩
  | .hbm, ⟨19, _⟩ => ⟨S65536x2560, .f32⟩
  | .hbm, ⟨20, _⟩ => ⟨S65536x2048, .f32⟩
  | .hbm, ⟨21, _⟩ => ⟨S65536x512, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel3.lean ====
abbrev S65536x1024 : Shape := ⟨2, ![65536, 1024]⟩
abbrev S1024 : Shape := ⟨1, ![1024]⟩
abbrev S1024x3072 : Shape := ⟨2, ![1024, 3072]⟩
abbrev S1x1024 : Shape := ⟨2, ![1, 1024]⟩
abbrev S65536x3072 : Shape := ⟨2, ![65536, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x3072, .f32⟩
  | .hbm, ⟨3, _⟩ => ⟨S1024x3072, .bf16⟩
  | .hbm, ⟨4, _⟩ => ⟨S1x1024, .f32⟩
  | .hbm, ⟨5, _⟩ => ⟨S65536x3072, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x3072, .f32⟩
  | .local _ .vmem, ⟨5, _⟩ => ⟨S512x3072, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S65536x1024 : Shape := ⟨2, ![65536, 1024]⟩
abbrev S1024 : Shape := ⟨1, ![1024]⟩
abbrev S1024x3072 : Shape := ⟨2, ![1024, 3072]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x3072 : Shape := ⟨2, ![65536, 3072]⟩

abbrev nBuf : Space → Nat
  | .hbm => 20
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x3072, .f32⟩
  | .hbm, ⟨3, _⟩ => ⟨S65536x1024, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S_, .f32⟩
  | .hbm, ⟨8, _⟩ => ⟨S65536x1, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S65536x1, .f32⟩
  | .hbm, ⟨14, _⟩ => ⟨S65536x1024, .f32⟩
  | .hbm, ⟨15, _⟩ => ⟨S65536x1024, .f32⟩
  | .hbm, ⟨16, _⟩ => ⟨S1x1024, .f32⟩
  | .hbm, ⟨17, _⟩ => ⟨S65536x1024, .f32⟩
  | .hbm, ⟨18, _⟩ => ⟨S65536x1024, .f32⟩
  | .hbm, ⟨19, _⟩ => ⟨S65536x3072, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel4.lean ====
abbrev S65536x1024 : Shape := ⟨2, ![65536, 1024]⟩
abbrev S1024 : Shape := ⟨1, ![1024]⟩
abbrev S1024x2048 : Shape := ⟨2, ![1024, 2048]⟩
abbrev S1x1024 : Shape := ⟨2, ![1, 1024]⟩
abbrev S65536x2048 : Shape := ⟨2, ![65536, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2048, .f32⟩
  | .hbm, ⟨3, _⟩ => ⟨S1024x2048, .bf16⟩
  | .hbm, ⟨4, _⟩ => ⟨S1x1024, .f32⟩
  | .hbm, ⟨5, _⟩ => ⟨S65536x2048, .f32⟩
  | .hbm, ⟨6, _⟩ => ⟨S65536x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S512x2048, .f32⟩
  | .local _ .vmem, ⟨5, _⟩ => ⟨S512x2048, .f32⟩
  | .local _ .vmem, ⟨6, _⟩ => ⟨S512x1024, .bf16⟩
  | .local _ .vmem, ⟨7, _⟩ => ⟨S512x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S65536x1024 : Shape := ⟨2, ![65536, 1024]⟩
abbrev S1024 : Shape := ⟨1, ![1024]⟩
abbrev S1024x2048 : Shape := ⟨2, ![1024, 2048]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x2048 : Shape := ⟨2, ![65536, 2048]⟩

abbrev nBuf : Space → Nat
  | .hbm => 21
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2048, .f32⟩
  | .hbm, ⟨3, _⟩ => ⟨S65536x1024, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S_, .f32⟩
  | .hbm, ⟨8, _⟩ => ⟨S65536x1, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S65536x1, .f32⟩
  | .hbm, ⟨14, _⟩ => ⟨S65536x1024, .f32⟩
  | .hbm, ⟨15, _⟩ => ⟨S65536x1024, .f32⟩
  | .hbm, ⟨16, _⟩ => ⟨S1x1024, .f32⟩
  | .hbm, ⟨17, _⟩ => ⟨S65536x1024, .f32⟩
  | .hbm, ⟨18, _⟩ => ⟨S65536x1024, .f32⟩
  | .hbm, ⟨19, _⟩ => ⟨S65536x2048, .f32⟩
  | .hbm, ⟨20, _⟩ => ⟨S65536x1024, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel5.lean ====
abbrev S65536x512 : Shape := ⟨2, ![65536, 512]⟩
abbrev S1024x1024 : Shape := ⟨2, ![1024, 1024]⟩
abbrev S65536x1024 : Shape := ⟨2, ![65536, 1024]⟩
abbrev S512x1024 : Shape := ⟨2, ![512, 1024]⟩
abbrev S512x512 : Shape := ⟨2, ![512, 512]⟩

abbrev nBuf : Space → Nat
  | .hbm => 8
  | .vmem => 10
  | .smem => 0
  | _ => 0

abbrev bufTy : (tb : Table) → Fin (tcTables nBuf tb) → BufTy
  | .hbm, ⟨0, _⟩ => ⟨S65536x512, .bf16⟩
  | .hbm, ⟨1, _⟩ => ⟨S65536x512, .bf16⟩
  | .hbm, ⟨2, _⟩ => ⟨S1024x1024, .f32⟩
  | .hbm, ⟨3, _⟩ => ⟨S65536x1024, .f32⟩
  | .hbm, ⟨4, _⟩ => ⟨S1024x1024, .bf16⟩
  | .hbm, ⟨5, _⟩ => ⟨S512x1024, .bf16⟩
  | .hbm, ⟨6, _⟩ => ⟨S512x1024, .bf16⟩
  | .hbm, ⟨7, _⟩ => ⟨S65536x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S65536x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S65536x512 : Shape := ⟨2, ![65536, 512]⟩
abbrev S1024x1024 : Shape := ⟨2, ![1024, 1024]⟩
abbrev S65536x1024 : Shape := ⟨2, ![65536, 1024]⟩

abbrev nBuf : Space → Nat
  | .hbm => 8
  | .vmem => 0
  | .smem => 0
  | _ => 0

abbrev bufTy : (tb : Table) → Fin (tcTables nBuf tb) → BufTy
  | .hbm, ⟨0, _⟩ => ⟨S65536x512, .bf16⟩
  | .hbm, ⟨1, _⟩ => ⟨S65536x512, .bf16⟩
  | .hbm, ⟨2, _⟩ => ⟨S1024x1024, .f32⟩
  | .hbm, ⟨3, _⟩ => ⟨S65536x1024, .f32⟩
  | .hbm, ⟨4, _⟩ => ⟨S65536x1024, .bf16⟩
  | .hbm, ⟨5, _⟩ => ⟨S65536x1024, .f32⟩
  | .hbm, ⟨6, _⟩ => ⟨S65536x1024, .f32⟩
  | .hbm, ⟨7, _⟩ => ⟨S65536x1024, .f32⟩
  | _, _ => ⟨S65536x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel6.lean ====
abbrev S65536x1024 : Shape := ⟨2, ![65536, 1024]⟩
abbrev S1024x1024 : Shape := ⟨2, ![1024, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S65536x1024, .bf16⟩
  | .hbm, ⟨1, _⟩ => ⟨S1024x1024, .f32⟩
  | .hbm, ⟨2, _⟩ => ⟨S65536x1024, .f32⟩
  | .hbm, ⟨3, _⟩ => ⟨S1024x1024, .bf16⟩
  | .hbm, ⟨4, _⟩ => ⟨S65536x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S65536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S65536x1024 : Shape := ⟨2, ![65536, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S1024x1024, .f32⟩
  | .hbm, ⟨2, _⟩ => ⟨S65536x1024, .f32⟩
  | .hbm, ⟨3, _⟩ => ⟨S65536x1024, .f32⟩
  | .hbm, ⟨4, _⟩ => ⟨S65536x1024, .f32⟩
  | .hbm, ⟨5, _⟩ => ⟨S65536x1024, .f32⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel7.lean ====
abbrev S65536x3072 : Shape := ⟨2, ![65536, 3072]⟩
abbrev S16x64 : Shape := ⟨2, ![16, 64]⟩
abbrev S16x8x64x512 : Shape := ⟨4, ![16, 8, 64, 512]⟩
abbrev S1x1024 : Shape := ⟨2, ![1, 1024]⟩
abbrev S65536x1024 : Shape := ⟨2, ![65536, 1024]⟩
abbrev S2048x128 : Shape := ⟨2, ![2048, 128]⟩
abbrev S1x128 : Shape := ⟨2, ![1, 128]⟩
abbrev S2x8x64x512 : Shape := ⟨4, ![2, 8, 64, 512]⟩
abbrev S2048 : Shape := ⟨1, ![2048]⟩
abbrev S2048x1 : Shape := ⟨2, ![2048, 1]⟩
abbrev S64x128 : Shape := ⟨2, ![64, 128]⟩
abbrev S512x128 : Shape := ⟨2, ![512, 128]⟩
abbrev S64x64 : Shape := ⟨2, ![64, 64]⟩
abbrev S512x64 : Shape := ⟨2, ![512, 64]⟩
abbrev S64x512 : Shape := ⟨2, ![64, 512]⟩
abbrev S1x1x64x512 : Shape := ⟨4, ![1, 1, 64, 512]⟩
abbrev S64 : Shape := ⟨1, ![64]⟩
abbrev S64x1 : Shape := ⟨2, ![64, 1]⟩

abbrev nBuf : Space → Nat
  | .hbm => 7
  | .vmem => 17
  | .smem => 0
  | _ => 0

abbrev bufTy : (tb : Table) → Fin (tcTables nBuf tb) → BufTy
  | .hbm, ⟨0, _⟩ => ⟨S65536x3072, .f32⟩
  | .hbm, ⟨1, _⟩ => ⟨S16x64, .f32⟩
  | .hbm, ⟨2, _⟩ => ⟨S16x64, .f32⟩
  | .hbm, ⟨3, _⟩ => ⟨S16x8x64x512, .f32⟩
  | .hbm, ⟨4, _⟩ => ⟨S1x1024, .f32⟩
  | .hbm, ⟨5, _⟩ => ⟨S1x1024, .f32⟩
  | .hbm, ⟨6, _⟩ => ⟨S65536x1024, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S2x8x64x512, .f32⟩
  | .local _ .vmem, ⟨11, _⟩ => ⟨S2x8x64x512, .f32⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | _, _ => ⟨S65536x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 8], ![false, false]⟩

@[reducible] def k0_t1_loop : Scf.Loop 32 :=
  let c0_i32 : BitVec 32 := 0#32
  let c32_i32 : BitVec 32 := 32#32
  let v80 : BitVec 32 := Scalar.addi c0_i32 c32_i32
  let c1_i32 : BitVec 32 := 1#32
  ⟨c0_i32, v80, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c64_i32_29 : BitVec 32 := 64#32
  let v85 : BitVec 32 := Scalar.muli arg12 c64_i32_29
  v85
def k0_mult2 (k0_t1 : Fin k0_t1_loop.trips) : BitVec 32 :=
  let c24_i32 : BitVec 32 := 24#32
  let c0_i32_28 : BitVec 32 := 0#32
  let c0_i32 : BitVec 32 := 0#32
  let c1_i32 : BitVec 32 := 1#32
  let arg12 : BitVec 32 := Scf.iv c0_i32 c1_i32 k0_t1
  let c4_i32 : BitVec 32 := 4#32
  let v81 : BitVec 32 := Scalar.subi arg12 c4_i32
  let v82 : BitVec 32 := Scalar.maxsi c0_i32_28 v81
  let v83 : BitVec 32 := Scalar.minsi c24_i32 v82
  let c64_i32_30 : BitVec 32 := 64#32
  let v87 : BitVec 32 := Scalar.muli v83 c64_i32_30
  v87
def k0_off1 (k0_t1 : Fin k0_t1_loop.trips) : Fin 2 → Nat :=
  let c0_i32 : BitVec 32 := 0#32
  let c1_i32 : BitVec 32 := 1#32
  let arg12 : BitVec 32 := Scf.iv c0_i32 c1_i32 k0_t1
  let c64_i32_29 : BitVec 32 := 64#32
  let v85 : BitVec 32 := Scalar.muli arg12 c64_i32_29
  let v86 : BitVec 32 := v85
  let v89 : Index := Scalar.indexCast v86
  let c0_31 : Index := 0#32
  ![v89.toNat, 0]
def k0_off2 (k0_t1 : Fin k0_t1_loop.trips) : Fin 2 → Nat :=
  let c24_i32 : BitVec 32 := 24#32
  let c0_i32_28 : BitVec 32 := 0#32
  let c0_i32 : BitVec 32 := 0#32
  let c1_i32 : BitVec 32 := 1#32
  let arg12 : BitVec 32 := Scf.iv c0_i32 c1_i32 k0_t1
  let c4_i32 : BitVec 32 := 4#32
  let v81 : BitVec 32 := Scalar.subi arg12 c4_i32
  let v82 : BitVec 32 := Scalar.maxsi c0_i32_28 v81
  let v83 : BitVec 32 := Scalar.minsi c24_i32 v82
  let c64_i32_30 : BitVec 32 := 64#32
  let v87 : BitVec 32 := Scalar.muli v83 c64_i32_30
  let v88 : BitVec 32 := v87
  let v91 : Index := Scalar.indexCast v88
  let c0_32 : Index := 0#32
  ![v91.toNat, 0]
def k0_off3 (k0_t1 : Fin k0_t1_loop.trips) : Fin 4 → Nat :=
  let c0_35 : Index := 0#32
  let c0_i32 : BitVec 32 := 0#32
  let c1_i32 : BitVec 32 := 1#32
  let arg12 : BitVec 32 := Scf.iv c0_i32 c1_i32 k0_t1
  let c24_i32 : BitVec 32 := 24#32
  let c0_i32_28 : BitVec 32 := 0#32
  let c4_i32 : BitVec 32 := 4#32
  let v81 : BitVec 32 := Scalar.subi arg12 c4_i32
  let v82 : BitVec 32 := Scalar.maxsi c0_i32_28 v81
  let v83 : BitVec 32 := Scalar.minsi c24_i32 v82
  let v84 : BitVec 32 := Scalar.subi arg12 v83
  let v98 : Index := Scalar.indexCast v84
  let c0_36 : Index := 0#32
  let c0_37 : Index := 0#32
  ![0, v98.toNat, 0, 0]
def k0_off4 (k0_t1 : Fin k0_t1_loop.trips) : Fin 4 → Nat :=
  let c1 : Index := 1#32
  let c0_i32 : BitVec 32 := 0#32
  let c1_i32 : BitVec 32 := 1#32
  let arg12 : BitVec 32 := Scf.iv c0_i32 c1_i32 k0_t1
  let c24_i32 : BitVec 32 := 24#32
  let c0_i32_28 : BitVec 32 := 0#32
  let c4_i32 : BitVec 32 := 4#32
  let v81 : BitVec 32 := Scalar.subi arg12 c4_i32
  let v82 : BitVec 32 := Scalar.maxsi c0_i32_28 v81
  let v83 : BitVec 32 := Scalar.minsi c24_i32 v82
  let v84 : BitVec 32 := Scalar.subi arg12 v83
  let v117 : Index := Scalar.indexCast v84
  let c0_42 : Index := 0#32
  let c0_43 : Index := 0#32
  ![1, v117.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2x8x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference7Ideal.lean ====
abbrev S65536x3072 : Shape := ⟨2, ![65536, 3072]⟩
abbrev S16x64 : Shape := ⟨2, ![16, 64]⟩
abbrev S16x8x64x512 : Shape := ⟨4, ![16, 8, 64, 512]⟩
abbrev S65536x1024 : Shape := ⟨2, ![65536, 1024]⟩
abbrev S32x32x64x16x64 : Shape := ⟨5, ![32, 32, 64, 16, 64]⟩
abbrev S_ : Shape := ⟨0, ![]⟩
abbrev S32x32x64x16 : Shape := ⟨4, ![32, 32, 64, 16]⟩
abbrev S32x32x64x16x1 : Shape := ⟨5, ![32, 32, 64, 16, 1]⟩
abbrev S1x1x1x16x64 : Shape := ⟨5, ![1, 1, 1, 16, 64]⟩
abbrev S32 : Shape := ⟨1, ![32]⟩
abbrev S32x1 : Shape := ⟨2, ![32, 1]⟩
abbrev S8 : Shape := ⟨1, ![8]⟩
abbrev S1x8 : Shape := ⟨2, ![1, 8]⟩
abbrev S32x8 : Shape := ⟨2, ![32, 8]⟩
abbrev S32x8x1 : Shape := ⟨3, ![32, 8, 1]⟩
abbrev S32x32x8x64x16x64 : Shape := ⟨6, ![32, 32, 8, 64, 16, 64]⟩
abbrev S32x32x512x16x64 : Shape := ⟨5, ![32, 32, 512, 16, 64]⟩
abbrev S32x32x16x64x512 : Shape := ⟨5, ![32, 32, 16, 64, 512]⟩
abbrev S16x32x64x512 : Shape := ⟨4, ![16, 32, 64, 512]⟩
abbrev S32x16x64x512 : Shape := ⟨4, ![32, 16, 64, 512]⟩
abbrev S1x32x16x64x512 : Shape := ⟨5, ![1, 32, 16, 64, 512]⟩
abbrev S32x32x16x64 : Shape := ⟨4, ![32, 32, 16, 64]⟩
abbrev S32x32x16x64x1 : Shape := ⟨5, ![32, 32, 16, 64, 1]⟩
abbrev S32x32x16x64x64 : Shape := ⟨5, ![32, 32, 16, 64, 64]⟩

abbrev nBuf : Space → Nat
  | .hbm => 116
  | .vmem => 0
  | .smem => 0
  | _ => 0

abbrev bufTy : (tb : Table) → Fin (tcTables nBuf tb) → BufTy
  | .hbm, ⟨0, _⟩ => ⟨S65536x3072, .f32⟩
  | .hbm, ⟨1, _⟩ => ⟨S16x64, .f32⟩
  | .hbm, ⟨2, _⟩ => ⟨S16x64, .f32⟩
  | .hbm, ⟨3, _⟩ => ⟨S16x8x64x512, .f32⟩
  | .hbm, ⟨4, _⟩ => ⟨S65536x1024, .f32⟩
  | .hbm, ⟨5, _⟩ => ⟨S65536x1024, .f32⟩
  | .hbm, ⟨6, _⟩ => ⟨S65536x1024, .f32⟩
  | .hbm, ⟨7, _⟩ => ⟨S32x32x64x16x64, .f32⟩
  | .hbm, ⟨8, _⟩ => ⟨S32x32x64x16x64, .f32⟩
  | .hbm, ⟨9, _⟩ => ⟨S32x32x64x16x64, .f32⟩
  | .hbm, ⟨10, _⟩ => ⟨S32x32x64x16x64, .f32⟩
  | .hbm, ⟨11, _⟩ => ⟨S_, .f32⟩
  | .hbm, ⟨12, _⟩ => ⟨S32x32x64x16, .f32⟩
  | .hbm, ⟨13, _⟩ => ⟨S32x32x64x16x1, .f32⟩
  | .hbm, ⟨14, _⟩ => ⟨S_, .f32⟩
  | .hbm, ⟨15, _⟩ => ⟨S32x32x64x16x1, .f32⟩
  | .hbm, ⟨16, _⟩ => ⟨S32x32x64x16x1, .f32⟩
  | .hbm, ⟨17, _⟩ => ⟨S_, .f32⟩
  | .hbm, ⟨18, _⟩ => ⟨S32x32x64x16x1, .f32⟩
  | .hbm, ⟨19, _⟩ => ⟨S32x32x64x16x1, .f32⟩
  | .hbm, ⟨20, _⟩ => ⟨S32x32x64x16x1, .f32⟩
  | .hbm, ⟨21, _⟩ => ⟨S32x32x64x16x64, .f32⟩
  | .hbm, ⟨22, _⟩ => ⟨S32x32x64x16x64, .f32⟩
  | .hbm, ⟨23, _⟩ => ⟨S1x1x1x16x64, .f32⟩
  | .hbm, ⟨24, _⟩ => ⟨S32x32x64x16x64, .f32⟩
  | .hbm, ⟨25, _⟩ => ⟨S32x32x64x16x64, .f32⟩
  | .hbm, ⟨26, _⟩ => ⟨S_, .f32⟩
  | .hbm, ⟨27, _⟩ => ⟨S32x32x64x16x64, .f32⟩
  | .hbm, ⟨28, _⟩ => ⟨S32x32x64x16x64, .f32⟩
  | .hbm, ⟨29, _⟩ => ⟨S32x32x64x16x64, .f32⟩
  | .hbm, ⟨30, _⟩ => ⟨S_, .f32⟩
  | .hbm, ⟨31, _⟩ => ⟨S32x32x64x16, .f32⟩
  | .hbm, ⟨32, _⟩ => ⟨S32x32x64x16x1, .f32⟩
  | .hbm, ⟨33, _⟩ => ⟨S_, .f32⟩
  | .hbm, ⟨34, _⟩ => ⟨S32x32x64x16x1, .f32⟩
  | .hbm, ⟨35, _⟩ => ⟨S32x32x64x16x1, .f32⟩
  | .hbm, ⟨36, _⟩ => ⟨S_, .f32⟩
  | .hbm, ⟨37, _⟩ => ⟨S32x32x64x16x1, .f32⟩
  | .hbm, ⟨38, _⟩ => ⟨S32x32x64x16x1, .f32⟩
  | .hbm, ⟨39, _⟩ => ⟨S32x32x64x16x1, .f32⟩
  | .hbm, ⟨40, _⟩ => ⟨S32x32x64x16x64, .f32⟩
  | .hbm, ⟨41, _⟩ => ⟨S32x32x64x16x64, .f32⟩
  | .hbm, ⟨42, _⟩ => ⟨S1x1x1x16x64, .f32⟩
  | .hbm, ⟨43, _⟩ => ⟨S32x32x64x16x64, .f32⟩
  | .hbm, ⟨44, _⟩ => ⟨S32x32x64x16x64, .f32⟩
  | .hbm, ⟨45, _⟩ => ⟨S32, .i32⟩
  | .hbm, ⟨46, _⟩ => ⟨S_, .i32⟩
  | .hbm, ⟨47, _⟩ => ⟨S32, .i32⟩
  | .hbm, ⟨48, _⟩ => ⟨S32, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S32, .i32⟩
  | .hbm, ⟨53, _⟩ => ⟨S32, .i32⟩
  | .hbm, ⟨54, _⟩ => ⟨S_, .i32⟩
  | .hbm, ⟨55, _⟩ => ⟨S32, .i32⟩
  | .hbm, ⟨56, _⟩ => ⟨S32, .i32⟩
  | .hbm, ⟨57, _⟩ => ⟨S32x1, .i32⟩
  | .hbm, ⟨58, _⟩ => ⟨S8, .i32⟩
  | .hbm, ⟨59, _⟩ => ⟨S1x8, .i32⟩
  | .hbm, ⟨60, _⟩ => ⟨S32x8, .i32⟩
  | .hbm, ⟨61, _⟩ => ⟨S32x8, .i32⟩
  | .hbm, ⟨62, _⟩ => ⟨S32x8, .i32⟩
  | .hbm, ⟨63, _⟩ => ⟨S_, .i32⟩
  | .hbm, ⟨64, _⟩ => ⟨S32x8, .i32⟩
  | .hbm, ⟨65, _⟩ => ⟨S32x8, .i1⟩
  | .hbm, ⟨66, _⟩ => ⟨S_, .i32⟩
  | .hbm, ⟨67, _⟩ => ⟨S32x8, .i32⟩
  | .hbm, ⟨68, _⟩ => ⟨S32x8, .i32⟩
  | .hbm, ⟨69, _⟩ => ⟨S32x8, .i32⟩
  | .hbm, ⟨70, _⟩ => ⟨S32x8x1, .i32⟩
  | .hbm, ⟨71, _⟩ => ⟨S32x32x8x64x16x64, .f32⟩
  | .hbm, ⟨72, _⟩ => ⟨S32x32x512x16x64, .f32⟩
  | .hbm, ⟨73, _⟩ => ⟨S_, .i32⟩
  | .hbm, ⟨74, _⟩ => ⟨S32x8, .i32⟩
  | .hbm, ⟨75, _⟩ => ⟨S32x8, .i1⟩
  | .hbm, ⟨76, _⟩ => ⟨S_, .i32⟩
  | .hbm, ⟨77, _⟩ => ⟨S32x8, .i32⟩
  | .hbm, ⟨78, _⟩ => ⟨S32x8, .i32⟩
  | .hbm, ⟨79, _⟩ => ⟨S32x8, .i32⟩
  | .hbm, ⟨80, _⟩ => ⟨S32x8x1, .i32⟩
  | .hbm, ⟨81, _⟩ => ⟨S32x32x8x64x16x64, .f32⟩
  | .hbm, ⟨82, _⟩ => ⟨S32x32x512x16x64, .f32⟩
  | .hbm, ⟨83, _⟩ => ⟨S32x32x16x64x512, .f32⟩
  | .hbm, ⟨84, _⟩ => ⟨S32, .i32⟩
  | .hbm, ⟨85, _⟩ => ⟨S_, .i32⟩
  | .hbm, ⟨86, _⟩ => ⟨S32, .i32⟩
  | .hbm, ⟨87, _⟩ => ⟨S32, .i1⟩
  | .hbm, ⟨88, _⟩ => ⟨S_, .i32⟩
  | .hbm, ⟨89, _⟩ => ⟨S32, .i32⟩
  | .hbm, ⟨90, _⟩ => ⟨S32, .i32⟩
  | .hbm, ⟨91, _⟩ => ⟨S32, .i32⟩
  | .hbm, ⟨92, _⟩ => ⟨S32x1, .i32⟩
  | .hbm, ⟨93, _⟩ => ⟨S16x32x64x512, .f32⟩
  | .hbm, ⟨94, _⟩ => ⟨S32x16x64x512, .f32⟩
  | .hbm, ⟨95, _⟩ => ⟨S1x32x16x64x512, .f32⟩
  | .hbm, ⟨96, _⟩ => ⟨S32x32x16x64x512, .f32⟩
  | .hbm, ⟨97, _⟩ => ⟨S32x32x16x64x512, .f32⟩
  | .hbm, ⟨98, _⟩ => ⟨S_, .f32⟩
  | .hbm, ⟨99, _⟩ => ⟨S32x32x16x64, .f32⟩
  | .hbm, ⟨100, _⟩ => ⟨S_, .f32⟩
  | .hbm, ⟨101, _⟩ => ⟨S32x32x16x64, .f32⟩
  | .hbm, ⟨102, _⟩ => ⟨S32x32x16x64, .f32⟩
  | .hbm, ⟨103, _⟩ => ⟨S32x32x16x64x1, .f32⟩
  | .hbm, ⟨104, _⟩ => ⟨S32x32x16x64x512, .f32⟩
  | .hbm, ⟨105, _⟩ => ⟨S32x32x16x64x512, .f32⟩
  | .hbm, ⟨106, _⟩ => ⟨S32x32x16x64x512, .f32⟩
  | .hbm, ⟨107, _⟩ => ⟨S_, .f32⟩
  | .hbm, ⟨108, _⟩ => ⟨S32x32x16x64, .f32⟩
  | .hbm, ⟨109, _⟩ => ⟨S32x32x16x64x1, .f32⟩
  | .hbm, ⟨110, _⟩ => ⟨S32x32x16x64x512, .f32⟩
  | .hbm, ⟨111, _⟩ => ⟨S32x32x16x64x512, .f32⟩
  | .hbm, ⟨112, _⟩ => ⟨S32x32x16x64x64, .f32⟩
  | .hbm, ⟨113, _⟩ => ⟨S32x32x64x16x64, .f32⟩
  | .hbm, ⟨114, _⟩ => ⟨S65536x1024, .f32⟩
  | .hbm, ⟨115, _⟩ => ⟨S65536x1024, .bf16⟩
  | _, _ => ⟨S65536x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c : Ref sig .tc := ⟨.hbm, 46, rfl⟩
abbrev main_v35 : Ref sig .tc := ⟨.hbm, 47, rfl⟩
abbrev main_v36 : Ref sig .tc := ⟨.hbm, 48, rfl⟩
abbrev main_c_6 : Ref sig .tc := ⟨.hbm, 49, rfl⟩
abbrev main_c_7 : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_8 : Ref sig .tc := ⟨.hbm, 63, rfl⟩
abbrev main_v44 : Ref sig .tc := ⟨.hbm, 64, rfl⟩
abbrev main_v45 : Ref sig .tc := ⟨.hbm, 65, rfl⟩
abbrev main_c_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_10 : Ref sig .tc := ⟨.hbm, 73, rfl⟩
abbrev main_v52 : Ref sig .tc := ⟨.hbm, 74, rfl⟩
abbrev main_v53 : Ref sig .tc := ⟨.hbm, 75, rfl⟩
abbrev main_c_11 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_12 : Ref sig .tc := ⟨.hbm, 85, rfl⟩
abbrev main_v62 : Ref sig .tc := ⟨.hbm, 86, rfl⟩
abbrev main_v63 : Ref sig .tc := ⟨.hbm, 87, rfl⟩
abbrev main_c_13 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_14 : Ref sig .tc := ⟨.hbm, 98, rfl⟩
abbrev main_v73 : Ref sig .tc := ⟨.hbm, 99, rfl⟩
abbrev main_cst_15 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_16 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩

abbrev nD : Nat := 1
abbrev τ : Topo := Topo.v7x

variable {F : FTy → Type} [FloatOps F]
-- ==== Kernel8.lean ====
abbrev S65536x1024 : Shape := ⟨2, ![65536, 1024]⟩
abbrev S65536x128 : Shape := ⟨2, ![65536, 128]⟩
abbrev S16384x1024 : Shape := ⟨2, ![16384, 1024]⟩
abbrev S1024x16384 : Shape := ⟨2, ![1024, 16384]⟩
abbrev S256x1024 : Shape := ⟨2, ![256, 1024]⟩
abbrev S256x128 : Shape := ⟨2, ![256, 128]⟩
abbrev S1024x1024 : Shape := ⟨2, ![1024, 1024]⟩
abbrev S34816x128 : Shape := ⟨2, ![34816, 128]⟩
abbrev S128x128 : Shape := ⟨2, ![128, 128]⟩
abbrev S1x128 : Shape := ⟨2, ![1, 128]⟩

abbrev nBuf : Space → Nat
  | .hbm => 11
  | .vmem => 18
  | .smem => 0
  | _ => 0

abbrev bufTy : (tb : Table) → Fin (tcTables nBuf tb) → BufTy
  | .hbm, ⟨0, _⟩ => ⟨S65536x1024, .bf16⟩
  | .hbm, ⟨1, _⟩ => ⟨S65536x128, .i32⟩
  | .hbm, ⟨2, _⟩ => ⟨S65536x128, .i32⟩
  | .hbm, ⟨3, _⟩ => ⟨S65536x128, .f32⟩
  | .hbm, ⟨4, _⟩ => ⟨S16384x1024, .f32⟩
  | .hbm, ⟨5, _⟩ => ⟨S16384x1024, .f32⟩
  | .hbm, ⟨6, _⟩ => ⟨S65536x1024, .f32⟩
  | .hbm, ⟨7, _⟩ => ⟨S1024x16384, .f32⟩
  | .hbm, ⟨8, _⟩ => ⟨S1024x16384, .bf16⟩
  | .hbm, ⟨9, _⟩ => ⟨S16384x1024, .bf16⟩
  | .hbm, ⟨10, _⟩ => ⟨S65536x1024, .f32⟩
  | .local _ .vmem, ⟨0, _⟩ => ⟨S256x1024, .bf16⟩
  | .local _ .vmem, ⟨1, _⟩ => ⟨S256x1024, .bf16⟩
  | .local _ .vmem, ⟨2, _⟩ => ⟨S256x128, .i32⟩
  | .local _ .vmem, ⟨3, _⟩ => ⟨S256x128, .i32⟩
  | .local _ .vmem, ⟨4, _⟩ => ⟨S256x128, .i32⟩
  | .local _ .vmem, ⟨5, _⟩ => ⟨S256x128, .i32⟩
  | .local _ .vmem, ⟨6, _⟩ => ⟨S256x128, .f32⟩
  | .local _ .vmem, ⟨7, _⟩ => ⟨S256x128, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S34816x128, .f32⟩
  | .local _ .vmem, ⟨17, _⟩ => ⟨S256x1024, .f32⟩
  | _, _ => ⟨S65536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![256, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_34 : BitVec 32 := 0#32
  let c256_i32 : BitVec 32 := 256#32
  let v88 : BitVec 32 := Scalar.addi c0_i32_34 c256_i32
  let c1_i32_35 : BitVec 32 := 1#32
  ⟨c0_i32_34, v88, c1_i32_35⟩
def k0_off1 (k0_t1 : Fin k0_t1_loop.trips) : Fin 2 → Nat :=
  let c0_i32_34 : BitVec 32 := 0#32
  let c1_i32_35 : BitVec 32 := 1#32
  let arg12 : BitVec 32 := Scf.iv c0_i32_34 c1_i32_35 k0_t1
  let v89 : Index := Scalar.indexCast arg12
  let c0_37 : Index := 0#32
  ![v89.toNat, 0]
def k0_mult1 (k0_t1 : Fin k0_t1_loop.trips) : BitVec 32 :=
  let c0_i32_34 : BitVec 32 := 0#32
  let c1_i32_35 : BitVec 32 := 1#32
  let arg12 : BitVec 32 := Scf.iv c0_i32_34 c1_i32_35 k0_t1
  let c136_i32 : BitVec 32 := 136#32
  let v109 : BitVec 32 := Scalar.muli arg12 c136_i32
  v109
def k0_off2 (k0_t1 : Fin k0_t1_loop.trips) : Fin 2 → Nat :=
  let c0_i32_34 : BitVec 32 := 0#32
  let c1_i32_35 : BitVec 32 := 1#32
  let arg12 : BitVec 32 := Scf.iv c0_i32_34 c1_i32_35 k0_t1
  let c136_i32 : BitVec 32 := 136#32
  let v109 : BitVec 32 := Scalar.muli arg12 c136_i32
  let v110 : BitVec 32 := v109
  let v111 : Index := Scalar.indexCast v110
  let c0_44 : Index := 0#32
  ![v111.toNat, 0]
def k0_off3 (i : grid0.Coords) (c0_i32_7 : BitVec 32) : Fin 2 → Nat :=
  let arg1 : BitVec 32 := BitVec.ofNat 32 (i 1).val
  let c8_i32 : BitVec 32 := 8#32
  let v15 : BitVec 32 := Scalar.muli arg1 c8_i32
  let v16 : BitVec 32 := Scalar.addi v15 c0_i32_7
  let v17 : Index := Scalar.indexCast v16
  let c0_8 : Index := 0#32
  ![v17.toNat, 0]
def k0_cond2 (i : grid0.Coords) : BitVec 1 :=
  let arg1 : BitVec 32 := BitVec.ofNat 32 (i 1).val
  let c15_i32 : BitVec 32 := 15#32
  let v80 : BitVec 1 := Scalar.cmpi .eq arg1 c15_i32
  let v81 : BitVec 32 := Scalar.extui v80
  let c0_i32_30 : BitVec 32 := 0#32
  let v82 : BitVec 1 := Scalar.cmpi .ne v81 c0_i32_30
  v82

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference8Ideal.lean ====
abbrev S65536x1024 : Shape := ⟨2, ![65536, 1024]⟩
abbrev S65536x128 : Shape := ⟨2, ![65536, 128]⟩
abbrev S16384x1024 : Shape := ⟨2, ![16384, 1024]⟩
abbrev S_ : Shape := ⟨0, ![]⟩
abbrev S65536x128x1 : Shape := ⟨3, ![65536, 128, 1]⟩
abbrev S65536x128x1024 : Shape := ⟨3, ![65536, 128, 1024]⟩

abbrev nBuf : Space → Nat
  | .hbm => 43
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S65536x128, .i32⟩
  | .hbm, ⟨2, _⟩ => ⟨S65536x128, .i32⟩
  | .hbm, ⟨3, _⟩ => ⟨S65536x128, .f32⟩
  | .hbm, ⟨4, _⟩ => ⟨S16384x1024, .f32⟩
  | .hbm, ⟨5, _⟩ => ⟨S16384x1024, .f32⟩
  | .hbm, ⟨6, _⟩ => ⟨S65536x1024, .f32⟩
  | .hbm, ⟨7, _⟩ => ⟨S_, .i32⟩
  | .hbm, ⟨8, _⟩ => ⟨S65536x128, .i32⟩
  | .hbm, ⟨9, _⟩ => ⟨S65536x128, .i32⟩
  | .hbm, ⟨10, _⟩ => ⟨S65536x128, .i32⟩
  | .hbm, ⟨11, _⟩ => ⟨S65536x1024, .f32⟩
  | .hbm, ⟨12, _⟩ => ⟨S_, .i32⟩
  | .hbm, ⟨13, _⟩ => ⟨S65536x128, .i32⟩
  | .hbm, ⟨14, _⟩ => ⟨S65536x128, .i1⟩
  | .hbm, ⟨15, _⟩ => ⟨S_, .i32⟩
  | .hbm, ⟨16, _⟩ => ⟨S65536x128, .i32⟩
  | .hbm, ⟨17, _⟩ => ⟨S65536x128, .i32⟩
  | .hbm, ⟨18, _⟩ => ⟨S65536x128, .i32⟩
  | .hbm, ⟨19, _⟩ => ⟨S65536x128x1, .i32⟩
  | .hbm, ⟨20, _⟩ => ⟨S65536x128x1024, .f32⟩
  | .hbm, ⟨21, _⟩ => ⟨S65536x128, .f32⟩
  | .hbm, ⟨22, _⟩ => ⟨S_, .f32⟩
  | .hbm, ⟨23, _⟩ => ⟨S65536x128, .f32⟩
  | .hbm, ⟨24, _⟩ => ⟨S65536x128, .f32⟩
  | .hbm, ⟨25, _⟩ => ⟨S65536x128, .f32⟩
  | .hbm, ⟨26, _⟩ => ⟨S_, .f32⟩
  | .hbm, ⟨27, _⟩ => ⟨S65536x128, .f32⟩
  | .hbm, ⟨28, _⟩ => ⟨S65536x128, .f32⟩
  | .hbm, ⟨29, _⟩ => ⟨S65536x128, .f32⟩
  | .hbm, ⟨30, _⟩ => ⟨S65536x128, .f32⟩
  | .hbm, ⟨31, _⟩ => ⟨S65536x128, .f32⟩
  | .hbm, ⟨32, _⟩ => ⟨S_, .i32⟩
  | .hbm, ⟨33, _⟩ => ⟨S65536x128, .i32⟩
  | .hbm, ⟨34, _⟩ => ⟨S65536x128, .i1⟩
  | .hbm, ⟨35, _⟩ => ⟨S_, .i32⟩
  | .hbm, ⟨36, _⟩ => ⟨S65536x128, .i32⟩
  | .hbm, ⟨37, _⟩ => ⟨S65536x128, .i32⟩
  | .hbm, ⟨38, _⟩ => ⟨S65536x128, .i32⟩
  | .hbm, ⟨39, _⟩ => ⟨S65536x128x1, .i32⟩
  | .hbm, ⟨40, _⟩ => ⟨S65536x128x1024, .f32⟩
  | .hbm, ⟨41, _⟩ => ⟨S65536x1024, .f32⟩
  | .hbm, ⟨42, _⟩ => ⟨S65536x1024, .f32⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Proof.RetRun.lean ====
/- The body of the retention kernel run once: which pieces it leaves in its output's staging buffer. -/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Ret

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A whole memref whose listed writes cover its shape holds them whatever it held before. -/
theorem writes_eq_junk_of_cover {sp : Space} {s : Shape} {e : EltTy} {a : Memref sig .tc sp s e} (hw : a.IsWhole)
    (f : a.view.ty.Contents (Elt F)) (L : List (View.Piece (Elt F) s e)) (h : ∀ y : s.Idx, ∃ p ∈ L, y ∈ p.1.set) :
    a.view.writes (Elt F) f L = a.view.writes (Elt F) a.view.junk L := by
  obtain ⟨b, rfl, rfl, rfl, hb⟩ := hw; cases hb
  funext y
  exact View.read_writes_apply_eq (View.whole b) f (View.whole b) (View.whole b).junk y L (h y)

/-- The backward sweep's sixteen stores of a state tile the scratch of states. -/
theorem cover_sb (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S1x128x128 .f32) (harg8 : arg8.IsWhole) (arg9 : Memref sig .tc .vmem S1x6x128x128 .f32) (harg9 : arg9.IsWhole) (arg10 : Memref sig .tc .vmem S1x128 .f32) (harg10 : arg10.IsWhole) (arg11 : Memref sig .tc .vmem S2048x128 .bf16) (harg11 : arg11.IsWhole) (arg12 : Memref sig .tc .vmem S2048x128 .f32) (harg12 : arg12.IsWhole) (arg13 : Memref sig .tc .vmem S2048x128 .f32) (harg13 : arg13.IsWhole) (arg14 : Memref sig .tc .vmem S16x128x128 .f32) (harg14 : arg14.IsWhole) (v25 : FVec F S128x128 .f32) (v32 : Vec F S1x1x128x128 .f32) (X4 : BufTy.Contents (Elt F) arg4.view.ty) (X13 : BufTy.Contents (Elt F) arg13.view.ty) (init : FVec F S128x128 .f32) (y : S16x128x128.Idx) :
    ∃ p ∈ (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v25 v32 X4 X13 init (Scf.trips k0_t1_loop.lb k0_t1_loop.ub k0_t1_loop.st)).2, y ∈ p.1.set :=
  View.cover_of_tiledL (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v25 v32 X4 X13 init (Scf.trips k0_t1_loop.lb k0_t1_loop.ub k0_t1_loop.st)).2 S1x128x128.size (by sl_kernel_rfl) y

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S1x128x128 .f32) (harg8 : arg8.IsWhole) (arg9 : Memref sig .tc .vmem S1x6x128x128 .f32) (harg9 : arg9.IsWhole) (arg10 : Memref sig .tc .vmem S1x128 .f32) (harg10 : arg10.IsWhole) (arg11 : Memref sig .tc .vmem S2048x128 .bf16) (harg11 : arg11.IsWhole) (arg12 : Memref sig .tc .vmem S2048x128 .f32) (harg12 : arg12.IsWhole) (arg13 : Memref sig .tc .vmem S2048x128 .f32) (harg13 : arg13.IsWhole) (arg14 : Memref sig .tc .vmem S16x128x128 .f32) (harg14 : arg14.IsWhole)
    (x0 : Vec F S2048x128 .f32) (x1 : Vec F S2048x128 .f32) (x2 : Vec F S2048x128 .f32) (x3 : Vec F S2048x128 .f32) (x4 : Vec F S2048x128 .f32) (x5 : Vec F S2048x128 .f32) (x6 : Vec F S1x128x128 .f32) (x7 : Vec F S1x6x128x128 .f32) (x8 : Vec F S1x128 .f32) :
    { L9 : List (View.Piece (Elt F) S2048x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_retention i arg2 harg2 arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0_retention_eq_skeleton]; unfold cc0_retention_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec
    sl_step
    rw [writes_eq_junk_of_cover harg14 fs2 _ (fun y => cover_sb c i arg2 harg2 arg3 harg3 arg4 harg4 arg5 harg5 arg6 harg6 arg7 harg7 arg8 harg8 arg9 harg9 arg10 harg10 arg11 harg11 arg12 harg12 arg13 harg13 arg14 harg14 _ _ _ _ _ y)]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.KernelIdeal.Ret

end
-- ==== Proof.RetFrame.lean ====
/- The retention kernel's frame: what its output's staging buffer holds after every grid point, the pipeline's proof data
   and the run, over the body's run in RetRun. -/
module

public import proofs.«01_k».proof.Proof.RetRun
public import Idealize.ShloMosaic.Lib.Claim

@[expose] public section

-- membership in a rectangle of production extents (`View.cover_of_tiled`): the elaborator's structural look
-- recurses once per coordinate of the long axes
set_option maxRecDepth 16384

noncomputable section

namespace Cert.KernelIdeal.Ret

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 9 tile its block (16 stores of `S128x128`, checked by the kernel's evaluation: Lib/Ring.lean `Piece.tiledL`, linear in the pieces, through a loop's `@[irreducible]` trip theorem too), so they cover it. -/
theorem cover0_A_9 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S1x128x128 .f32) (harg8 : arg8.IsWhole) (arg9 : Memref sig .tc .vmem S1x6x128x128 .f32) (harg9 : arg9.IsWhole) (arg10 : Memref sig .tc .vmem S1x128 .f32) (harg10 : arg10.IsWhole) (arg11 : Memref sig .tc .vmem S2048x128 .bf16) (harg11 : arg11.IsWhole) (arg12 : Memref sig .tc .vmem S2048x128 .f32) (harg12 : arg12.IsWhole) (arg13 : Memref sig .tc .vmem S2048x128 .f32) (harg13 : arg13.IsWhole) (arg14 : Memref sig .tc .vmem S16x128x128 .f32) (harg14 : arg14.IsWhole)
    (x0 : Vec F S2048x128 .f32) (x1 : Vec F S2048x128 .f32) (x2 : Vec F S2048x128 .f32) (x3 : Vec F S2048x128 .f32) (x4 : Vec F S2048x128 .f32) (x5 : Vec F S2048x128 .f32) (x6 : Vec F S1x128x128 .f32) (x7 : Vec F S1x6x128x128 .f32) (x8 : Vec F S1x128 .f32) (y : S2048x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8).1 S128x128.size (by sl_kernel_rfl) y

/-- What the run leaves in output 9's staging buffer: its pieces read back over junk. -/
def out0_A_9 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S1x128x128 .f32) (harg8 : arg8.IsWhole) (arg9 : Memref sig .tc .vmem S1x6x128x128 .f32) (harg9 : arg9.IsWhole) (arg10 : Memref sig .tc .vmem S1x128 .f32) (harg10 : arg10.IsWhole) (arg11 : Memref sig .tc .vmem S2048x128 .bf16) (harg11 : arg11.IsWhole) (arg12 : Memref sig .tc .vmem S2048x128 .f32) (harg12 : arg12.IsWhole) (arg13 : Memref sig .tc .vmem S2048x128 .f32) (harg13 : arg13.IsWhole) (arg14 : Memref sig .tc .vmem S16x128x128 .f32) (harg14 : arg14.IsWhole)
    (x0 : Vec F S2048x128 .f32) (x1 : Vec F S2048x128 .f32) (x2 : Vec F S2048x128 .f32) (x3 : Vec F S2048x128 .f32) (x4 : Vec F S2048x128 .f32) (x5 : Vec F S2048x128 .f32) (x6 : Vec F S1x128x128 .f32) (x7 : Vec F S1x6x128x128 .f32) (x8 : Vec F S1x128 .f32) : Vec F S2048x128 .bf16 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8).1)

/-! ## What the outputs hold after each point -/

/-- What the outputs' staging buffers hold after the body at point `t`: the run's contents at
    the point's memrefs and input blocks. -/
def outsAt0 (c : Dev nD) (t : Fin cfg0.N) : Vec F S2048x128 .bf16 :=
  out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t)
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  rw [show (dats m 0 c).Φ t.castSucc = Pipeline.ΦA spec0 c from rfl, PhiA0_eq]
  unfold outsAt0
  unfold out0_A_9
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_A c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  isplitl [HS1]; · iexact HS1
  isplitl [HS2]; · iexact HS2
  iintro ⟨H0, H1, H2, H3, H4, H5, H6, H7, H8, ⟨%e9, H9⟩, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro; exact View.read_writes_of_cover _ _ _ _ _ (cover0_A_9 c _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_KernelIdeal`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Ret

end
-- ==== Proof.InProj.lean ====
/- The input projection: RMS normalization and one matrix product, split in two results. -/
module

public import proofs.«01_k».proof.Proof.Gen.Kernel2Ideal.Frame
public import proofs.«01_k».proof.Proof.Gen.Reference2Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel2Ideal.Proj

open Cert.Kernel2Ideal Cert.Kernel2Ideal.Gen
open Cert.Reference2Ideal.Read

variable (m : (ℓ : Loc nD τ sig) → Buf (Elt Ideal) ℓ)

/-- The windows' block indices at every grid point: the rows' windows follow the point, the weights' stay. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- The block of the first result at one point is the reference's first result on the block's rows. -/
theorem point3 (c : Dev nD) (t : Fin cfg0.N) (y) : k0_pay2 (iblk m c 0 t) (iblk m c 1 t) (iblk m c 2 t) y
    = val_main_v14 (F := Ideal) (m ((c : Thread nD τ).loc main_arg0)) (m ((c : Thread nD τ).loc main_arg1))
        (m ((c : Thread nD τ).loc main_arg2)) (((cfg0.win 3).blk t).view.emb y) := by
  pointwise [k0_pay2, k0_pay1, val_main_v14, val_main_v13, val_main_v12, val_main_v11, val_main_v10, val_main_v9, val_main_v8,
    val_main_v7, val_main_v6, val_main_v5, val_main_v4, val_main_v3, val_main_v2, val_main_v1, val_main_v0, val_main_cst,
    val_main_cst_0, val_main_cst_1]
  blk_point [iblk, V, idx t]

/-- The block of the second result at one point is the reference's second result on the block's rows. -/
theorem point4 (c : Dev nD) (t : Fin cfg0.N) (y) : k0_pay3 (iblk m c 0 t) (iblk m c 1 t) (iblk m c 2 t) y
    = val_main_v15 (F := Ideal) (m ((c : Thread nD τ).loc main_arg0)) (m ((c : Thread nD τ).loc main_arg1))
        (m ((c : Thread nD τ).loc main_arg2)) (((cfg0.win 4).blk t).view.emb y) := by
  pointwise [k0_pay3, k0_pay1, val_main_v15, val_main_v13, val_main_v12, val_main_v11, val_main_v10, val_main_v9, val_main_v8,
    val_main_v7, val_main_v6, val_main_v5, val_main_v4, val_main_v3, val_main_v2, val_main_v1, val_main_v0, val_main_cst,
    val_main_cst_0, val_main_cst_1]
  blk_point [iblk, V, idx t]

/-- The first result array after the run. -/
theorem final3 (c : Dev nD) : (dats m 0 c).arrAt 3 (cfgs 0).N
    = val_main_v14 (F := Ideal) (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]; frame_out
  exact point3 m c t y

/-- The second result array after the run. -/
theorem final4 (c : Dev nD) : (dats m 0 c).arrAt 4 (cfgs 0).N
    = val_main_v15 (F := Ideal) (m ((c : Thread nD τ).loc main_arg0)) (m ((c : Thread nD τ).loc main_arg1))
        (m ((c : Thread nD τ).loc main_arg2)) := by
  refine (dats m 0 c).arrAt_eq_of_covers 4 _ (by decide +kernel) fun t _ y => ?_
  blk_simp
  rw [after0_4]; frame_out
  exact point4 m c t y

end Cert.Kernel2Ideal.Proj

end
-- ==== Proof.QkvProj.lean ====
/- The projection to queries, keys and values: RMS normalization and one matrix product. -/
module

public import proofs.«01_k».proof.Proof.Gen.Kernel3Ideal.Frame
public import proofs.«01_k».proof.Proof.Gen.Reference3Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel3Ideal.Proj

open Cert.Kernel3Ideal Cert.Kernel3Ideal.Gen
open Cert.Reference3Ideal.Read

variable (m : (ℓ : Loc nD τ sig) → Buf (Elt Ideal) ℓ)

/-- The windows' block indices at every grid point: the rows' windows follow the point, the weights' stay. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- What a grid point leaves in window 3's block is the reference's result on the block's rows. -/
theorem point3 (c : Dev nD) (t : Fin cfg0.N) (y) : k0_pay1 (iblk m c 0 t) (iblk m c 1 t) (iblk m c 2 t) y
    = val_main_v13 (F := Ideal) (m ((c : Thread nD τ).loc main_arg0)) (m ((c : Thread nD τ).loc main_arg1)) (m ((c : Thread nD τ).loc main_arg2))
        (((cfg0.win 3).blk t).view.emb y) := by
  pointwise [k0_pay1, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  blk_point [iblk, V, idx t]

/-- Window 3's array after the run is the reference's result. -/
theorem final3 (c : Dev nD) : (dats m 0 c).arrAt 3 (cfgs 0).N
    = val_main_v13 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point3 m c t y

end Cert.Kernel3Ideal.Proj

end
-- ==== Proof.QueryProj.lean ====
/- The projection to the routing queries: RMS normalization and one matrix product, with the normalized rows as a second result. -/
module

public import proofs.«01_k».proof.Proof.Gen.Kernel4Ideal.Frame
public import proofs.«01_k».proof.Proof.Gen.Reference4Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel4Ideal.Proj

open Cert.Kernel4Ideal Cert.Kernel4Ideal.Gen
open Cert.Reference4Ideal.Read

variable (m : (ℓ : Loc nD τ sig) → Buf (Elt Ideal) ℓ)

/-- The windows' block indices at every grid point: the rows' windows follow the point, the weights' stay. -/
theorem idx : ∀ t : Fin cfg0.N, win0_0.index t = ![t.val, 0] ∧ win0_1.index t = ![0, 0] ∧ win0_2.index t = ![0, 0] ∧ win0_3.index t = ![t.val, 0] ∧ win0_4.index t = ![t.val, 0] :=
  (by decide +kernel : ∀ t : Fin grid0.N, _)

/-- What a grid point leaves in window 3's block is the reference's result on the block's rows. -/
theorem point3 (c : Dev nD) (t : Fin cfg0.N) (y) : k0_pay2 (iblk m c 0 t) (iblk m c 1 t) (iblk m c 2 t) y
    = val_main_v13 (F := Ideal) (m ((c : Thread nD τ).loc main_arg0)) (m ((c : Thread nD τ).loc main_arg1)) (m ((c : Thread nD τ).loc main_arg2))
        (((cfg0.win 3).blk t).view.emb y) := by
  pointwise [k0_pay2, k0_pay1, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  blk_point [iblk, V, idx t]

/-- Window 3's array after the run is the reference's result. -/
theorem final3 (c : Dev nD) : (dats m 0 c).arrAt 3 (cfgs 0).N
    = val_main_v13 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point3 m c t y

/-- What a grid point leaves in window 4's block is the reference's result on the block's rows. -/
theorem point4 (c : Dev nD) (t : Fin cfg0.N) (y) : k0_pay1 (iblk m c 0 t) (iblk m c 1 t) y
    = val_main_v14 (F := Ideal) (m ((c : Thread nD τ).loc main_arg0)) (m ((c : Thread nD τ).loc main_arg1))
        (((cfg0.win 4).blk t).view.emb y) := by
  pointwise [k0_pay1, val_main_v14, val_main_v12, val_main_v11, val_main_v10, val_main_v9, val_main_v8, val_main_v7, val_main_v6, val_main_v5, val_main_v4, val_main_v3, val_main_v2, val_main_v1, val_main_v0, val_main_cst, val_main_cst_0, val_main_cst_1]
  blk_point [iblk, V, idx t]

/-- Window 4's array after the run is the reference's result. -/
theorem final4 (c : Dev nD) : (dats m 0 c).arrAt 4 (cfgs 0).N
    = val_main_v14 (F := Ideal) (m ((c : Thread nD τ).loc main_arg0)) (m ((c : Thread nD τ).loc main_arg1)) := by
  refine (dats m 0 c).arrAt_eq_of_covers 4 _ (by decide +kernel) fun t _ y => ?_
  blk_simp
  rw [after0_4]; frame_out
  exact point4 m c t y

end Cert.Kernel4Ideal.Proj

end
-- ==== Proof.OutProj.lean ====
/- The mixers' output projection: two matrix products added to the residual. -/
module

public import proofs.«01_k».proof.Proof.Gen.Kernel5Ideal.Frame
public import proofs.«01_k».proof.Proof.Gen.Reference5Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel5Ideal.Proj

open Cert.Kernel5Ideal Cert.Kernel5Ideal.Gen
open Cert.Reference5Ideal.Read

variable (m : (ℓ : Loc nD τ sig) → Buf (Elt Ideal) ℓ)

/-- The windows' block indices at every grid point: the rows' windows follow the point, the weights' stay. -/
theorem idx : ∀ t : Fin cfg0.N, win0_0.index t = ![t.val, 0] ∧ win0_1.index t = ![t.val, 0] ∧ win0_2.index t = ![0, 0] ∧ win0_3.index t = ![0, 0] ∧ win0_4.index t = ![t.val, 0] ∧ win0_5.index t = ![t.val, 0] :=
  (by decide +kernel : ∀ t : Fin grid0.N, _)

/-- What a grid point leaves in window 5's block is the reference's result on the block's rows. -/
theorem point5 (c : Dev nD) (t : Fin cfg0.N) (y) : k0_pay1 (iblk m c 4 t) (iblk m c 0 t) (iblk m c 2 t) (iblk m c 1 t) (iblk m c 3 t) y
    = val_main_v3 (F := Ideal) (m ((c : Thread nD τ).loc main_arg0)) (m ((c : Thread nD τ).loc main_arg1)) (m ((c : Thread nD τ).loc main_arg2)) (m ((c : Thread nD τ).loc main_arg3))
        (((cfg0.win 5).blk t).view.emb y) := by
  pointwise [k0_pay1, val_main_v3, val_main_v2, val_main_v1, val_main_v0]
  rw [← add_assoc]
  blk_point [iblk, V, idx t]

/-- Window 5's array after the run is the reference's result. -/
theorem final5 (c : Dev nD) : (dats m 0 c).arrAt 5 (cfgs 0).N
    = val_main_v3 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact point5 m c t y

end Cert.Kernel5Ideal.Proj

end
-- ==== Proof.AttProj.lean ====
/- The attention's output projection: one matrix product added to the residual. -/
module

public import proofs.«01_k».proof.Proof.Gen.Kernel6Ideal.Frame
public import proofs.«01_k».proof.Proof.Gen.Reference6Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel6Ideal.Proj

open Cert.Kernel6Ideal Cert.Kernel6Ideal.Gen
open Cert.Reference6Ideal.Read

variable (m : (ℓ : Loc nD τ sig) → Buf (Elt Ideal) ℓ)

/-- The windows' block indices at every grid point: the rows' windows follow the point, the weights' stay. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- What a grid point leaves in window 3's block is the reference's result on the block's rows. -/
theorem point3 (c : Dev nD) (t : Fin cfg0.N) (y) : k0_pay1 (iblk m c 2 t) (iblk m c 0 t) (iblk m c 1 t) y
    = val_main_v2 (F := Ideal) (m ((c : Thread nD τ).loc main_arg0)) (m ((c : Thread nD τ).loc main_arg1)) (m ((c : Thread nD τ).loc main_arg2))
        (((cfg0.win 3).blk t).view.emb y) := by
  pointwise [k0_pay1, val_main_v2, val_main_v1, val_main_v0]
  blk_point [iblk, V, idx t]

/-- Window 3's array after the run is the reference's result. -/
theorem final3 (c : Dev nD) : (dats m 0 c).arrAt 3 (cfgs 0).N
    = val_main_v2 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point3 m c t y

end Cert.Kernel6Ideal.Proj

end
-- ==== Proof.Projections.lean ====
/- The projections' claims: each kernel's results are its reference's, and each reference leaves its arguments alone. -/
module

public import proofs.«01_k».proof.Defs
public import proofs.«01_k».proof.Proof.Gen.Kernel2Ideal.Value
public import proofs.«01_k».proof.Proof.Gen.Reference2Ideal.Run
public import proofs.«01_k».proof.Proof.InProj
public import proofs.«01_k».proof.Proof.Gen.Kernel3Ideal.Value
public import proofs.«01_k».proof.Proof.Gen.Reference3Ideal.Run
public import proofs.«01_k».proof.Proof.QkvProj
public import proofs.«01_k».proof.Proof.Gen.Kernel4Ideal.Value
public import proofs.«01_k».proof.Proof.Gen.Reference4Ideal.Run
public import proofs.«01_k».proof.Proof.QueryProj
public import proofs.«01_k».proof.Proof.Gen.Kernel5Ideal.Value
public import proofs.«01_k».proof.Proof.Gen.Reference5Ideal.Run
public import proofs.«01_k».proof.Proof.OutProj
public import proofs.«01_k».proof.Proof.Gen.Kernel6Ideal.Value
public import proofs.«01_k».proof.Proof.Gen.Reference6Ideal.Run
public import proofs.«01_k».proof.Proof.AttProj
public import Idealize.ShloMosaic.Lib.Quiescent

@[expose] public section

noncomputable section

namespace Cert.Proof

open Idealize.ShloMosaic Idealize.SL.Sem

/-- The input projection's reference runs, leaves its arguments unchanged and ends with no semaphore raised. -/
theorem frame_reference2 : Cert.quiescent_Reference2Ideal := fun m ρ _ =>
  (θ_run _ _ _).mono (fun r h => ⟨fun c => (h c).2.2, sem_eq_zero_of_no_sems (by decide) r.2⟩)
    (Cert.Reference2Ideal.Value.run (F := Ideal) m ρ)

/-- The input projection: from the same arguments the kernel and its reference end with the same results. -/
theorem algebraic2 : Cert.algebraic_Kernel2Ideal_Reference2Ideal := by
  intro m ρ m' ρ' _ hagree
  refine ⟨_, _, Cert.Kernel2Ideal.Value.run_blocks m ρ,
    (θ_run _ _ _).mono (fun _ h c => ?_) (Cert.Reference2Ideal.Value.run (F := Ideal) m' ρ')⟩
  obtain ⟨h0, h1, h2⟩ := hagree c
  refine ⟨(h c).1.trans ?_, (h c).2.1.trans ?_, (h c).2.2⟩
  · rw [Cert.Reference2Ideal.Read.val_main_v14_eq, h0, h1, h2]
    exact (Cert.Kernel2Ideal.Proj.final3 m c).symm
  · rw [Cert.Reference2Ideal.Read.val_main_v15_eq, h0, h1, h2]
    exact (Cert.Kernel2Ideal.Proj.final4 m c).symm

/-- The query, key and value projection's reference runs, leaves its arguments unchanged and ends with no semaphore raised. -/
theorem frame_reference3 : Cert.quiescent_Reference3Ideal := fun m ρ _ =>
  (θ_run _ _ _).mono (fun r h => ⟨fun c => (h c).2, sem_eq_zero_of_no_sems (by decide) r.2⟩)
    (Cert.Reference3Ideal.Value.run (F := Ideal) m ρ)

/-- The query, key and value projection: from the same arguments the kernel and its reference end with the same results. -/
theorem algebraic3 : Cert.algebraic_Kernel3Ideal_Reference3Ideal := by
  intro m ρ m' ρ' _ hagree
  refine ⟨_, Cert.Kernel3Ideal.Value.run_blocks m ρ,
    (θ_run _ _ _).mono (fun _ h c => ?_) (Cert.Reference3Ideal.Value.run (F := Ideal) m' ρ')⟩
  obtain ⟨h0, h1, h2⟩ := hagree c
  refine ⟨(h c).1.trans ?_, (h c).2⟩
  · rw [Cert.Reference3Ideal.Read.val_main_v13_eq, h0, h1, h2]
    exact (Cert.Kernel3Ideal.Proj.final3 m c).symm

/-- The router query projection's reference runs, leaves its arguments unchanged and ends with no semaphore raised. -/
theorem frame_reference4 : Cert.quiescent_Reference4Ideal := fun m ρ _ =>
  (θ_run _ _ _).mono (fun r h => ⟨fun c => (h c).2.2, sem_eq_zero_of_no_sems (by decide) r.2⟩)
    (Cert.Reference4Ideal.Value.run (F := Ideal) m ρ)

/-- The router query projection: from the same arguments the kernel and its reference end with the same results. -/
theorem algebraic4 : Cert.algebraic_Kernel4Ideal_Reference4Ideal := by
  intro m ρ m' ρ' _ hagree
  refine ⟨_, _, Cert.Kernel4Ideal.Value.run_blocks m ρ,
    (θ_run _ _ _).mono (fun _ h c => ?_) (Cert.Reference4Ideal.Value.run (F := Ideal) m' ρ')⟩
  obtain ⟨h0, h1, h2⟩ := hagree c
  refine ⟨(h c).1.trans ?_, (h c).2.1.trans ?_, (h c).2.2⟩
  · rw [Cert.Reference4Ideal.Read.val_main_v13_eq, h0, h1, h2]
    exact (Cert.Kernel4Ideal.Proj.final3 m c).symm
  · rw [Cert.Reference4Ideal.Read.val_main_v14_eq, h0, h1]
    exact (Cert.Kernel4Ideal.Proj.final4 m c).symm

/-- The mixer output projection's reference runs, leaves its arguments unchanged and ends with no semaphore raised. -/
theorem frame_reference5 : Cert.quiescent_Reference5Ideal := fun m ρ _ =>
  (θ_run _ _ _).mono (fun r h => ⟨fun c => (h c).2, sem_eq_zero_of_no_sems (by decide) r.2⟩)
    (Cert.Reference5Ideal.Value.run (F := Ideal) m ρ)

/-- The mixer output projection: from the same arguments the kernel and its reference end with the same results. -/
theorem algebraic5 : Cert.algebraic_Kernel5Ideal_Reference5Ideal := by
  intro m ρ m' ρ' _ hagree
  refine ⟨_, Cert.Kernel5Ideal.Value.run_blocks m ρ,
    (θ_run _ _ _).mono (fun _ h c => ?_) (Cert.Reference5Ideal.Value.run (F := Ideal) m' ρ')⟩
  obtain ⟨h0, h1, h2, h3⟩ := hagree c
  refine ⟨(h c).1.trans ?_, (h c).2⟩
  · rw [Cert.Reference5Ideal.Read.val_main_v3_eq, h0, h1, h2, h3]
    exact (Cert.Kernel5Ideal.Proj.final5 m c).symm

/-- The attention output projection's reference runs, leaves its arguments unchanged and ends with no semaphore raised. -/
theorem frame_reference6 : Cert.quiescent_Reference6Ideal := fun m ρ _ =>
  (θ_run _ _ _).mono (fun r h => ⟨fun c => (h c).2, sem_eq_zero_of_no_sems (by decide) r.2⟩)
    (Cert.Reference6Ideal.Value.run (F := Ideal) m ρ)

/-- The attention output projection: from the same arguments the kernel and its reference end with the same results. -/
theorem algebraic6 : Cert.algebraic_Kernel6Ideal_Reference6Ideal := by
  intro m ρ m' ρ' _ hagree
  refine ⟨_, Cert.Kernel6Ideal.Value.run_blocks m ρ,
    (θ_run _ _ _).mono (fun _ h c => ?_) (Cert.Reference6Ideal.Value.run (F := Ideal) m' ρ')⟩
  obtain ⟨h0, h1, h2⟩ := hagree c
  refine ⟨(h c).1.trans ?_, (h c).2⟩
  · rw [Cert.Reference6Ideal.Read.val_main_v2_eq, h0, h1, h2]
    exact (Cert.Kernel6Ideal.Proj.final3 m c).symm

end Cert.Proof

end
-- ==== Proof.RetSpec.lean ====
/- Chunkwise retention of one head, on its rows alone: the states of a sweep, a row before and after its normalization. -/
module

public import Idealize.ShloMosaic.Lib.Pipeline.ValueKit

@[expose] public section

set_option maxRecDepth 16384

noncomputable section

namespace Cert.Ret

open Idealize.ShloMosaic

/-- A sweep's state before its chunk `n`: nothing, then decayed by `cd` and increased by the chunk's keys (decayed by
    `kd`) against its values. -/
def state (kd cd : Fin 128 → Fin 128 → EReal) (k v : ℕ → Fin 128 → Fin 128 → EReal) : ℕ → Fin 128 → Fin 128 → EReal
  | 0 => fun _ _ => 0
  | n + 1 => fun d e => state kd cd k v n d e * cd d e + ∑ i, k n i d * kd i d * v n i e

/-- Row `n * 128 + i` of an array of 2048 rows. -/
abbrev row (x : Vec Ideal ⟨2, ![2048, 128]⟩ .f32) (n : ℕ) (i d : Fin 128) : EReal :=
  x (ix2 ⟨(n * 128 + i.val) % 2048, Nat.mod_lt _ (by decide)⟩ d)

/-- A row of a chunk before its normalization: the decayed scores against the values, then the queries against the state
    of either sweep. -/
def mix (q k v : Fin 128 → Fin 128 → EReal) (D qf qb f g : Fin 128 → Fin 128 → EReal) (i e : Fin 128) : EReal :=
  ((∑ j, (∑ d, q i d * k j d) * D i j * v j e) + ∑ d, q i d * qf i d * f d e) + ∑ d, q i d * qb i d * g d e

/-- The mean of a row. -/
def mean (o : Fin 128 → EReal) : EReal := Ideal.div (∑ e, o e) (Ideal.ofBits .f32 0x43000000#32)

/-- A row after its normalization and its gate. -/
def gated (o : Fin 128 → EReal) (eps gn g : EReal) (e : Fin 128) : EReal :=
  (o e - mean o) * Ideal.rsqrt (mean (fun e => (o e - mean o) * (o e - mean o)) + eps) * gn * (g * Ideal.div 1 (1 + Ideal.exp (0 - g)))

/-- Row `i` of chunk `n` of the mixed head: both sweeps' states, then the normalization and the gate. -/
def headRow (q k v g : ℕ → Fin 128 → Fin 128 → EReal) (D kf kb qf qb cf cb : Fin 128 → Fin 128 → EReal) (gn : Fin 128 → EReal)
    (n : ℕ) (i e : Fin 128) : EReal :=
  gated (mix (q n) (k n) (v n) D qf qb (state kf cf k v n) (state kb cb (fun m => k (15 - m)) (fun m => v (15 - m)) (15 - n)) i)
    (Ideal.ofBits .f32 0x358637BD#32) (gn e) (g n i e) e

/-- A row of one sweep: the decayed scores against the values, then the decayed queries against the state. -/
def half (q k v D : Fin 128 → Fin 128 → EReal) (qf : Fin 128 → EReal) (f : Fin 128 → Fin 128 → EReal) (i e : Fin 128) : EReal :=
  (∑ j, (∑ d, q i d * k j d) * D i j * v j e) + ∑ d, q i d * qf i * f d e

/-- Chunk `n` of rows in sequence order. -/
def fwd (f : ℕ → ℕ → EReal) (n : ℕ) (i d : Fin 128) : EReal := f (n * 128 + i.val) d.val

/-- Chunk `n` of rows in reversed order. -/
def bwd (f : ℕ → ℕ → EReal) (n : ℕ) (i d : Fin 128) : EReal := f ((15 - n) * 128 + i.rev.val) d.val

end Cert.Ret

end
-- ==== Proof.RetKernel.lean ====
/- What the retention kernel's body computes at one grid point: the two sweeps' states and the sixteen chunks of rows, in
   closed form. -/
module

public import proofs.«01_k».proof.Proof.RetFrame
public import proofs.«01_k».proof.Proof.RetSpec

@[expose] public section

set_option maxRecDepth 16384

noncomputable section

namespace Cert.KernelIdeal.Ret

open Cert.KernelIdeal.Gen
open Idealize.ShloMosaic Idealize.ShloMosaic.TcCoe
open Cert.Ret

/-- Each loop makes sixteen trips. -/
theorem trips1 : k0_t1_loop.trips = 16 := by decide +kernel
theorem trips2 : k0_t2_loop.trips = 16 := by decide +kernel

/-- Where each trip reads and writes. -/
theorem off1_eq : ∀ k : Fin k0_t1_loop.trips, k0_off1 k = ![15 - k.val, 0, 0] := by decide +kernel
theorem off2_eq : ∀ k : Fin k0_t1_loop.trips, k0_off2 k = ![(15 - k.val) * 128, 0] := by decide +kernel
theorem off3_eq : ∀ k : Fin k0_t2_loop.trips, k0_off3 k = ![k.val * 128, 0] := by decide +kernel
theorem off4_eq : ∀ k : Fin k0_t2_loop.trips, k0_off4 k = ![k.val, 0, 0] := by decide +kernel

/-- A matrix as a function of two coordinates. -/
abbrev at2 (x : Vec Ideal S128x128 .f32) (i d : Fin 128) : EReal := x (ix2 i d)
abbrev at4 (x : Vec Ideal S1x1x128x128 .f32) (i d : Fin 128) : EReal := x (ix4 0 0 i d)

/-- A block of 128 rows places its rows at the array's. -/
theorem idx_rows (off : Fin 2 → ℕ) (h : ∀ a, off a + S128x128.size a ≤ S2048x128.size a) (n : ℕ) (hn : n < 16)
    (ho : off = ![n * 128, 0]) (i d : Fin 128) : (Rect.unit (s := S2048x128) off S128x128.size h).toLoadRect.idx (ix2 i d)
      = (ix2 ⟨(n * 128 + i.val) % 2048, Nat.mod_lt _ (by decide)⟩ d : S2048x128.Idx) := by
  subst ho
  refine funext fun a => Fin.ext ?_
  match a with
  | ⟨0, _⟩ =>
    show n * 128 + 1 * i.val = (n * 128 + i.val) % 2048
    rw [Nat.mod_eq_of_lt (by omega)]; omega
  | ⟨1, _⟩ => show 0 + 1 * d.val = d.val; omega

/-- A block of 128 rows, read. -/
theorem rows_fun (x : Vec Ideal S2048x128 .f32) (off : Fin 2 → ℕ) (h : ∀ a, off a + S128x128.size a ≤ S2048x128.size a) (n : ℕ)
    (hn : n < 16) (ho : off = ![n * 128, 0]) (y : Vec Ideal S128x128 .f32)
    (hy : y = fun z => x ((Rect.unit (s := S2048x128) off S128x128.size h).toLoadRect.idx z)) : at2 y = row x n := by
  subst hy
  funext i d
  exact congrArg x (idx_rows off h n hn ho i d)

/-- A slot of the scratch of states places its matrix in it. -/
theorem idx_slot (off : Fin 3 → ℕ) (h : ∀ a, off a + S1x128x128.size a ≤ S16x128x128.size a)
    (n : Fin 16) (ho : off = ![n.val, 0, 0]) (d e : Fin 128) :
    (Rect.unit (s := S16x128x128) off S1x128x128.size h).toLoadRect.idx (ix3 0 d e) = (ix3 n d e : S16x128x128.Idx) := by
  subst ho
  refine funext fun a => Fin.ext ?_
  match a with
  | ⟨0, _⟩ => show n.val + 1 * 0 = n.val; omega
  | ⟨1, _⟩ => show 0 + 1 * d.val = d.val; omega
  | ⟨2, _⟩ => show 0 + 1 * e.val = e.val; omega

/-- What the last write of a list leaves where its rectangle places an index. -/
theorem canon_at {s : Shape} {e : EltTy} (r : Rect s) (w : r.shape.Idx → Elt Ideal e) (L : List (View.Piece (Elt Ideal) s e))
    (x : r.shape.Idx) (y : s.Idx) (h : r.toLoadRect.idx x = y) : View.canon (⟨r, w⟩ :: L) y = w x := by
  subst h
  exact View.canon_cons_emb r w L x

/-- What a block of 128 rows written last leaves at its rows. -/
theorem canon_rows (off : Fin 2 → ℕ) (h : ∀ a, off a + S128x128.size a ≤ S2048x128.size a) (n : ℕ) (hn : n < 16)
    (ho : off = ![n * 128, 0]) (w : Vec Ideal S128x128 .bf16) (L : List (View.Piece (Elt Ideal) S2048x128 .bf16)) (i e : Fin 128) :
    View.canon ([⟨Rect.unit (s := S2048x128) off S128x128.size h, w⟩] ++ L)
      (ix2 ⟨(n * 128 + i.val) % 2048, Nat.mod_lt _ (by decide)⟩ e) = w (ix2 i e) :=
  canon_at (Rect.unit (s := S2048x128) off S128x128.size h) w L (ix2 i e) _ (idx_rows off h n hn ho i e)

/-- The backward sweep's state before trip `k`. -/
abbrev bst (kb : Vec Ideal S128x128 .f32) (cb : Vec Ideal S1x1x128x128 .f32) (ks v : Vec Ideal S2048x128 .f32) : ℕ → Fin 128 → Fin 128 → EReal :=
  state (at2 kb) (at4 cb) (fun m => row ks (15 - m)) (fun m => row v (15 - m))

/-- The forward sweep's state before trip `k`. -/
abbrev fst (kf : Vec Ideal S128x128 .f32) (cf : Vec Ideal S1x1x128x128 .f32) (ks v : Vec Ideal S2048x128 .f32) : ℕ → Fin 128 → Fin 128 → EReal :=
  state (at2 kf) (at4 cf) (row ks) (row v)

/-- The backward sweep: what it carries before trip `k`, and the states it has stored by then, the last chunk's first. -/
theorem bwd_seq (S : ℕ → FVec Ideal S128x128 .f32 × List (View.Piece (Elt Ideal) S16x128x128 .f32))
    (kb : FVec Ideal S128x128 .f32) (cb : Vec Ideal S1x1x128x128 .f32) (ks v : Vec Ideal S2048x128 .f32) (h0 : (S 0).1 = k0_pay2)
    (hs : ∀ k : Fin k0_t1_loop.trips, ∃ a b : Vec Ideal S128x128 .f32,
      a = (fun y => ks ((Rect.unit (s := S2048x128) (k0_off2 k) S128x128.size (k0_off2_inb k)).toLoadRect.idx y))
      ∧ b = (fun y => v ((Rect.unit (s := S2048x128) (k0_off2 k) S128x128.size (k0_off2_inb k)).toLoadRect.idx y))
      ∧ S (k.val + 1) = (k0_pay4 kb cb (S k.val).1 a b, [⟨Rect.unit (s := S16x128x128) (k0_off1 k) S1x128x128.size (k0_off1_inb k), k0_pay3 (S k.val).1⟩] ++ (S k.val).2)) :
    ∀ k ≤ 16, (∀ d e, (S k).1 (ix2 d e) = bst kb cb ks v k d e)
      ∧ ∀ n : Fin 16, 16 ≤ n.val + k → ∀ d e, View.canon (S k).2 (ix3 n d e) = bst kb cb ks v (15 - n.val) d e := by
  intro k
  induction k with
  | zero => exact fun _ => ⟨fun d e => by rw [h0]; pointwise [k0_pay2]; rfl, fun n h => absurd h (by have := n.isLt; omega)⟩
  | succ k ih =>
    intro hk
    obtain ⟨ih1, ih2⟩ := ih (by omega)
    have hkt : k < k0_t1_loop.trips := trips1 ▸ hk
    obtain ⟨a, b, ha, hb, h⟩ := hs ⟨k, hkt⟩
    have h16 : 15 - k < 16 := by omega
    have ho := off2_eq ⟨k, hkt⟩
    have hrow := fun x y => rows_fun x (k0_off2 ⟨k, hkt⟩) (k0_off2_inb ⟨k, hkt⟩) (15 - k) h16 ho y
    rw [h]
    refine ⟨fun d e => ?_, fun n hn d e => ?_⟩
    · have hp : ∀ (acc a b : Vec Ideal S128x128 .f32), k0_pay4 (F := Ideal) kb cb acc a b (ix2 d e)
          = acc (ix2 d e) * cb (ix4 0 0 d e) + ∑ x, at2 a x d * kb (ix2 x d) * at2 b x e := fun acc a b => by
        pointwise [k0_pay4]
      refine (hp _ _ _).trans ?_
      rw [ih1, hrow ks a ha, hrow v b hb]
      rfl
    · by_cases e1 : n.val = 15 - k
      · refine (canon_at _ _ _ (ix3 0 d e) _ (idx_slot _ _ n ((off1_eq ⟨k, hkt⟩).trans ?_) d e)).trans ?_
        · rw [e1]
        have hp : ∀ (acc : FVec Ideal S128x128 .f32), k0_pay3 (F := Ideal) acc (ix3 0 d e) = acc (ix2 d e) := fun acc => by
          pointwise [k0_pay3]
        refine (hp _).trans ((ih1 d e).trans ?_)
        rw [show 15 - n.val = k by omega]
      · refine (View.canon_cons_of_not_mem _ _ fun hm => e1 ?_).trans (ih2 n (by omega) d e)
        obtain ⟨x, hx⟩ := LoadRect.exists_idx_of_mem (Rect.toLoadRect _) hm
        have h1 : (k0_off1 ⟨k, hkt⟩) 0 + 1 * (x 0).val = n.val := congrArg (fun z => (z 0).val) hx
        have h2 : (x 0).val < 1 := (x 0).isLt
        have h3 : (k0_off1 ⟨k, hkt⟩) 0 = 15 - k := congrFun (off1_eq ⟨k, hkt⟩) 0
        omega

/-- The rows of a chunk before their normalization, over the forward sweep's state and the stored backward one. -/
abbrev mixed (kf kb qf : FVec Ideal S128x128 .f32) (qb cf cb : Vec Ideal S1x1x128x128 .f32) (D : Vec Ideal S1x128x128 .f32)
    (qs ks v : Vec Ideal S2048x128 .f32) (n : ℕ) : Fin 128 → Fin 128 → EReal :=
  mix (row qs n) (row ks n) (row v n) (fun i j => D (ix3 0 i j)) (at2 qf) (at4 qb) (fst kf cf ks v n) (bst kb cb ks v (15 - n))

/-- The chunk's rows after it. -/
abbrev final (kf kb qf : FVec Ideal S128x128 .f32) (qb cf cb : Vec Ideal S1x1x128x128 .f32) (D : Vec Ideal S1x128x128 .f32)
    (gn : Vec Ideal S1x128 .f32) (qs ks v g : Vec Ideal S2048x128 .f32) (n : ℕ) (i e : Fin 128) : EReal :=
  gated (mixed kf kb qf qb cf cb D qs ks v n i) (Ideal.ofBits .f32 0x358637BD#32) (gn (ix2 0 e)) (row g n i e) e

/-- One trip's rows as the body writes them. -/
theorem trip_out (qf : FVec Ideal S128x128 .f32) (qb : Vec Ideal S1x1x128x128 .f32) (acc a b c g : Vec Ideal S128x128 .f32)
    (D G : Vec Ideal S1x128x128 .f32) (gn : Vec Ideal S1x128 .f32) (i e : Fin 128) :
    k0_pay6 (F := Ideal) (k0_pay9 qf (k0_pay1 qb) acc a b c D G) (k0_pay10 qf (k0_pay1 qb) acc a b c D G)
        (FloatOps.ofBits .f32 897988541#32) g gn (ix2 i e)
      = gated (mix (at2 a) (at2 b) (at2 c) (fun i j => D (ix3 0 i j)) (at2 qf) (at4 qb) (at2 acc) (fun d e => G (ix3 0 d e)) i)
          (Ideal.ofBits .f32 0x358637BD#32) (gn (ix2 0 e)) (g (ix2 i e)) e := by
  have h9 : ∀ i e, k0_pay9 (F := Ideal) qf (k0_pay1 qb) acc a b c D G (ix2 i e)
      = mix (at2 a) (at2 b) (at2 c) (fun i j => D (ix3 0 i j)) (at2 qf) (at4 qb) (at2 acc) (fun d e => G (ix3 0 d e)) i e
        - mean (mix (at2 a) (at2 b) (at2 c) (fun i j => D (ix3 0 i j)) (at2 qf) (at4 qb) (at2 acc) (fun d e => G (ix3 0 d e)) i) :=
    fun i e => by pointwise [k0_pay9, k0_pay1, k0_pay8]; rfl
  have h10 : k0_pay10 (F := Ideal) qf (k0_pay1 qb) acc a b c D G (ix2 i 0)
      = mean fun e => k0_pay9 (F := Ideal) qf (k0_pay1 qb) acc a b c D G (ix2 i e) * k0_pay9 (F := Ideal) qf (k0_pay1 qb) acc a b c D G (ix2 i e) := by
    pointwise [k0_pay10]; rfl
  have h6 : ∀ (o : FVec Ideal S128x128 .f32) (s : FVec Ideal S128x1 .f32) (eps : Ideal .f32), k0_pay6 (F := Ideal) o s eps g gn (ix2 i e)
      = o (ix2 i e) * Ideal.rsqrt (s (ix2 i 0) + eps) * gn (ix2 0 e) * (g (ix2 i e) * Ideal.div 1 (1 + Ideal.exp (0 - g (ix2 i e)))) :=
    fun o s eps => by pointwise [k0_pay6]
  refine (h6 _ _ _).trans ?_
  rw [h10]
  simp only [h9]
  rfl

/-- The forward sweep: what it carries before trip `k`, and the rows it has written by then. -/
theorem fwd_seq (S : ℕ → FVec Ideal S128x128 .f32 × List (View.Piece (Elt Ideal) S2048x128 .bf16))
    (kf kb qf : FVec Ideal S128x128 .f32) (qb cf cb : Vec Ideal S1x1x128x128 .f32) (D : Vec Ideal S1x128x128 .f32)
    (gn : Vec Ideal S1x128 .f32) (qs ks v g : Vec Ideal S2048x128 .f32) (sb : Vec Ideal S16x128x128 .f32) (h0 : (S 0).1 = k0_pay5)
    (hb : ∀ (n : Fin 16) d e, sb (ix3 n d e) = bst kb cb ks v (15 - n.val) d e)
    (hs : ∀ k : Fin k0_t2_loop.trips, ∃ a b c g' : Vec Ideal S128x128 .f32, ∃ G : Vec Ideal S1x128x128 .f32,
      a = (fun y => qs ((Rect.unit (s := S2048x128) (k0_off3 k) S128x128.size (k0_off3_inb k)).toLoadRect.idx y))
      ∧ b = (fun y => ks ((Rect.unit (s := S2048x128) (k0_off3 k) S128x128.size (k0_off3_inb k)).toLoadRect.idx y))
      ∧ c = (fun y => v ((Rect.unit (s := S2048x128) (k0_off3 k) S128x128.size (k0_off3_inb k)).toLoadRect.idx y))
      ∧ g' = (fun y => g ((Rect.unit (s := S2048x128) (k0_off3 k) S128x128.size (k0_off3_inb k)).toLoadRect.idx y))
      ∧ G = (fun y => sb ((Rect.unit (s := S16x128x128) (k0_off4 k) S1x128x128.size (k0_off4_inb k)).toLoadRect.idx y))
      ∧ S (k.val + 1) = (k0_pay7 kf cf (S k.val).1 b (k0_pay8 c),
        [⟨Rect.unit (s := S2048x128) (k0_off3 k) S128x128.size (k0_off3_inb k),
          k0_pay6 (k0_pay9 qf (k0_pay1 qb) (S k.val).1 a b c D G) (k0_pay10 qf (k0_pay1 qb) (S k.val).1 a b c D G)
            (FloatOps.ofBits .f32 897988541#32) g' gn⟩] ++ (S k.val).2)) :
    ∀ k ≤ 16, (∀ d e, (S k).1 (ix2 d e) = fst kf cf ks v k d e)
      ∧ ∀ n < k, ∀ i e : Fin 128, View.canon (S k).2 (ix2 ⟨(n * 128 + i.val) % 2048, Nat.mod_lt _ (by decide)⟩ e)
          = final kf kb qf qb cf cb D gn qs ks v g n i e := by
  intro k
  induction k with
  | zero => exact fun _ => ⟨fun d e => by rw [h0]; pointwise [k0_pay5]; rfl, fun n h => absurd h (by omega)⟩
  | succ k ih =>
    intro hk
    obtain ⟨ih1, ih2⟩ := ih (by omega)
    have hkt : k < k0_t2_loop.trips := trips2 ▸ hk
    obtain ⟨a, b, c, g', G, ha, hb', hc, hg, hG, h⟩ := hs ⟨k, hkt⟩
    have h16 : k < 16 := by omega
    have ho := off3_eq ⟨k, hkt⟩
    have hrow := fun x y => rows_fun x (k0_off3 ⟨k, hkt⟩) (k0_off3_inb ⟨k, hkt⟩) k h16 ho y
    rw [h]
    refine ⟨fun d e => ?_, fun n hn i e => ?_⟩
    · have hp : ∀ (acc a b : Vec Ideal S128x128 .f32), k0_pay7 (F := Ideal) kf cf acc a (k0_pay8 b) (ix2 d e)
          = acc (ix2 d e) * cf (ix4 0 0 d e) + ∑ x, at2 a x d * kf (ix2 x d) * at2 b x e := fun acc a b => by
        pointwise [k0_pay7, k0_pay8]
      refine (hp _ _ _).trans ?_
      rw [ih1, hrow ks b hb', hrow v c hc]
      rfl
    · by_cases e1 : n = k
      · subst e1
        refine (canon_rows (k0_off3 ⟨n, hkt⟩) (k0_off3_inb ⟨n, hkt⟩) n h16 ho _ _ i e).trans ?_
        refine (trip_out qf qb _ a b c g' D G gn i e).trans ?_
        have hacc : at2 (S n).1 = fst kf cf ks v n := funext fun d => funext fun e => ih1 d e
        have hGe : (fun d e => G (ix3 0 d e)) = bst kb cb ks v (15 - n) := by
          subst hG; funext d e
          exact (congrArg sb (idx_slot _ _ ⟨n, h16⟩ (off4_eq ⟨n, hkt⟩) d e)).trans (hb ⟨n, h16⟩ d e)
        rw [hrow qs a ha, hrow ks b hb', hrow v c hc, hacc, hGe, show g' (ix2 i e) = row g n i e from congrFun (congrFun (hrow g g' hg) i) e]
      · refine (View.canon_cons_of_not_mem _ _ fun hm => e1 ?_).trans (ih2 n (by omega) i e)
        obtain ⟨x, hx⟩ := LoadRect.exists_idx_of_mem (Rect.toLoadRect _) hm
        have h1 : (k0_off3 ⟨k, hkt⟩) 0 + 1 * (x 0).val = (n * 128 + i.val) % 2048 := congrArg (fun z => (z 0).val) hx
        have h2 : (x 0).val < 128 := (x 0).isLt
        have h3 : (k0_off3 ⟨k, hkt⟩) 0 = k * 128 := congrFun ho 0
        rw [Nat.mod_eq_of_lt (by omega)] at h1
        omega

end Cert.KernelIdeal.Ret

end
-- ==== Proof.RetBody.lean ====
/- The retention kernel's body at one grid point: its two loops are the two sweeps, so the block it leaves is the sixteen
   chunks of rows of Proof/RetKernel.lean. -/
module

public import proofs.«01_k».proof.Proof.RetKernel
public import Idealize.ShloMosaic.Lib.VecWindow
public import Idealize.ShloMosaic.Lib.WholeRead

@[expose] public section

set_option maxRecDepth 16384

noncomputable section

namespace Cert.KernelIdeal.Ret

open Cert.KernelIdeal.Gen
open Idealize.ShloMosaic Idealize.ShloMosaic.TcCoe
open Cert.Ret

variable (c : Dev nD) (i : grid0.Coords)
  (arg2 : Memref sig .tc .vmem S2048x128 .f32) (harg2 : arg2.IsWhole)
  (arg3 : Memref sig .tc .vmem S2048x128 .f32) (harg3 : arg3.IsWhole)
  (arg4 : Memref sig .tc .vmem S2048x128 .f32) (harg4 : arg4.IsWhole)
  (arg5 : Memref sig .tc .vmem S2048x128 .f32) (harg5 : arg5.IsWhole)
  (arg6 : Memref sig .tc .vmem S2048x128 .f32) (harg6 : arg6.IsWhole)
  (arg7 : Memref sig .tc .vmem S2048x128 .f32) (harg7 : arg7.IsWhole)
  (arg8 : Memref sig .tc .vmem S1x128x128 .f32) (harg8 : arg8.IsWhole)
  (arg9 : Memref sig .tc .vmem S1x6x128x128 .f32) (harg9 : arg9.IsWhole)
  (arg10 : Memref sig .tc .vmem S1x128 .f32) (harg10 : arg10.IsWhole)
  (arg11 : Memref sig .tc .vmem S2048x128 .bf16) (harg11 : arg11.IsWhole)
  (arg12 : Memref sig .tc .vmem S2048x128 .f32) (harg12 : arg12.IsWhole)
  (arg13 : Memref sig .tc .vmem S2048x128 .f32) (harg13 : arg13.IsWhole)
  (arg14 : Memref sig .tc .vmem S16x128x128 .f32) (harg14 : arg14.IsWhole)

/-- The backward loop leaves in its scratch the state each chunk starts from. -/
theorem bwd_body (kb : FVec Ideal S128x128 .f32) (cb : Vec Ideal S1x1x128x128 .f32) (X4 : BufTy.Contents (Elt Ideal) arg4.view.ty)
    (X13 : BufTy.Contents (Elt Ideal) arg13.view.ty) (ks v : Vec Ideal S2048x128 .f32) (h13 : arg13.view.read (Elt Ideal) X13 = ks)
    (h4 : arg4.view.read (Elt Ideal) X4 = v) (n : Fin 16) (d e : Fin 128) :
    View.canon (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14
      kb cb X4 X13 k0_pay2 k0_t1_loop.trips).2 (ix3 n d e) = bst kb cb ks v (15 - n.val) d e := by
  subst h13 h4
  rw [trips1]
  refine (bwd_seq _ kb cb _ _ rfl (fun k => ?_) 16 le_rfl).2 n (by omega) d e
  refine ⟨_, _, rfl, rfl, (st_k0_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 kb cb X4 X13 k0_pay2 k).trans ?_⟩
  unfold tripR_k0_t1 tripL_k0_t1 trip_k0_t1
  rfl

/-- The forward loop leaves the chunks' rows. -/
theorem fwd_body (kf kb qf : FVec Ideal S128x128 .f32) (qb cf cb : Vec Ideal S1x1x128x128 .f32) (D : Vec Ideal S1x128x128 .f32)
    (gn : Vec Ideal S1x128 .f32) (X4 : BufTy.Contents (Elt Ideal) arg4.view.ty)
    (X5 : BufTy.Contents (Elt Ideal) arg5.view.ty) (X8 : BufTy.Contents (Elt Ideal) arg8.view.ty)
    (X10 : BufTy.Contents (Elt Ideal) arg10.view.ty) (X12 : BufTy.Contents (Elt Ideal) arg12.view.ty)
    (X13 : BufTy.Contents (Elt Ideal) arg13.view.ty) (X14 : BufTy.Contents (Elt Ideal) arg14.view.ty)
    (qs ks v g : Vec Ideal S2048x128 .f32) (h12 : arg12.view.read (Elt Ideal) X12 = qs) (h13 : arg13.view.read (Elt Ideal) X13 = ks)
    (h4 : arg4.view.read (Elt Ideal) X4 = v) (h5 : arg5.view.read (Elt Ideal) X5 = g)
    (h8 : arg8.view.read (Elt Ideal) X8 = D) (h10 : arg10.view.read (Elt Ideal) X10 = gn)
    (hb : ∀ (n : Fin 16) d e, arg14.view.read (Elt Ideal) X14 (ix3 n d e) = bst kb cb ks v (15 - n.val) d e)
    (n : ℕ) (hn : n < 16) (r e : Fin 128) :
    View.canon (st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14
      kf qf qb cf X4 X5 X8 X10 X12 X13 X14 k0_pay5 k0_t2_loop.trips).2
        (ix2 ⟨(n * 128 + r.val) % 2048, Nat.mod_lt _ (by decide)⟩ e)
      = final kf kb qf qb cf cb D gn qs ks v g n r e := by
  subst h12 h13 h4 h5
  rw [trips2]
  refine (fwd_seq _ kf kb qf qb cf cb D gn _ _ _ _ (arg14.view.read (Elt Ideal) X14) rfl hb (fun k => ?_) 16 le_rfl).2 n hn r e
  refine ⟨_, _, _, _, _, rfl, rfl, rfl, rfl, rfl, (st_k0_t2_succ (F := Ideal) Variants.none c none i arg2 harg2 arg3 harg3 arg4 harg4 arg5 harg5 arg6 harg6 arg7 harg7 arg8 harg8 arg9 harg9 arg10 harg10 arg11 harg11 arg12 harg12 arg13 harg13 arg14 harg14 kf qf qb cf X4 X5 X8 X10 X12 X13 X14 k0_pay5 k).trans ?_⟩
  have e8 : ∀ h, View.readAt (Elt Ideal) arg8.view (Rect.unit (s := S1x128x128) ![0, 0, 0] S1x128x128.size h).toLoadRect X8 = D :=
    fun h => (View.readAt_full _ _ h).trans h8
  have e10 : ∀ h, View.readAt (Elt Ideal) arg10.view (Rect.unit (s := S1x128) ![0, 0] S1x128.size h).toLoadRect X10 = gn :=
    fun h => (View.readAt_full _ _ h).trans h10
  unfold tripR_k0_t2 tripL_k0_t2 trip_k0_t2
  rw [← e8 (by decide), ← e10 (by decide)]
  rfl

/-- A read of one table's matrix out of the array of six. -/
theorem slot_read {a : Memref sig .tc .vmem S1x6x128x128 .f32} (ha : a.IsWhole) (x : Vec Ideal S1x6x128x128 .f32) (s : Fin 6)
    (h : ∀ a, (![0, s.val, 0, 0] : Fin 4 → ℕ) a + S1x1x128x128.size a ≤ S1x6x128x128.size a) (i d : Fin 128) :
    View.readAt (Elt Ideal) a.view (Rect.unit (s := S1x6x128x128) ![0, s.val, 0, 0] S1x1x128x128.size h).toLoadRect (ha.unread x) (ix4 0 0 i d)
      = x (ix4 0 s i d) := by
  refine (ha.readAt_unread x _ _).trans (congrArg x (funext fun a => Fin.ext ?_))
  match a with
  | ⟨0, _⟩ => rfl
  | ⟨1, _⟩ => show s.val + 1 * 0 = s.val; omega
  | ⟨2, _⟩ => show 0 + 1 * i.val = i.val; omega
  | ⟨3, _⟩ => show 0 + 1 * d.val = d.val; omega

/-- The block the body leaves, row by row, of the blocks it reads. -/
theorem out_body (x0 x1 x2 x3 x4 x5 : Vec Ideal S2048x128 .f32) (x6 : Vec Ideal S1x128x128 .f32) (x7 : Vec Ideal S1x6x128x128 .f32)
    (x8 : Vec Ideal S1x128 .f32) (n : ℕ) (hn : n < 16) (r e : Fin 128) :
    out0_A_9 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8
        (ix2 ⟨(n * 128 + r.val) % 2048, Nat.mod_lt _ (by decide)⟩ e)
      = headRow (row (k0_pay13 x4 x5 x0)) (row (k0_pay14 x4 x5 x1)) (row x2) (row x3) (fun i j => x6 (ix3 0 i j))
          (fun i d => x7 (ix4 0 0 i d)) (fun i d => x7 (ix4 0 1 i d)) (fun i d => x7 (ix4 0 2 i d)) (fun i d => x7 (ix4 0 3 i d))
          (fun i d => x7 (ix4 0 4 i d)) (fun i d => x7 (ix4 0 5 i d)) (fun e => x8 (ix2 0 e)) n r e := by
  unfold out0_A_9
  rw [View.read_writes_junk_eq_canon]
  unfold kernelRun0_A
  dsimp only
  have hq : arg12.view.read (Elt Ideal) (arg12.view.writes (Elt Ideal) arg12.view.junk
      (kernelRun0_A.sl.HS0_1 c arg2 harg2 arg6 harg6 arg7 harg7 x0 x4 x5)) = k0_pay13 x4 x5 x0 := by
    unfold kernelRun0_A.sl.HS0_1
    rw [View.read_writes_full, View.readAt_full, View.readAt_full, View.readAt_full, harg2.read_unread, harg6.read_unread, harg7.read_unread]
  have hk : arg13.view.read (Elt Ideal) (arg13.view.writes (Elt Ideal) arg13.view.junk
      (kernelRun0_A.sl.HS1_1 c arg3 harg3 arg6 harg6 arg7 harg7 x1 x4 x5)) = k0_pay14 x4 x5 x1 := by
    unfold kernelRun0_A.sl.HS1_1
    rw [View.read_writes_full, View.readAt_full, View.readAt_full, View.readAt_full, harg3.read_unread, harg6.read_unread, harg7.read_unread]
  refine (fwd_body c i arg2 harg2 arg3 harg3 arg4 harg4 arg5 harg5 arg6 harg6 arg7 harg7 arg8 harg8 arg9 harg9 arg10 harg10 arg11 harg11 arg12 harg12 arg13 harg13 arg14 harg14 _ (kernelRun0_A.sl.r_1 c arg9 harg9 x7) _ _ _ (kernelRun0_A.sl.v32 c arg9 harg9 x7) x6 x8
    _ _ _ _ _ _ _ _ _ x2 x3 hq hk (harg4.read_unread x2) (harg5.read_unread x3) (harg8.read_unread x6) (harg10.read_unread x8)
    (fun n d e => ?_) n hn r e).trans ?_
  · rw [View.read_writes_junk_eq_canon]
    exact bwd_body c i arg2 harg2 arg3 harg3 arg4 harg4 arg5 harg5 arg6 harg6 arg7 harg7 arg8 harg8 arg9 harg9 arg10 harg10 arg11 harg11 arg12 harg12 arg13 harg13 arg14 harg14 _ _ _ _ _ x2 hk (harg4.read_unread x2) n d e
  · have hp : ∀ (y : Vec Ideal S1x1x128x128 .f32) (i d : Fin 128), k0_pay15 (F := Ideal) y (ix2 i d) = y (ix4 0 0 i d) := fun y i d => by
      pointwise [k0_pay15]
    have e0 : at2 (kernelRun0_A.sl.r c arg9 harg9 x7) = fun i d => x7 (ix4 0 0 i d) := by
      funext i d
      unfold kernelRun0_A.sl.r
      exact (hp _ _ _).trans (slot_read harg9 x7 0 _ i d)
    have e1 : at2 (kernelRun0_A.sl.r_1 c arg9 harg9 x7) = fun i d => x7 (ix4 0 1 i d) := by
      funext i d
      unfold kernelRun0_A.sl.r_1
      exact (hp _ _ _).trans (slot_read harg9 x7 1 _ i d)
    have e2 : at2 (kernelRun0_A.sl.r_2 c arg9 harg9 x7) = fun i d => x7 (ix4 0 2 i d) := by
      funext i d
      unfold kernelRun0_A.sl.r_2
      exact (hp _ _ _).trans (slot_read harg9 x7 2 _ i d)
    have e3 : at4 (kernelRun0_A.sl.v28 c arg9 harg9 x7) = fun i d => x7 (ix4 0 3 i d) := by
      funext i d
      unfold kernelRun0_A.sl.v28
      exact (slot_read harg9 x7 3 _ i d)
    have e4 : at4 (kernelRun0_A.sl.v30 c arg9 harg9 x7) = fun i d => x7 (ix4 0 4 i d) := by
      funext i d
      unfold kernelRun0_A.sl.v30
      exact (slot_read harg9 x7 4 _ i d)
    have e5 : at4 (kernelRun0_A.sl.v32 c arg9 harg9 x7) = fun i d => x7 (ix4 0 5 i d) := by
      funext i d
      unfold kernelRun0_A.sl.v32
      exact (slot_read harg9 x7 5 _ i d)
    unfold final mixed fst bst
    rw [e0, e1, e2, e3, e4, e5]
    rfl

end Cert.KernelIdeal.Ret

end
-- ==== Proof.RetScalar.lean ====
/- The tables of a retention head as scalars: the decay of a head, the weights of a chunk's positions, the angles of the
   rotation. -/
module

public import Idealize.ShloMosaic.Lib.Pipeline.ValueKit

@[expose] public section

set_option maxRecDepth 16384

noncomputable section

namespace Cert.Ret

open Idealize.ShloMosaic

/-- The logarithm of a head's decay: minus the softplus of minus its parameter. -/
def lgOf (u : EReal) : EReal :=
  -(if -u ≠ -u then -u else max (-u) 0 + Ideal.log1p (Ideal.exp (-(FloatOps.absf (F := Ideal) (φ := FTy.f32) (-u)))))

/-- A position as a number. -/
def num (i : ℕ) : EReal := FloatOps.sitofp (F := Ideal) FTy.f32 (BitVec.ofNat 32 i)

/-- The weight between two positions of a chunk, the later one reading the earlier one or itself. -/
def decF (a : EReal) (i j : Fin 128) : EReal :=
  if 0 ≤ num i.val - num j.val then Ideal.exp (a * max (num i.val - num j.val) 0) else 0

/-- The weight between two positions of a chunk, the earlier one reading the later one. -/
def decK (a : EReal) (i j : Fin 128) : EReal :=
  if num i.val - num j.val < 0 then Ideal.exp (a * max (-(num i.val - num j.val)) 0) else 0

/-- The same weight in the reversed chunk. -/
def decB (a : EReal) (i j : Fin 128) : EReal :=
  if 0 < num i.val - num j.val then Ideal.exp (a * max (num i.val - num j.val) 0) else 0

/-- The weight that counts a position from the end of its chunk. -/
def wEnd (a : EReal) (i : Fin 128) : EReal := Ideal.exp (a * (Ideal.ofBits .f32 0x42FE0000#32 - num i.val))

/-- The weight that counts a position from the start of its chunk. -/
def wPos (a : EReal) (i : Fin 128) : EReal := Ideal.exp (a * num i.val)

/-- The weight of one position more. -/
def wNext (a : EReal) (i : Fin 128) : EReal := Ideal.exp (a * (num i.val + 1))

/-- The weight that counts a position from the start of the next chunk. -/
def wLeft (a : EReal) (i : Fin 128) : EReal := Ideal.exp (a * (Ideal.ofBits .f32 0x43000000#32 - num i.val))

/-- The decay over a chunk. -/
def wAll (a : EReal) : EReal := Ideal.exp (a * Ideal.ofBits .f32 0x43000000#32)

/-- The angle of position `t` in plane `j`. -/
def ang (t j : ℕ) : EReal :=
  num t * Ideal.pow (Ideal.ofBits .f32 0x461C4000#32) (Ideal.div (-num j) (Ideal.ofBits .f32 0x42800000#32))

/-- Element `d` of head `h` of part `o` of a sequence's row `t`: the parts of a row (queries, keys, values, gate) lie one
    after another, a part's heads likewise. -/
def cell (x : FVec Ideal ⟨2, ![65536, 2048]⟩ .f32) (o b h t d : ℕ) : EReal :=
  x (ix2 ⟨(b * 2048 + t) % 65536, Nat.mod_lt _ (by decide)⟩ ⟨(o * 512 + h * 128 + d) % 2048, Nat.mod_lt _ (by decide)⟩)

theorem cell_eq (x : FVec Ideal ⟨2, ![65536, 2048]⟩ .f32) (o b h t d : ℕ) (r k : ℕ) (hr : r < 65536) (hk : k < 2048)
    (er : r = b * 2048 + t) (ek : k = o * 512 + h * 128 + d) : x (ix2 ⟨r, hr⟩ ⟨k, hk⟩) = cell x o b h t d := by
  subst er ek
  unfold cell
  simp only [Nat.mod_eq_of_lt hr, Nat.mod_eq_of_lt hk]

/-- A row rotated by its position: plane `j` holds elements `j` and `64 + j`. -/
def rot (x : ℕ → EReal) (t d : ℕ) : EReal :=
  if d < 64 then x d * Ideal.cos (ang t d) - x (64 + d) * Ideal.sin (ang t d)
  else x (d - 64) * Ideal.sin (ang t (d - 64)) + x d * Ideal.cos (ang t (d - 64))

/-- A query, rotated. -/
def qAt (x : FVec Ideal ⟨2, ![65536, 2048]⟩ .f32) (b h t d : ℕ) : EReal := rot (cell x 0 b h t) t d

/-- A key, rotated and scaled. -/
def kAt (x : FVec Ideal ⟨2, ![65536, 2048]⟩ .f32) (b h t d : ℕ) : EReal :=
  rot (cell x 1 b h t) t d * Ideal.ofBits .f32 0x3DB504F3#32

end Cert.Ret

end
-- ==== Proof.RetTables.lean ====
/- The kernel's tables at an index, as scalars: what the host operations before the call leave in each of them, and where a
   grid point's windows lie. -/
module

public import proofs.«01_k».proof.Proof.RetBody
public import proofs.«01_k».proof.Proof.RetScalar
public import Idealize.ShloMosaic.Lib.StableHlo.ReadAt
public import Idealize.ShloMosaic.Lib.WordCmp

@[expose] public section

set_option maxRecDepth 16384

noncomputable section

namespace Cert.KernelIdeal.Ret

open Cert.KernelIdeal.Gen
open Idealize.ShloMosaic Idealize.ShloMosaic.TcCoe
open Cert.Ret

variable (m : (ℓ : Loc nD τ sig) → Buf (Elt Ideal) ℓ) (c : Dev nD)

theorem zero_at : (id (constant (F := Ideal) S_ FTy.f32 0#32) : FVec Ideal S_ .f32) ix0 = (0 : EReal) := by
  show (constant (F := Ideal) S_ FTy.f32 0#32 : FVec Ideal S_ .f32) ix0 = 0
  pointwise

theorem idx : ∀ t : Fin cfg0.N, win0_0.index t = ![t.val / 4, t.val % 4] ∧ win0_1.index t = ![t.val / 4, t.val % 4 + 4] ∧
    win0_2.index t = ![t.val / 4, t.val % 4 + 8] ∧ win0_3.index t = ![t.val / 4, t.val % 4 + 12] ∧ win0_4.index t = ![0, 0] ∧
    win0_5.index t = ![0, 0] ∧ win0_6.index t = ![t.val % 4, 0, 0] ∧ win0_7.index t = ![t.val % 4, 0, 0, 0] ∧
    win0_8.index t = ![0, t.val % 4] ∧ win0_9.index t = ![t.val / 4, t.val % 4] :=
  (by decide +kernel : ∀ t : Fin grid0.N, _)

/-- The cosines. -/
theorem cos_tab (i : Fin 2048) (j : Fin 128) : (V m c main_v112 : FVec Ideal S2048x128 .f32) (ix2 i j) =
    if j.val < 64 then Ideal.cos (ang i.val j.val) else Ideal.cos (ang i.val (j.val - 64)) := by
  simp only [V, hostOps0, hostOps0_1, hostOps0_2, hostOps0_3, hostOps0_4, hostOps0_5, hostOps0_6, List.flatten_cons, List.flatten_nil, List.cons_append, List.nil_append, List.append_nil]
  after_reads_at
  rfl

/-- The sines, the first half's negated. -/
theorem sin_tab (i : Fin 2048) (j : Fin 128) : (V m c main_v114 : FVec Ideal S2048x128 .f32) (ix2 i j) =
    if j.val < 64 then -Ideal.sin (ang i.val j.val) else Ideal.sin (ang i.val (j.val - 64)) := by
  simp only [V, hostOps0, hostOps0_1, hostOps0_2, hostOps0_3, hostOps0_4, hostOps0_5, hostOps0_6, List.flatten_cons, List.flatten_nil, List.cons_append, List.nil_append, List.append_nil]
  after_reads_at
  rfl

/-- The normalization's weights. -/
theorem gn_tab (j : Fin 512) : (V m c main_v115 : FVec Ideal S1x512 .f32) (ix2 0 j) =
    (m (c, Proc.devRef .tc main_arg2) : FVec Ideal S512 .f32) (ix1 j) := by
  simp only [V, hostOps0, hostOps0_1, hostOps0_2, hostOps0_3, hostOps0_4, hostOps0_5, hostOps0_6, List.flatten_cons, List.flatten_nil, List.cons_append, List.nil_append, List.append_nil]
  after_reads_at

/-- The weights inside a chunk, both sweeps'. -/
theorem dec_tab (h : Fin 4) (i j : Fin 128) : (V m c main_v95 : FVec Ideal S4x128x128 .f32) (ix3 h i j) =
    decF (lgOf ((m (c, Proc.devRef .tc main_arg1) : FVec Ideal S2x4 .f32) (ix2 0 h))) i j + decK (lgOf ((m (c, Proc.devRef .tc main_arg1) : FVec Ideal S2x4 .f32) (ix2 1 h))) i j := by
  simp only [V, hostOps0, hostOps0_1, hostOps0_2, hostOps0_3, hostOps0_4, hostOps0_5, hostOps0_6, List.flatten_cons, List.flatten_nil, List.cons_append, List.nil_append, List.append_nil]
  after_reads_at
  rw [zero_at]
  rfl

/-- Slot 0 of the weights of a chunk's positions. -/
theorem slot0 (h : Fin 4) (i d : Fin 128) : (V m c main_v97 : FVec Ideal S4x6x128x128 .f32) (ix4 h 0 i d) =
    wEnd (lgOf ((m (c, Proc.devRef .tc main_arg1) : FVec Ideal S2x4 .f32) (ix2 0 h))) i := by
  simp only [V, hostOps0, hostOps0_1, hostOps0_2, hostOps0_3, hostOps0_4, hostOps0_5, hostOps0_6, List.flatten_cons, List.flatten_nil, List.cons_append, List.nil_append, List.append_nil]
  after_reads_simp
  pointwise
  after_reads_at
  rfl

/-- Slot 1 of the weights of a chunk's positions. -/
theorem slot1 (h : Fin 4) (i d : Fin 128) : (V m c main_v97 : FVec Ideal S4x6x128x128 .f32) (ix4 h 1 i d) =
    wPos (lgOf ((m (c, Proc.devRef .tc main_arg1) : FVec Ideal S2x4 .f32) (ix2 1 h))) i := by
  simp only [V, hostOps0, hostOps0_1, hostOps0_2, hostOps0_3, hostOps0_4, hostOps0_5, hostOps0_6, List.flatten_cons, List.flatten_nil, List.cons_append, List.nil_append, List.append_nil]
  after_reads_simp
  pointwise
  after_reads_at
  rfl

/-- Slot 2 of the weights of a chunk's positions. -/
theorem slot2 (h : Fin 4) (i d : Fin 128) : (V m c main_v97 : FVec Ideal S4x6x128x128 .f32) (ix4 h 2 i d) =
    wNext (lgOf ((m (c, Proc.devRef .tc main_arg1) : FVec Ideal S2x4 .f32) (ix2 0 h))) i := by
  simp only [V, hostOps0, hostOps0_1, hostOps0_2, hostOps0_3, hostOps0_4, hostOps0_5, hostOps0_6, List.flatten_cons, List.flatten_nil, List.cons_append, List.nil_append, List.append_nil]
  after_reads_simp
  pointwise
  after_reads_at
  rfl

/-- Slot 3 of the weights of a chunk's positions. -/
theorem slot3 (h : Fin 4) (i d : Fin 128) : (V m c main_v97 : FVec Ideal S4x6x128x128 .f32) (ix4 h 3 i d) =
    wLeft (lgOf ((m (c, Proc.devRef .tc main_arg1) : FVec Ideal S2x4 .f32) (ix2 1 h))) i := by
  simp only [V, hostOps0, hostOps0_1, hostOps0_2, hostOps0_3, hostOps0_4, hostOps0_5, hostOps0_6, List.flatten_cons, List.flatten_nil, List.cons_append, List.nil_append, List.append_nil]
  after_reads_simp
  pointwise
  after_reads_at
  rfl

/-- Slot 4 of the weights of a chunk's positions. -/
theorem slot4 (h : Fin 4) (i d : Fin 128) : (V m c main_v97 : FVec Ideal S4x6x128x128 .f32) (ix4 h 4 i d) =
    wAll (lgOf ((m (c, Proc.devRef .tc main_arg1) : FVec Ideal S2x4 .f32) (ix2 0 h))) := by
  simp only [V, hostOps0, hostOps0_1, hostOps0_2, hostOps0_3, hostOps0_4, hostOps0_5, hostOps0_6, List.flatten_cons, List.flatten_nil, List.cons_append, List.nil_append, List.append_nil]
  after_reads_simp
  pointwise
  after_reads_at
  rfl

/-- Slot 5 of the weights of a chunk's positions. -/
theorem slot5 (h : Fin 4) (i d : Fin 128) : (V m c main_v97 : FVec Ideal S4x6x128x128 .f32) (ix4 h 5 i d) =
    wAll (lgOf ((m (c, Proc.devRef .tc main_arg1) : FVec Ideal S2x4 .f32) (ix2 1 h))) := by
  simp only [V, hostOps0, hostOps0_1, hostOps0_2, hostOps0_3, hostOps0_4, hostOps0_5, hostOps0_6, List.flatten_cons, List.flatten_nil, List.cons_append, List.nil_append, List.append_nil]
  after_reads_simp
  pointwise
  after_reads_at
  rfl

end Cert.KernelIdeal.Ret

end
-- ==== Proof.RetBlock.lean ====
/- What a grid point of the kernel reads: the blocks of its sequence and head, and the tables of its head. -/
module

public import proofs.«01_k».proof.Proof.RetTables

@[expose] public section

set_option maxRecDepth 16384

noncomputable section

namespace Cert.KernelIdeal.Ret

open Cert.KernelIdeal Cert.KernelIdeal.Gen
open Idealize.ShloMosaic Idealize.ShloMosaic.TcCoe
open Cert.Ret

variable (m : (ℓ : Loc nD τ sig) → Buf (Elt Ideal) ℓ) (c : Dev nD) (t : Fin cfg0.N)

theorem pt_lt : t.val < 128 := t.isLt

theorem blk0 (p : Fin 2048) (d : Fin 128) : (iblk m c 0 t : Vec Ideal S2048x128 .f32) (ix2 p d) =
    (V m c main_arg0 : FVec Ideal S65536x2048 .f32) (ix2 ⟨t.val / 4 * 2048 + p.val, by have := pt_lt t; omega⟩ ⟨t.val % 4 * 128 + d.val, by omega⟩) := by
  blk_point [iblk, idx t]

theorem blk1 (p : Fin 2048) (d : Fin 128) : (iblk m c 1 t : Vec Ideal S2048x128 .f32) (ix2 p d) =
    (V m c main_arg0 : FVec Ideal S65536x2048 .f32) (ix2 ⟨t.val / 4 * 2048 + p.val, by have := pt_lt t; omega⟩ ⟨(t.val % 4 + 4) * 128 + d.val, by omega⟩) := by
  blk_point [iblk, idx t]

theorem blk4 (p : Fin 2048) (d : Fin 128) : (iblk m c 4 t : Vec Ideal S2048x128 .f32) (ix2 p d) =
    (V m c main_v112 : FVec Ideal S2048x128 .f32) (ix2 p d) := by
  blk_point [iblk, idx t]

theorem blk6 (i j : Fin 128) : (iblk m c 6 t : Vec Ideal S1x128x128 .f32) (ix3 0 i j) =
    (V m c main_v95 : FVec Ideal S4x128x128 .f32) (ix3 ⟨t.val % 4, by omega⟩ i j) := by
  blk_point [iblk, idx t]

theorem blk7 (s : Fin 6) (i j : Fin 128) : (iblk m c 7 t : Vec Ideal S1x6x128x128 .f32) (ix4 0 s i j) =
    (V m c main_v97 : FVec Ideal S4x6x128x128 .f32) (ix4 ⟨t.val % 4, by omega⟩ s i j) := by
  blk_point [iblk, idx t]

theorem blk8 (e : Fin 128) : (iblk m c 8 t : Vec Ideal S1x128 .f32) (ix2 0 e) =
    (V m c main_v115 : FVec Ideal S1x512 .f32) (ix2 0 ⟨t.val % 4 * 128 + e.val, by omega⟩) := by
  blk_point [iblk, idx t]

theorem blk2 (p : Fin 2048) (d : Fin 128) : (iblk m c 2 t : Vec Ideal S2048x128 .f32) (ix2 p d) =
    (V m c main_arg0 : FVec Ideal S65536x2048 .f32) (ix2 ⟨t.val / 4 * 2048 + p.val, by have := pt_lt t; omega⟩ ⟨(t.val % 4 + 8) * 128 + d.val, by omega⟩) := by
  blk_point [iblk, idx t]

theorem blk3 (p : Fin 2048) (d : Fin 128) : (iblk m c 3 t : Vec Ideal S2048x128 .f32) (ix2 p d) =
    (V m c main_arg0 : FVec Ideal S65536x2048 .f32) (ix2 ⟨t.val / 4 * 2048 + p.val, by have := pt_lt t; omega⟩ ⟨(t.val % 4 + 12) * 128 + d.val, by omega⟩) := by
  blk_point [iblk, idx t]

theorem blk5 (p : Fin 2048) (d : Fin 128) : (iblk m c 5 t : Vec Ideal S2048x128 .f32) (ix2 p d) =
    (V m c main_v114 : FVec Ideal S2048x128 .f32) (ix2 p d) := by
  blk_point [iblk, idx t]

/-- The projected rows, as launched. -/
abbrev X : FVec Ideal ⟨2, ![65536, 2048]⟩ .f32 := m ((c : Thread nD τ).loc main_arg0)

theorem cell0 (p : Fin 2048) (d : Fin 128) : (iblk m c 0 t : Vec Ideal S2048x128 .f32) (ix2 p d) = cell (X m c) 0 (t.val / 4) (t.val % 4) p.val d.val := by
  rw [blk0, V_main_arg0]
  exact cell_eq (X m c) 0 _ _ _ _ _ _ _ _ rfl (by omega)

theorem cell1 (p : Fin 2048) (d : Fin 128) : (iblk m c 1 t : Vec Ideal S2048x128 .f32) (ix2 p d) = cell (X m c) 1 (t.val / 4) (t.val % 4) p.val d.val := by
  rw [blk1, V_main_arg0]
  exact cell_eq (X m c) 1 _ _ _ _ _ _ _ _ rfl (by omega)

theorem cell2 (p : Fin 2048) (d : Fin 128) : (iblk m c 2 t : Vec Ideal S2048x128 .f32) (ix2 p d) = cell (X m c) 2 (t.val / 4) (t.val % 4) p.val d.val := by
  rw [blk2, V_main_arg0]
  exact cell_eq (X m c) 2 _ _ _ _ _ _ _ _ rfl (by omega)

theorem cell3 (p : Fin 2048) (d : Fin 128) : (iblk m c 3 t : Vec Ideal S2048x128 .f32) (ix2 p d) = cell (X m c) 3 (t.val / 4) (t.val % 4) p.val d.val := by
  rw [blk3, V_main_arg0]
  exact cell_eq (X m c) 3 _ _ _ _ _ _ _ _ rfl (by omega)

/-- A row times the cosines, plus the row turned by half its length times the signed sines, is the rotated row. -/
theorem rot_eq (f : ℕ → EReal) (p : ℕ) (d : Fin 128) :
    f d.val * (if d.val < 64 then Ideal.cos (ang p d.val) else Ideal.cos (ang p (d.val - 64))) +
      f ((d.val + 128 - 64) % 128) * (if d.val < 64 then -Ideal.sin (ang p d.val) else Ideal.sin (ang p (d.val - 64))) = rot f p d.val := by
  unfold rot
  by_cases h : d.val < 64
  · rw [if_pos h, if_pos h, if_pos h, show (d.val + 128 - 64) % 128 = 64 + d.val from by omega, mul_neg, ← sub_eq_add_neg]
  · rw [if_neg h, if_neg h, if_neg h, show (d.val + 128 - 64) % 128 = d.val - 64 from by omega, add_comm]

/-- The rows of the queries that a grid point works on. -/
theorem qrow (p : Fin 2048) (d : Fin 128) : k0_pay13 (F := Ideal) (iblk m c 4 t) (iblk m c 5 t) (iblk m c 0 t) (ix2 p d) =
    qAt (X m c) (t.val / 4) (t.val % 4) p.val d.val := by
  pointwise [k0_pay13, k0_pay11, k0_pay12]
  rw [blk4, blk5, cos_tab, sin_tab, cell0, cell0]
  exact rot_eq (cell (X m c) 0 (t.val / 4) (t.val % 4) p.val) p.val d

/-- The rows of the keys. -/
theorem krow (p : Fin 2048) (d : Fin 128) : k0_pay14 (F := Ideal) (iblk m c 4 t) (iblk m c 5 t) (iblk m c 1 t) (ix2 p d) =
    kAt (X m c) (t.val / 4) (t.val % 4) p.val d.val := by
  pointwise [k0_pay14, k0_pay11, k0_pay12]
  rw [blk4, blk5, cos_tab, sin_tab, cell1, cell1]
  exact congrArg (· * _) (rot_eq (cell (X m c) 1 (t.val / 4) (t.val % 4) p.val) p.val d)

end Cert.KernelIdeal.Ret

end
-- ==== Proof.RetEq.lean ====
/- The two ways to sum the sweeps agree: one decay table for both sweeps and the second sweep's weights counted from the other
   end, against the second sweep run on the reversed sequence. -/
module

public import proofs.«01_k».proof.Proof.RetSpec
public import proofs.«01_k».proof.Proof.RetScalar

@[expose] public section

set_option maxRecDepth 16384

noncomputable section

namespace Cert.Ret

open Idealize.ShloMosaic

theorem num_eq (i : Fin 128) : num i.val = ((i.val : ℝ) : EReal) := by
  have key : ∀ i : Fin 128, (BitVec.ofNat 32 i.val).toInt = (i.val : ℤ) := by decide +kernel
  show (((BitVec.ofNat 32 i.val).toInt : ℝ) : EReal) = _
  rw [key i]
  norm_cast

theorem lit127 : Ideal.ofBits .f32 0x42FE0000#32 = ((127 : ℝ) : EReal) := by
  simp [Ideal.ofBits, Ideal.ieee, -EReal.coe_mul]
  norm_num

theorem lit128 : Ideal.ofBits .f32 0x43000000#32 = ((128 : ℝ) : EReal) := by
  simp [Ideal.ofBits, Ideal.ieee, -EReal.coe_mul]
  norm_num

theorem rev_real (i : Fin 128) : ((i.rev.val : ℕ) : ℝ) = 127 - (i.val : ℝ) := by
  have h : i.rev.val + i.val = 127 := by rw [Fin.val_rev]; omega
  have h' : ((i.rev.val : ℕ) : ℝ) + (i.val : ℝ) = 127 := by exact_mod_cast h
  linarith

/-- Counted from the other end. -/
theorem wEnd_rev (a : EReal) (i : Fin 128) : wEnd a i.rev = wPos a i := by
  unfold wEnd wPos
  rw [lit127, num_eq, num_eq, rev_real, ← EReal.coe_sub]
  congr 3
  ring

theorem wNext_rev (a : EReal) (i : Fin 128) : wNext a i.rev = wLeft a i := by
  unfold wNext wLeft
  rw [lit128, num_eq, num_eq, rev_real, ← EReal.coe_sub, ← EReal.coe_one, ← EReal.coe_add]
  congr 3
  ring

theorem decB_rev (a : EReal) (i j : Fin 128) : decB a i.rev j.rev = decK a i j := by
  have e : num i.rev.val - num j.rev.val = -(num i.val - num j.val) := by
    simp only [num_eq, rev_real, ← EReal.coe_sub, ← EReal.coe_neg]
    congr 1
    ring
  have e2 : (0 < -(num i.val - num j.val)) ↔ num i.val - num j.val < 0 := by
    simp only [num_eq, ← EReal.coe_sub, ← EReal.coe_neg, ← EReal.coe_zero, EReal.coe_lt_coe_iff]
    constructor <;> intro h <;> linarith
  unfold decB decK
  simp only [e, e2]

/-- At most one of the two weights between two positions is not nothing, so their sum acts as the two of them. -/
theorem dec_split (a a' s v : EReal) (i j : Fin 128) :
    s * (decF a i j + decK a' i j) * v = s * decF a i j * v + s * decK a' i j * v := by
  by_cases h : 0 ≤ num i.val - num j.val
  · have z : decK a' i j = 0 := if_neg (not_lt.mpr h)
    rw [z, add_zero, mul_zero, zero_mul, add_zero]
  · have z : decF a i j = 0 := if_neg h
    rw [z, zero_add, mul_zero, zero_mul, zero_add]

/-- A sum over a chunk's positions from the other end. -/
theorem sum_rev (f : Fin 128 → EReal) : ∑ i : Fin 128, f i.rev = ∑ i, f i := Equiv.sum_comp Fin.revPerm f

/-- A state reads only the chunks before it. -/
theorem state_congr (kd cd : Fin 128 → Fin 128 → EReal) (k v k' v' : ℕ → Fin 128 → Fin 128 → EReal) (n : ℕ)
    (h : ∀ j, j < n → k j = k' j ∧ v j = v' j) : state kd cd k v n = state kd cd k' v' n := by
  induction n with
  | zero => rfl
  | succ n ih =>
    funext d e
    show state kd cd k v n d e * cd d e + _ = state kd cd k' v' n d e * cd d e + _
    rw [ih (fun j hj => h j (by omega)), (h n (by omega)).1, (h n (by omega)).2]

/-- A state of the second sweep, from either end of its chunks. -/
theorem state_rev (a : EReal) (cd : Fin 128 → Fin 128 → EReal) (f g : ℕ → ℕ → EReal) (n : ℕ) :
    state (fun i _ => wPos a i) cd (fun j => fwd f (15 - j)) (fun j => fwd g (15 - j)) n = state (fun i _ => wEnd a i) cd (bwd f) (bwd g) n := by
  induction n with
  | zero => rfl
  | succ n ih =>
    funext d e
    refine congrArg₂ (fun p q : EReal => p * cd d e + q) (congrFun (congrFun ih d) e) ?_
    rw [← sum_rev]
    refine Finset.sum_congr rfl fun i _ => ?_
    show fwd f (15 - n) i.rev d * wPos a i.rev * fwd g (15 - n) i.rev e = bwd f n i d * wEnd a i * bwd g n i e
    rw [← wEnd_rev, Fin.rev_rev]
    rfl

/-- A row before its normalization, the two ways. -/
theorem mix_eq (a a' : EReal) (q k v : ℕ → ℕ → EReal) (n : ℕ) (hn : n < 16) (F G : Fin 128 → Fin 128 → EReal) (i e : Fin 128) :
    mix (fwd q n) (fwd k n) (fwd v n) (fun i j => decF a i j + decK a' i j) (fun i _ => wNext a i) (fun i _ => wLeft a' i) F G i e =
      half (fwd q n) (fwd k n) (fwd v n) (decF a) (wNext a) F i e +
        half (bwd q (15 - n)) (bwd k (15 - n)) (bwd v (15 - n)) (decB a') (wNext a') G i.rev e := by
  have hb : ∀ (f : ℕ → ℕ → EReal) (j d : Fin 128), bwd f (15 - n) j.rev d = fwd f n j d := fun f j d => by
    unfold bwd fwd
    rw [Fin.rev_rev, show 15 - (15 - n) = n from by omega]
  unfold mix half
  rw [← sum_rev fun j => (∑ d, bwd q (15 - n) i.rev d * bwd k (15 - n) j d) * decB a' i.rev j * bwd v (15 - n) j e]
  simp only [hb, decB_rev, wNext_rev, dec_split, Finset.sum_add_distrib]
  ac_rfl

end Cert.Ret

end
-- ==== Proof.RetStep.lean ====
/- The reference's loop, one trip at a time: while the buffers the loop carries hold a state, one trip takes them to the next
   state, so the reference's result is read off the sixteenth state. -/
module

public import proofs.«01_k».proof.Proof.Gen.ReferenceIdeal.Run
public import proofs.«01_k».proof.Proof.Gen.ReferenceIdeal.Step

@[expose] public section

noncomputable section

namespace Cert.ReferenceIdeal.Ret

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_15 : V0 (Proc.devRef .tc main_v174_15) = s.main_v174_15
  f_16 : V0 (Proc.devRef .tc main_v174_16) = s.main_v174_16
  f_17 : V0 (Proc.devRef .tc main_v174_17) = s.main_v174_17
  f_18 : V0 (Proc.devRef .tc main_v174_18) = s.main_v174_18
  f_0 : V0 (Proc.devRef .tc main_v174_0) = s.main_v174_0
  f_1 : V0 (Proc.devRef .tc main_v174_1) = s.main_v174_1
  f_2 : V0 (Proc.devRef .tc main_v174_2) = s.main_v174_2
  f_3 : V0 (Proc.devRef .tc main_v174_3) = s.main_v174_3
  f_4 : V0 (Proc.devRef .tc main_v174_4) = s.main_v174_4
  f_5 : V0 (Proc.devRef .tc main_v174_5) = s.main_v174_5
  f_6 : V0 (Proc.devRef .tc main_v174_6) = s.main_v174_6
  f_7 : V0 (Proc.devRef .tc main_v174_7) = s.main_v174_7
  f_8 : V0 (Proc.devRef .tc main_v174_8) = s.main_v174_8
  f_9 : V0 (Proc.devRef .tc main_v174_9) = s.main_v174_9
  f_10 : V0 (Proc.devRef .tc main_v174_10) = s.main_v174_10
  f_11 : V0 (Proc.devRef .tc main_v174_11) = s.main_v174_11
  f_12 : V0 (Proc.devRef .tc main_v174_12) = s.main_v174_12
  f_13 : V0 (Proc.devRef .tc main_v174_13) = s.main_v174_13
  n_14 : V0 (Proc.devRef .tc main_v174_14) = constantI S_ 32 (BitVec.ofNat 32 j)

variable {V0 s j}

set_option maxRecDepth 8192 in
theorem step_15 (h : Holds V0 s j) : step_main_v174_15 V0 = (step j s).main_v174_15 := by
  have hs : (step j s).main_v174_15 = Step.b49 j s := rfl
  rw [hs]
  simp only [step_main_v174_15, res_main_while0b_v206, res_main_while0b_v207, res_main_while0b_v208, res_main_while0b_v209, res_main_while0b_v210, res_main_while0b_v211, id_eq,
    h.f_9, h.f_15, h.f_1, h.f_8, h.f_2, h.n_14]
  (simp only [Step.b47, Step.b48, Step.b6, Step.b7, Step.b8, Step.b9, Step.b10, Step.b11, Step.b44, Step.b45, Step.b12, Step.b13, Step.b14, Step.b15, Step.b16, Step.b17, Step.b46, Step.b49]) <;> rfl

set_option maxRecDepth 8192 in
theorem step_16 (h : Holds V0 s j) : step_main_v174_16 V0 = (step j s).main_v174_16 := by
  have hs : (step j s).main_v174_16 = Step.b64 j s := rfl
  rw [hs]
  simp only [step_main_v174_16, res_main_while0b_v206, res_main_while0b_v207, res_main_while0b_v208, res_main_while0b_v209, res_main_while0b_v210, res_main_while0b_v211, id_eq,
    h.f_13, h.f_16, h.f_4, h.f_12, h.f_5, h.n_14]
  (simp only [Step.b62, Step.b63, Step.b24, Step.b25, Step.b26, Step.b27, Step.b28, Step.b29, Step.b59, Step.b60, Step.b30, Step.b31, Step.b32, Step.b33, Step.b34, Step.b35, Step.b61, Step.b64]) <;> rfl

set_option maxRecDepth 8192 in
theorem step_17 (h : Holds V0 s j) : step_main_v174_17 V0 = (step j s).main_v174_17 := by
  have hs : (step j s).main_v174_17 = Step.b71 j s := rfl
  rw [hs]
  simp only [step_main_v174_17, res_main_while0b_v206, res_main_while0b_v207, res_main_while0b_v208, res_main_while0b_v209, res_main_while0b_v210, res_main_while0b_v211, id_eq,
    h.f_0, h.f_1, h.f_6, h.f_2, h.f_7, h.f_15, h.f_17, h.n_14]
  (simp only [Step.b0, Step.b1, Step.b2, Step.b3, Step.b4, Step.b5, Step.b6, Step.b7, Step.b8, Step.b9, Step.b10, Step.b11, Step.b36, Step.b37, Step.b38, Step.b39, Step.b12, Step.b13, Step.b14, Step.b15, Step.b16, Step.b17, Step.b40, Step.b41, Step.b42, Step.b43, Step.b50, Step.b66, Step.b67, Step.b68, Step.b69, Step.b70, Step.b71]) <;> rfl

set_option maxRecDepth 8192 in
theorem step_18 (h : Holds V0 s j) : step_main_v174_18 V0 = (step j s).main_v174_18 := by
  have hs : (step j s).main_v174_18 = Step.b77 j s := rfl
  rw [hs]
  simp only [step_main_v174_18, res_main_while0b_v206, res_main_while0b_v207, res_main_while0b_v208, res_main_while0b_v209, res_main_while0b_v210, res_main_while0b_v211, id_eq,
    h.f_3, h.f_4, h.f_10, h.f_5, h.f_11, h.f_16, h.f_18, h.n_14]
  (simp only [Step.b18, Step.b19, Step.b20, Step.b21, Step.b22, Step.b23, Step.b24, Step.b25, Step.b26, Step.b27, Step.b28, Step.b29, Step.b51, Step.b52, Step.b53, Step.b54, Step.b30, Step.b31, Step.b32, Step.b33, Step.b34, Step.b35, Step.b55, Step.b56, Step.b57, Step.b58, Step.b65, Step.b72, Step.b73, Step.b74, Step.b75, Step.b76, Step.b77]) <;> rfl

/-- The trip number goes up by one. -/
theorem step_14 (h : Holds V0 s j) : step_main_v174_14 V0 = constantI S_ 32 (BitVec.ofNat 32 (j + 1)) := by
  unfold step_main_v174_14
  rw [h.n_14]
  funext i
  show BitVec.ofNat 32 j + 1#32 = BitVec.ofNat 32 (j + 1)
  simp only [BitVec.ofNat_add]

set_option maxRecDepth 8192 in
theorem out_main_v205_holds (h : Holds V0 s j) {x_main_arg0 : (⟨S65536x2048, .f32⟩ : BufTy).Contents (Elt F)} (h_main_arg0 : V0 (Proc.devRef .tc main_arg0) = x_main_arg0) {x_main_arg2 : (⟨S512, .f32⟩ : BufTy).Contents (Elt F)} (h_main_arg2 : V0 (Proc.devRef .tc main_arg2) = x_main_arg2) : out_main_v205 V0 = Cert.ReferenceIdeal.Step.R_main_v205 s x_main_arg0 x_main_arg2 := by
  unfold out_main_v205 Cert.ReferenceIdeal.Step.R_main_v205
  rw [h.f_17, h.f_18, h_main_arg0, h_main_arg2]
  try rfl

/-- One trip keeps the valuation holding: `step` of the state, the same set-up values, the next number. -/
theorem holds_step (h : Holds V0 s j) : Holds (STEP V0) (step j s) (j + 1) where
  f_15 := (STEP_main_v174_15 V0).trans (step_15 h)
  f_16 := (STEP_main_v174_16 V0).trans (step_16 h)
  f_17 := (STEP_main_v174_17 V0).trans (step_17 h)
  f_18 := (STEP_main_v174_18 V0).trans (step_18 h)
  n_14 := (STEP_main_v174_14 V0).trans (step_14 h)
  f_0 := (STEP_main_v174_0 V0).trans h.f_0
  f_1 := (STEP_main_v174_1 V0).trans h.f_1
  f_2 := (STEP_main_v174_2 V0).trans h.f_2
  f_3 := (STEP_main_v174_3 V0).trans h.f_3
  f_4 := (STEP_main_v174_4 V0).trans h.f_4
  f_5 := (STEP_main_v174_5 V0).trans h.f_5
  f_6 := (STEP_main_v174_6 V0).trans h.f_6
  f_7 := (STEP_main_v174_7 V0).trans h.f_7
  f_8 := (STEP_main_v174_8 V0).trans h.f_8
  f_9 := (STEP_main_v174_9 V0).trans h.f_9
  f_10 := (STEP_main_v174_10 V0).trans h.f_10
  f_11 := (STEP_main_v174_11 V0).trans h.f_11
  f_12 := (STEP_main_v174_12 V0).trans h.f_12
  f_13 := (STEP_main_v174_13 V0).trans h.f_13

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1))

variable (m : (ℓ : Loc nD τ sig) → Buf (Elt F) ℓ) (c : Dev nD)

set_option maxRecDepth 65536 in
set_option maxHeartbeats 1600000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- The result as `step` iterated: every weakly fair execution of `ReferenceIdeal` terminates with each result at its field of state
    number 16 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v205) = Cert.ReferenceIdeal.Step.R_main_v205 (it c 16) (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    have hk := holds_iter m c (it c) (h0 c) (hs c) 16
    ⟨(h c).1.trans (out_main_v205_holds hk (iter_main_arg0 m c 16) (iter_main_arg2 m c 16)), (h c).2.1, (h c).2.2.1, (h c).2.2.2⟩) (Value.run m ρ)

end Cert.ReferenceIdeal.Ret

end
-- ==== Proof.RetRefOut.lean ====
/- The reference's result at an index, of the two sweeps' stored rows. -/
module

public import proofs.«01_k».proof.Proof.RetStep
public import proofs.«01_k».proof.Proof.RetSpec
public import proofs.«01_k».proof.Proof.RetScalar

@[expose] public section

set_option maxRecDepth 16384

noncomputable section

namespace Cert.ReferenceIdeal.Ret

open Cert.ReferenceIdeal
open Cert.ReferenceIdeal.Step
open Idealize.ShloMosaic Idealize.ShloMosaic.TcCoe
open Cert.Ret

variable (x : (⟨S65536x2048, .f32⟩ : BufTy).Contents (Elt Ideal))

/-- A row of the result from the two sweeps' stored rows of its position: their sum normalized and gated. -/
theorem out_at (s : State Ideal) (g : (⟨S512, .f32⟩ : BufTy).Contents (Elt Ideal)) (r : Fin 65536) (k : Fin 512)
    (n : Fin 16) (b : Fin 32) (h : Fin 4) (i e : Fin 128) (hr : r.val = b.val * 2048 + (n.val * 128 + i.val))
    (hk : k.val = h.val * 128 + e.val) :
    R_main_v205 s x g (ix2 r k) = gated (fun e => s.main_v174_17 (ix5 n b h i e) + s.main_v174_18 (ix5 n.rev b h i.rev e))
      (Ideal.ofBits .f32 0x358637BD#32) (g (ix1 k)) (cell x 3 b.val h.val (n.val * 128 + i.val) e.val) e := by
  have c0 : ¬ (0 ∈ ([2] : List (Fin S32x4x2048x128.rank))) := by decide
  have c1 : ¬ (1 ∈ ([2] : List (Fin S32x4x2048x128.rank))) := by decide
  have c2 : 2 ∈ ([2] : List (Fin S32x4x2048x128.rank)) := by decide
  have c3 : ¬ (3 ∈ ([2] : List (Fin S32x4x2048x128.rank))) := by decide
  pointwise [R_main_v205]
  simp only [c0, c1, c2, c3, if_true, if_false, reduceIte]
  have l1 : r.val % 2048 = n.val * 128 + i.val := by omega
  have l2 : (⟨r.val / 2048, by omega⟩ : Fin 32) = b := Fin.ext (by show r.val / 2048 = _; omega)
  have l3 : (⟨k.val / 128, by omega⟩ : Fin 4) = h := Fin.ext (by show k.val / 128 = _; omega)
  have l4 : (⟨k.val % 128, by omega⟩ : Fin 128) = e := Fin.ext (by show k.val % 128 = _; omega)
  have l5 : (⟨r.val % 2048 / 128, by omega⟩ : Fin 16) = n := Fin.ext (by show r.val % 2048 / 128 = _; omega)
  have l6 : (⟨r.val % 2048 % 128, by omega⟩ : Fin 128) = i := Fin.ext (by show r.val % 2048 % 128 = _; omega)
  have l7 : (⟨(⟨r.val % 2048, by omega⟩ : Fin 2048).rev.val / 128, by omega⟩ : Fin 16) = n.rev :=
    Fin.ext (by simp only [Fin.val_rev]; omega)
  have l8 : (⟨(⟨r.val % 2048, by omega⟩ : Fin 2048).rev.val % 128, by omega⟩ : Fin 128) = i.rev :=
    Fin.ext (by simp only [Fin.val_rev]; omega)
  have l9 : x (ix2 r ⟨1536 + k.val, by omega⟩) = cell x 3 b.val h.val (n.val * 128 + i.val) e.val :=
    cell_eq x 3 b.val h.val (n.val * 128 + i.val) e.val r.val (1536 + k.val) r.isLt (by omega) (by omega) (by omega)
  simp only [l2, l3, l4, l5, l6, l7, l8, l9]
  unfold gated mean
  rw [zero_sub]

end Cert.ReferenceIdeal.Ret

end
-- ==== Proof.RetRefQuery.lean ====
/- The reference's rotated queries at an index. -/
module

public import proofs.«01_k».proof.Proof.RetStep
public import proofs.«01_k».proof.Proof.RetScalar

@[expose] public section

set_option maxRecDepth 16384

noncomputable section

namespace Cert.ReferenceIdeal.Ret

open Cert.ReferenceIdeal
open Cert.ReferenceIdeal.Step
open Idealize.ShloMosaic Idealize.ShloMosaic.TcCoe
open Cert.Ret

variable (x : (⟨S65536x2048, .f32⟩ : BufTy).Contents (Elt Ideal)) (w : (⟨S2x4, .f32⟩ : BufTy).Contents (Elt Ideal))

theorem q_ang (t : Fin 2048) (j : Fin 64) : (K_main_v13 (F := Ideal)) (ix2 t j) = ang t.val j.val := by
  pointwise [K_main_v13, K_main_v12, K_main_v11, K_main_v10, K_main_v9, K_main_v8, K_main_v7, K_main_v6, K_main_v5, K_main_v4, K_main_v3, K_main_v2, K_main_cst, K_main_cst_0]
  rfl

theorem q_lo (b : Fin 32) (t : Fin 2048) (h : Fin 4) (d : Fin 64) : A_main_v24 x w (ix4 b t h d) =
    cell x 0 b.val h.val t.val d.val * Ideal.cos (ang t.val d.val) - cell x 0 b.val h.val t.val (64 + d.val) * Ideal.sin (ang t.val d.val) := by
  pointwise [A_main_v24, A_main_v21, A_main_v23, A_main_v18, A_main_v19, A_main_v1, A_main_v0, K_main_v20, K_main_v22, K_main_v15, K_main_v17, K_main_v14, K_main_v16]
  rw [q_ang]
  exact congrArg₂ (fun p q : EReal => p * Ideal.cos (ang t.val d.val) - q * Ideal.sin (ang t.val d.val))
    (cell_eq x 0 _ _ _ _ _ _ _ _ (by omega) (by omega))
    (cell_eq x 0 _ _ _ _ _ _ _ _ (by omega) (by omega))

theorem q_hi (b : Fin 32) (t : Fin 2048) (h : Fin 4) (d : Fin 64) : A_main_v29 x w (ix4 b t h d) =
    cell x 0 b.val h.val t.val d.val * Ideal.sin (ang t.val d.val) + cell x 0 b.val h.val t.val (64 + d.val) * Ideal.cos (ang t.val d.val) := by
  pointwise [A_main_v29, A_main_v26, A_main_v28, A_main_v18, A_main_v19, A_main_v1, A_main_v0, K_main_v25, K_main_v27, K_main_v15, K_main_v17, K_main_v14, K_main_v16]
  rw [q_ang]
  exact congrArg₂ (fun p q : EReal => p * Ideal.sin (ang t.val d.val) + q * Ideal.cos (ang t.val d.val))
    (cell_eq x 0 _ _ _ _ _ _ _ _ (by omega) (by omega))
    (cell_eq x 0 _ _ _ _ _ _ _ _ (by omega) (by omega))

theorem q_rot (b : Fin 32) (t : Fin 2048) (h : Fin 4) (d : Fin 128) : A_main_v30 x w (ix4 b t h d) =
    rot (cell x 0 b.val h.val t.val) t.val d.val := by
  unfold rot
  by_cases hd : d.val < 64
  · pointwise [A_main_v30]
    rw [dif_pos hd, if_pos hd]
    exact q_lo x w b t h ⟨d.val, hd⟩
  · pointwise [A_main_v30]
    rw [dif_neg hd, if_neg hd]
    refine (q_hi x w b t h ⟨d.val - 64, by omega⟩).trans ?_
    rw [show (64 + (⟨d.val - 64, by omega⟩ : Fin 64).val) = d.val from by show 64 + (d.val - 64) = _; omega]

end Cert.ReferenceIdeal.Ret

end
-- ==== Proof.RetRefKey.lean ====
/- The reference's rotated keys at an index. -/
module

public import proofs.«01_k».proof.Proof.RetStep
public import proofs.«01_k».proof.Proof.RetScalar

@[expose] public section

set_option maxRecDepth 16384

noncomputable section

namespace Cert.ReferenceIdeal.Ret

open Cert.ReferenceIdeal
open Cert.ReferenceIdeal.Step
open Idealize.ShloMosaic Idealize.ShloMosaic.TcCoe
open Cert.Ret

variable (x : (⟨S65536x2048, .f32⟩ : BufTy).Contents (Elt Ideal)) (w : (⟨S2x4, .f32⟩ : BufTy).Contents (Elt Ideal))

theorem k_ang (t : Fin 2048) (j : Fin 64) : (K_main_v45 (F := Ideal)) (ix2 t j) = ang t.val j.val := by
  pointwise [K_main_v45, K_main_v44, K_main_v43, K_main_v42, K_main_v41, K_main_v40, K_main_v39, K_main_v38, K_main_v37, K_main_v36, K_main_v35, K_main_v34, K_main_cst_1, K_main_cst_2]
  rfl

theorem k_lo (b : Fin 32) (t : Fin 2048) (h : Fin 4) (d : Fin 64) : A_main_v56 x w (ix4 b t h d) =
    cell x 1 b.val h.val t.val d.val * Ideal.cos (ang t.val d.val) - cell x 1 b.val h.val t.val (64 + d.val) * Ideal.sin (ang t.val d.val) := by
  pointwise [A_main_v56, A_main_v53, A_main_v55, A_main_v50, A_main_v51, A_main_v33, A_main_v32, K_main_v52, K_main_v54, K_main_v47, K_main_v49, K_main_v46, K_main_v48]
  rw [k_ang]
  exact congrArg₂ (fun p q : EReal => p * Ideal.cos (ang t.val d.val) - q * Ideal.sin (ang t.val d.val))
    (cell_eq x 1 _ _ _ _ _ _ _ _ (by omega) (by omega))
    (cell_eq x 1 _ _ _ _ _ _ _ _ (by omega) (by omega))

theorem k_hi (b : Fin 32) (t : Fin 2048) (h : Fin 4) (d : Fin 64) : A_main_v61 x w (ix4 b t h d) =
    cell x 1 b.val h.val t.val d.val * Ideal.sin (ang t.val d.val) + cell x 1 b.val h.val t.val (64 + d.val) * Ideal.cos (ang t.val d.val) := by
  pointwise [A_main_v61, A_main_v58, A_main_v60, A_main_v50, A_main_v51, A_main_v33, A_main_v32, K_main_v57, K_main_v59, K_main_v47, K_main_v49, K_main_v46, K_main_v48]
  rw [k_ang]
  exact congrArg₂ (fun p q : EReal => p * Ideal.sin (ang t.val d.val) + q * Ideal.cos (ang t.val d.val))
    (cell_eq x 1 _ _ _ _ _ _ _ _ (by omega) (by omega))
    (cell_eq x 1 _ _ _ _ _ _ _ _ (by omega) (by omega))

theorem k_rot (b : Fin 32) (t : Fin 2048) (h : Fin 4) (d : Fin 128) : A_main_v62 x w (ix4 b t h d) =
    rot (cell x 1 b.val h.val t.val) t.val d.val := by
  unfold rot
  by_cases hd : d.val < 64
  · pointwise [A_main_v62]
    rw [dif_pos hd, if_pos hd]
    exact k_lo x w b t h ⟨d.val, hd⟩
  · pointwise [A_main_v62]
    rw [dif_neg hd, if_neg hd]
    refine (k_hi x w b t h ⟨d.val - 64, by omega⟩).trans ?_
    rw [show (64 + (⟨d.val - 64, by omega⟩ : Fin 64).val) = d.val from by show 64 + (d.val - 64) = _; omega]

end Cert.ReferenceIdeal.Ret

end
-- ==== Proof.RetRefChunk.lean ====
/- The reference's chunks at an index: queries, keys and values, of the sequence and of the reversed sequence. -/
module

public import proofs.«01_k».proof.Proof.RetStep
public import proofs.«01_k».proof.Proof.RetRefQuery
public import proofs.«01_k».proof.Proof.RetRefKey

@[expose] public section

set_option maxRecDepth 16384

noncomputable section

namespace Cert.ReferenceIdeal.Ret

open Cert.ReferenceIdeal
open Cert.ReferenceIdeal.Step
open Idealize.ShloMosaic Idealize.ShloMosaic.TcCoe
open Cert.Ret

variable (x : (⟨S65536x2048, .f32⟩ : BufTy).Contents (Elt Ideal)) (w : (⟨S2x4, .f32⟩ : BufTy).Contents (Elt Ideal))

theorem q_row (b : Fin 32) (t : Fin 2048) (h : Fin 4) (d : Fin 128) :
    A_main_v30 x w (ix4 b t h d) = qAt x b.val h.val t.val d.val := by
  rw [q_rot, qAt]

/-- The chunks of an array: batch, position, head, element become chunk, batch, head, position, element. -/
theorem chunk_at (y : FVec Ideal S32x2048x4x128 .f32) (n : Fin 16) (b : Fin 32) (h : Fin 4) (i d : Fin 128) :
    transpose S16x32x4x128x128 [2, 0, 1, 3, 4] (shapeCast S32x4x16x128x128 (transpose S32x4x2048x128 [0, 2, 1, 3] y Gen.transposes_S32x2048x4x128_S32x4x2048x128_0_2_1_3)
      Gen.shapeCasts_S32x4x2048x128_S32x4x16x128x128) Gen.transposes_S32x4x16x128x128_S16x32x4x128x128_2_0_1_3_4 (ix5 n b h i d) =
    y (ix4 b (⟨n.val * 128 + i.val, by omega⟩ : Fin 2048) h d) := by
  pointwise

theorem q_at (n : Fin 16) (b : Fin 32) (h : Fin 4) (i d : Fin 128) :
    A_main_v158 x w (ix5 n b h i d) = qAt x b.val h.val (n.val * 128 + i.val) d.val := by
  unfold A_main_v158 A_main_v157 A_main_v31
  rw [chunk_at, q_row]

theorem k_row (b : Fin 32) (t : Fin 2048) (h : Fin 4) (d : Fin 128) :
    A_main_v64 x w (ix4 b t h d) = kAt x b.val h.val t.val d.val := by
  pointwise [A_main_v64, K_main_v63, K_main_cst_3]
  rw [k_rot]
  rfl

theorem k_at (n : Fin 16) (b : Fin 32) (h : Fin 4) (i d : Fin 128) :
    A_main_v160 x w (ix5 n b h i d) = kAt x b.val h.val (n.val * 128 + i.val) d.val := by
  pointwise [A_main_v160, A_main_v159, A_main_v65]
  exact k_row x w b _ h d

theorem v_row (b : Fin 32) (t : Fin 2048) (h : Fin 4) (d : Fin 128) :
    A_main_v67 x w (ix4 b t h d) = cell x 2 b.val h.val t.val d.val := by
  pointwise [A_main_v67, A_main_v66]
  exact cell_eq x 2 _ _ _ _ _ _ _ _ (by omega) (by omega)

theorem v_at (n : Fin 16) (b : Fin 32) (h : Fin 4) (i d : Fin 128) :
    A_main_v162 x w (ix5 n b h i d) = cell x 2 b.val h.val (n.val * 128 + i.val) d.val := by
  pointwise [A_main_v162, A_main_v161, A_main_v68]
  exact v_row x w b _ h d

/-- A row of a chunk of the reversed sequence. -/
theorem rev_row (n : Fin 16) (i : Fin 128) (hh : n.val * 128 + i.val < 2048) :
    (⟨n.val * 128 + i.val, hh⟩ : Fin 2048).rev.val = (15 - n.val) * 128 + i.rev.val := by
  simp only [Fin.val_rev]
  omega

theorem qr_at (n : Fin 16) (b : Fin 32) (h : Fin 4) (i d : Fin 128) :
    A_main_v165 x w (ix5 n b h i d) = qAt x b.val h.val ((15 - n.val) * 128 + i.rev.val) d.val := by
  have e : A_main_v165 x w (ix5 n b h i d) = A_main_v30 x w (ix4 b (⟨n.val * 128 + i.val, by omega⟩ : Fin 2048).rev h d) := by
    pointwise [A_main_v165, A_main_v164, A_main_v163, A_main_v31]
    simp
  rw [e, q_row, rev_row]

theorem kr_at (n : Fin 16) (b : Fin 32) (h : Fin 4) (i d : Fin 128) :
    A_main_v168 x w (ix5 n b h i d) = kAt x b.val h.val ((15 - n.val) * 128 + i.rev.val) d.val := by
  have e : A_main_v168 x w (ix5 n b h i d) = A_main_v64 x w (ix4 b (⟨n.val * 128 + i.val, by omega⟩ : Fin 2048).rev h d) := by
    pointwise [A_main_v168, A_main_v167, A_main_v166, A_main_v65]
    simp
  rw [e, k_row, rev_row]

theorem vr_at (n : Fin 16) (b : Fin 32) (h : Fin 4) (i d : Fin 128) :
    A_main_v171 x w (ix5 n b h i d) = cell x 2 b.val h.val ((15 - n.val) * 128 + i.rev.val) d.val := by
  have e : A_main_v171 x w (ix5 n b h i d) = A_main_v67 x w (ix4 b (⟨n.val * 128 + i.val, by omega⟩ : Fin 2048).rev h d) := by
    pointwise [A_main_v171, A_main_v170, A_main_v169, A_main_v68]
    simp
  rw [e, v_row, rev_row]

end Cert.ReferenceIdeal.Ret

end
-- ==== Proof.RetRefTab.lean ====
/- The reference's decay tables at an index, as scalars. -/
module

public import proofs.«01_k».proof.Proof.RetStep
public import proofs.«01_k».proof.Proof.RetScalar

@[expose] public section

set_option maxRecDepth 16384

noncomputable section

namespace Cert.ReferenceIdeal.Ret

open Cert.ReferenceIdeal
open Cert.ReferenceIdeal.Step
open Idealize.ShloMosaic Idealize.ShloMosaic.TcCoe
open Cert.Ret

variable (x : (⟨S65536x2048, .f32⟩ : BufTy).Contents (Elt Ideal)) (w : (⟨S2x4, .f32⟩ : BufTy).Contents (Elt Ideal))

theorem zero_at : (id (constant (F := Ideal) S_ FTy.f32 0#32) : FVec Ideal S_ .f32) ix0 = (0 : EReal) := by
  show (constant (F := Ideal) S_ FTy.f32 0#32 : FVec Ideal S_ .f32) ix0 = 0
  pointwise

/-- The logarithms of the decays. -/
theorem lg_at (s : Fin 2) (h : Fin 4) : A_main_v71 x w (ix2 s h) = lgOf (w (ix2 s h)) := by
  pointwise [A_main_v71, A_main_v70, A_main_call0_v4, A_main_call0_v6, A_main_call0_v11, A_main_call0_v1,A_main_call0_v10, A_main_call0_v9, A_main_call0_v8, A_main_call0_v7, A_main_call0_v3, A_main_v69, K_main_call0_v0, K_main_call0_v2, K_main_call0_v5, K_main_call0_cst]
  rfl

theorem lg0_at (h : Fin 4) : A_main_v73 x w (ix1 h) = lgOf (w (ix2 0 h)) := by
  have e : A_main_v73 x w (ix1 h) = A_main_v71 x w (ix2 0 h) := by pointwise [A_main_v73, A_main_v72]
  rw [e, lg_at]

theorem lg1_at (h : Fin 4) : A_main_v115 x w (ix1 h) = lgOf (w (ix2 1 h)) := by
  have e : A_main_v115 x w (ix1 h) = A_main_v71 x w (ix2 1 h) := by pointwise [A_main_v115, A_main_v114]
  rw [e, lg_at]

/-- The first sweep's weights inside a chunk. -/
theorem dec0_at (h : Fin 4) (i j : Fin 128) : A_main_v91 x w (ix3 h i j) = decF (lgOf (w (ix2 0 h))) i j := by
  pointwise [A_main_v91, A_main_v90, A_main_v89, A_main_v87, A_main_v83, K_main_v88, K_main_v86, K_main_v85, K_main_v79, K_main_v77, K_main_v75, K_main_v74, K_main_v78, K_main_v76, K_main_v84, K_main_cst_5, K_main_call1_v1, K_main_v82, K_main_v81, K_main_v80, K_main_cst_4, K_main_call1_v2, K_main_call1_v0, K_main_cst_6]
  rw [zero_at, lg0_at]
  rfl

/-- The second sweep's. -/
theorem dec1_at (h : Fin 4) (i j : Fin 128) : A_main_v133 x w (ix3 h i j) = decB (lgOf (w (ix2 1 h))) i j := by
  pointwise [A_main_v133, A_main_v132, A_main_v131, A_main_v129, A_main_v125, K_main_v130, K_main_v128, K_main_v127, K_main_v121, K_main_v119, K_main_v117, K_main_v116, K_main_v120, K_main_v118, K_main_v126, K_main_cst_11, K_main_call2_v1, K_main_v124, K_main_v123, K_main_v122, K_main_cst_10, K_main_call2_v2, K_main_call2_v0, K_main_cst_12]
  rw [zero_at, lg1_at]
  rfl

theorem end0_at (h : Fin 4) (i : Fin 128) : A_main_v100 x w (ix4 0 h i 0) = wEnd (lgOf (w (ix2 0 h))) i := by
  pointwise [A_main_v100, A_main_v99, A_main_v98, A_main_v96, A_main_v92, K_main_v97, K_main_v95, K_main_v94, K_main_v93, K_main_cst_7, K_main_v74]
  rw [lg0_at]
  rfl

theorem end1_at (h : Fin 4) (i : Fin 128) : A_main_v142 x w (ix4 0 h i 0) = wEnd (lgOf (w (ix2 1 h))) i := by
  pointwise [A_main_v142, A_main_v141, A_main_v140, A_main_v138, A_main_v134, K_main_v139, K_main_v137, K_main_v136, K_main_v135, K_main_cst_13, K_main_v116]
  rw [lg1_at]
  rfl

theorem next0_at (h : Fin 4) (i : Fin 128) : A_main_v109 x w (ix4 0 h i 0) = wNext (lgOf (w (ix2 0 h))) i := by
  pointwise [A_main_v109, A_main_v108, A_main_v107, A_main_v105, A_main_v101, K_main_v106, K_main_v104, K_main_v103, K_main_v102, K_main_cst_8, K_main_v74]
  rw [lg0_at]
  rfl

theorem next1_at (h : Fin 4) (i : Fin 128) : A_main_v151 x w (ix4 0 h i 0) = wNext (lgOf (w (ix2 1 h))) i := by
  pointwise [A_main_v151, A_main_v150, A_main_v149, A_main_v147, A_main_v143, K_main_v148, K_main_v146, K_main_v145, K_main_v144, K_main_cst_14, K_main_v116]
  rw [lg1_at]
  rfl

theorem all0_at (h : Fin 4) : A_main_v113 x w (ix4 0 h 0 0) = wAll (lgOf (w (ix2 0 h))) := by
  pointwise [A_main_v113, A_main_v112, A_main_v111, K_main_v110, K_main_cst_9]
  rw [lg0_at]
  rfl

theorem all1_at (h : Fin 4) : A_main_v155 x w (ix4 0 h 0 0) = wAll (lgOf (w (ix2 1 h))) := by
  pointwise [A_main_v155, A_main_v154, A_main_v153, K_main_v152, K_main_cst_15]
  rw [lg1_at]
  rfl

end Cert.ReferenceIdeal.Ret

end
-- ==== Proof.RetRefTrip.lean ====
/- One trip of the reference's loop at an index: the chunks it takes, the two new states, the two rows it stores. -/
module

public import proofs.«01_k».proof.Proof.RetStep
public import Idealize.ShloMosaic.Lib.Pipeline.ValueKit
public import Idealize.ShloMosaic.Lib.WordCmp

@[expose] public section

set_option maxRecDepth 16384

noncomputable section

namespace Cert.ReferenceIdeal.Ret

open Cert.ReferenceIdeal
open Cert.ReferenceIdeal.Step
open Idealize.ShloMosaic Idealize.ShloMosaic.TcCoe

variable (s : State Ideal)

/-- Where trip `j` reads and writes a chunk: a word index, cut to the array's length. -/
abbrev starts (j : ℕ) : Fin 5 → ℤ := fun k =>
  BitVec.toInt ((![constantI S_ 32 (BitVec.ofNat 32 j), constantI S_ 32 0#32, constantI S_ 32 0#32, constantI S_ 32 0#32, constantI S_ 32 0#32] : Fin 5 → (⟨S_, .i32⟩ : BufTy).Contents (Elt Ideal)) k (Shape.Idx.first Gen.h_S_))

theorem clamp (j : Fin 16) : ∀ a : Fin 5, Host.clampedStart S16x32x4x128x128 S1x32x4x128x128 rfl (starts j.val) a = (![j.val, 0, 0, 0, 0] : Fin 5 → ℕ) a := by
  have key : ∀ (j : Fin 16) (a : Fin 5), Host.clampedStart S16x32x4x128x128 S1x32x4x128x128 rfl
    (fun k => BitVec.toInt ((![fun _ => (BitVec.ofNat 32 j.val), fun _ => 0#32, fun _ => 0#32, fun _ => 0#32, fun _ => 0#32] : Fin 5 → S_.Idx → BitVec 32) k (Shape.Idx.first Gen.h_S_))) a = (![j.val, 0, 0, 0, 0] : Fin 5 → ℕ) a := by decide +kernel
  exact key j

/-- A chunk taken at trip `j`. -/
theorem take_at (x : FVec Ideal S16x32x4x128x128 .f32) (f) (j : Fin 16) (b : Fin 32) (h : Fin 4) (i d : Fin 128) :
    Host.dynamicSlice S1x32x4x128x128 x (starts j.val) f (ix5 0 b h i d) = x (ix5 j b h i d) := by
  pointwise
  refine congrArg x (funext fun a => Fin.ext ?_)
  match a with
  | ⟨0, _⟩ => exact clamp j 0
  | ⟨1, _⟩ => exact (congrArg (· + b.val) (clamp j 1)).trans (Nat.zero_add _)
  | ⟨2, _⟩ => exact (congrArg (· + h.val) (clamp j 2)).trans (Nat.zero_add _)
  | ⟨3, _⟩ => exact (congrArg (· + i.val) (clamp j 3)).trans (Nat.zero_add _)
  | ⟨4, _⟩ => exact (congrArg (· + d.val) (clamp j 4)).trans (Nat.zero_add _)

theorem b5_at (j : Fin 16) (b : Fin 32) (h : Fin 4) (i d : Fin 128) : b5 j s (ix4 b h i d) = s.main_v174_0 (ix5 j b h i d) := by
  have e : b5 j s (ix4 b h i d) = b4 j s (ix5 0 b h i d) := by pointwise [b5]
  rw [e]
  exact take_at s.main_v174_0 Gen.sliceFits_S16x32x4x128x128_S1x32x4x128x128 j b h i d

theorem b11_at (j : Fin 16) (b : Fin 32) (h : Fin 4) (i d : Fin 128) : b11 j s (ix4 b h i d) = s.main_v174_1 (ix5 j b h i d) := by
  have e : b11 j s (ix4 b h i d) = b10 j s (ix5 0 b h i d) := by pointwise [b11]
  rw [e]
  exact take_at s.main_v174_1 Gen.sliceFits_S16x32x4x128x128_S1x32x4x128x128 j b h i d

theorem b17_at (j : Fin 16) (b : Fin 32) (h : Fin 4) (i d : Fin 128) : b17 j s (ix4 b h i d) = s.main_v174_2 (ix5 j b h i d) := by
  have e : b17 j s (ix4 b h i d) = b16 j s (ix5 0 b h i d) := by pointwise [b17]
  rw [e]
  exact take_at s.main_v174_2 Gen.sliceFits_S16x32x4x128x128_S1x32x4x128x128 j b h i d

theorem b23_at (j : Fin 16) (b : Fin 32) (h : Fin 4) (i d : Fin 128) : b23 j s (ix4 b h i d) = s.main_v174_3 (ix5 j b h i d) := by
  have e : b23 j s (ix4 b h i d) = b22 j s (ix5 0 b h i d) := by pointwise [b23]
  rw [e]
  exact take_at s.main_v174_3 Gen.sliceFits_S16x32x4x128x128_S1x32x4x128x128 j b h i d

theorem b29_at (j : Fin 16) (b : Fin 32) (h : Fin 4) (i d : Fin 128) : b29 j s (ix4 b h i d) = s.main_v174_4 (ix5 j b h i d) := by
  have e : b29 j s (ix4 b h i d) = b28 j s (ix5 0 b h i d) := by pointwise [b29]
  rw [e]
  exact take_at s.main_v174_4 Gen.sliceFits_S16x32x4x128x128_S1x32x4x128x128 j b h i d

theorem b35_at (j : Fin 16) (b : Fin 32) (h : Fin 4) (i d : Fin 128) : b35 j s (ix4 b h i d) = s.main_v174_5 (ix5 j b h i d) := by
  have e : b35 j s (ix4 b h i d) = b34 j s (ix5 0 b h i d) := by pointwise [b35]
  rw [e]
  exact take_at s.main_v174_5 Gen.sliceFits_S16x32x4x128x128_S1x32x4x128x128 j b h i d

/-- A chunk stored at trip `j`. -/
theorem put_at (x : FVec Ideal S16x32x4x128x128 .f32) (y : FVec Ideal S1x32x4x128x128 .f32) (f) (j n : Fin 16) (b : Fin 32) (h : Fin 4) (i d : Fin 128) :
    Host.dynamicUpdateSlice x y (starts j.val) f (ix5 n b h i d) = if n = j then y (ix5 0 b h i d) else x (ix5 n b h i d) := by
  have e0 := clamp j 0
  have e1 := clamp j 1
  have e2 := clamp j 2
  have e3 := clamp j 3
  have e4 := clamp j 4
  simp only [Matrix.cons_val] at e0 e1 e2 e3 e4
  pointwise
  by_cases hn : n = j
  · subst hn
    rw [if_pos rfl, dif_pos ⟨⟨e0.le, by omega⟩, by omega, by omega, by omega, by omega⟩]
    refine congrArg y ?_
    congr 1 <;> apply Fin.ext <;> simp [e0, e1, e2, e3, e4]
  · rw [if_neg hn, dif_neg (fun hh => hn (Fin.ext (by omega)))]

theorem b49_at (j : ℕ) (b : Fin 32) (h : Fin 4) (i d : Fin 128) : b49 j s (ix4 b h i d) =
    s.main_v174_15 (ix4 b h i d) * s.main_v174_9 (ix4 0 h 0 0) +
      ∑ x, b11 j s (ix4 b h x i) * s.main_v174_8 (ix4 0 h x 0) * b17 j s (ix4 b h x d) := by
  pointwise [b49, b48, b47, b46, b45, b44]

theorem b64_at (j : ℕ) (b : Fin 32) (h : Fin 4) (i d : Fin 128) : b64 j s (ix4 b h i d) =
    s.main_v174_16 (ix4 b h i d) * s.main_v174_13 (ix4 0 h 0 0) +
      ∑ x, b29 j s (ix4 b h x i) * s.main_v174_12 (ix4 0 h x 0) * b35 j s (ix4 b h x d) := by
  pointwise [b64, b63, b62, b61, b60, b59]

theorem b50_at (j : ℕ) (b : Fin 32) (h : Fin 4) (i d : Fin 128) : b50 j s (ix4 b h i d) =
    (∑ x, (∑ y, b5 j s (ix4 b h i y) * b11 j s (ix4 b h x y)) * s.main_v174_6 (ix3 h i x) * b17 j s (ix4 b h x d)) +
      ∑ x, b5 j s (ix4 b h i x) * s.main_v174_7 (ix4 0 h i 0) * s.main_v174_15 (ix4 b h x d) := by
  pointwise [b50, b43, b42, b41, b40, b39, b38, b37, b36]

theorem b65_at (j : ℕ) (b : Fin 32) (h : Fin 4) (i d : Fin 128) : b65 j s (ix4 b h i d) =
    (∑ x, (∑ y, b23 j s (ix4 b h i y) * b29 j s (ix4 b h x y)) * s.main_v174_10 (ix3 h i x) * b35 j s (ix4 b h x d)) +
      ∑ x, b23 j s (ix4 b h i x) * s.main_v174_11 (ix4 0 h i 0) * s.main_v174_16 (ix4 b h x d) := by
  pointwise [b65, b58, b57, b56, b55, b54, b53, b52, b51]

theorem b71_at (j n : Fin 16) (b : Fin 32) (h : Fin 4) (i d : Fin 128) : b71 j s (ix5 n b h i d) =
    if n = j then b50 j s (ix4 b h i d) else s.main_v174_17 (ix5 n b h i d) := by
  refine (put_at s.main_v174_17 (b66 j s) Gen.sliceFits_S16x32x4x128x128_S1x32x4x128x128 j n b h i d).trans ?_
  have e : b66 j s (ix5 0 b h i d) = b50 j s (ix4 b h i d) := by pointwise [b66]
  rw [e]

theorem b77_at (j n : Fin 16) (b : Fin 32) (h : Fin 4) (i d : Fin 128) : b77 j s (ix5 n b h i d) =
    if n = j then b65 j s (ix4 b h i d) else s.main_v174_18 (ix5 n b h i d) := by
  refine (put_at s.main_v174_18 (b72 j s) Gen.sliceFits_S16x32x4x128x128_S1x32x4x128x128 j n b h i d).trans ?_
  have e : b72 j s (ix5 0 b h i d) = b65 j s (ix4 b h i d) := by pointwise [b72]
  rw [e]

end Cert.ReferenceIdeal.Ret

end
-- ==== Proof.RetSweep.lean ====
/- The reference's two sweeps: the states and the stored rows after a number of trips. -/
module

public import proofs.«01_k».proof.Proof.RetSpec
public import proofs.«01_k».proof.Proof.RetRefChunk
public import proofs.«01_k».proof.Proof.RetRefTab
public import proofs.«01_k».proof.Proof.RetRefTrip

@[expose] public section

set_option maxRecDepth 16384

noncomputable section

namespace Cert.ReferenceIdeal.Ret

open Cert.ReferenceIdeal
open Cert.ReferenceIdeal.Step
open Idealize.ShloMosaic Idealize.ShloMosaic.TcCoe
open Cert.Ret

variable (x : (⟨S65536x2048, .f32⟩ : BufTy).Contents (Elt Ideal)) (w : (⟨S2x4, .f32⟩ : BufTy).Contents (Elt Ideal))

/-- The first sweep's state before its chunk `n`. -/
def stateF (b : Fin 32) (h : Fin 4) : ℕ → Fin 128 → Fin 128 → EReal :=
  state (fun i _ => wEnd (lgOf (w (ix2 0 h))) i) (fun _ _ => wAll (lgOf (w (ix2 0 h)))) (fwd (kAt x b.val h.val)) (fwd (cell x 2 b.val h.val))

/-- The second sweep's. -/
def stateB (b : Fin 32) (h : Fin 4) : ℕ → Fin 128 → Fin 128 → EReal :=
  state (fun i _ => wEnd (lgOf (w (ix2 1 h))) i) (fun _ _ => wAll (lgOf (w (ix2 1 h)))) (bwd (kAt x b.val h.val)) (bwd (cell x 2 b.val h.val))

/-- The rows that the first sweep stores at its trip `n`. -/
def outF (b : Fin 32) (h : Fin 4) (n : ℕ) : Fin 128 → Fin 128 → EReal :=
  half (fwd (qAt x b.val h.val) n) (fwd (kAt x b.val h.val) n) (fwd (cell x 2 b.val h.val) n) (decF (lgOf (w (ix2 0 h))))
    (wNext (lgOf (w (ix2 0 h)))) (stateF x w b h n)

/-- The rows that the second sweep stores at its trip `n`. -/
def outB (b : Fin 32) (h : Fin 4) (n : ℕ) : Fin 128 → Fin 128 → EReal :=
  half (bwd (qAt x b.val h.val) n) (bwd (kAt x b.val h.val) n) (bwd (cell x 2 b.val h.val) n) (decB (lgOf (w (ix2 1 h))))
    (wNext (lgOf (w (ix2 1 h)))) (stateB x w b h n)

variable {x w} (it : ℕ → State Ideal) (h0 : it 0 = init x w) (hs : ∀ n, it (n + 1) = step n (it n))

include h0 hs

theorem const_0 (n : ℕ) : (it n).main_v174_0 = A_main_v158 x w := by
  induction n with
  | zero => rw [h0]; rfl
  | succ n ih => rw [hs]; exact ih

theorem const_1 (n : ℕ) : (it n).main_v174_1 = A_main_v160 x w := by
  induction n with
  | zero => rw [h0]; rfl
  | succ n ih => rw [hs]; exact ih

theorem const_2 (n : ℕ) : (it n).main_v174_2 = A_main_v162 x w := by
  induction n with
  | zero => rw [h0]; rfl
  | succ n ih => rw [hs]; exact ih

theorem const_3 (n : ℕ) : (it n).main_v174_3 = A_main_v165 x w := by
  induction n with
  | zero => rw [h0]; rfl
  | succ n ih => rw [hs]; exact ih

theorem const_4 (n : ℕ) : (it n).main_v174_4 = A_main_v168 x w := by
  induction n with
  | zero => rw [h0]; rfl
  | succ n ih => rw [hs]; exact ih

theorem const_5 (n : ℕ) : (it n).main_v174_5 = A_main_v171 x w := by
  induction n with
  | zero => rw [h0]; rfl
  | succ n ih => rw [hs]; exact ih

theorem const_6 (n : ℕ) : (it n).main_v174_6 = A_main_v91 x w := by
  induction n with
  | zero => rw [h0]; rfl
  | succ n ih => rw [hs]; exact ih

theorem const_7 (n : ℕ) : (it n).main_v174_7 = A_main_v109 x w := by
  induction n with
  | zero => rw [h0]; rfl
  | succ n ih => rw [hs]; exact ih

theorem const_8 (n : ℕ) : (it n).main_v174_8 = A_main_v100 x w := by
  induction n with
  | zero => rw [h0]; rfl
  | succ n ih => rw [hs]; exact ih

theorem const_9 (n : ℕ) : (it n).main_v174_9 = A_main_v113 x w := by
  induction n with
  | zero => rw [h0]; rfl
  | succ n ih => rw [hs]; exact ih

theorem const_10 (n : ℕ) : (it n).main_v174_10 = A_main_v133 x w := by
  induction n with
  | zero => rw [h0]; rfl
  | succ n ih => rw [hs]; exact ih

theorem const_11 (n : ℕ) : (it n).main_v174_11 = A_main_v151 x w := by
  induction n with
  | zero => rw [h0]; rfl
  | succ n ih => rw [hs]; exact ih

theorem const_12 (n : ℕ) : (it n).main_v174_12 = A_main_v142 x w := by
  induction n with
  | zero => rw [h0]; rfl
  | succ n ih => rw [hs]; exact ih

theorem const_13 (n : ℕ) : (it n).main_v174_13 = A_main_v155 x w := by
  induction n with
  | zero => rw [h0]; rfl
  | succ n ih => rw [hs]; exact ih

/-- After `n` trips: either state, and the rows that either sweep has stored. -/
theorem sweeps (n : ℕ) (hn : n ≤ 16) (b : Fin 32) (h : Fin 4) :
    (∀ d e, (it n).main_v174_15 (ix4 b h d e) = stateF x w b h n d e) ∧
    (∀ d e, (it n).main_v174_16 (ix4 b h d e) = stateB x w b h n d e) ∧
    (∀ (k : Fin 16), k.val < n → ∀ i e, (it n).main_v174_17 (ix5 k b h i e) = outF x w b h k.val i e) ∧
    (∀ (k : Fin 16), k.val < n → ∀ i e, (it n).main_v174_18 (ix5 k b h i e) = outB x w b h k.val i e) := by
  induction n with
  | zero =>
    refine ⟨fun d e => ?_, fun d e => ?_, fun k hk => absurd hk (Nat.not_lt_zero _), fun k hk => absurd hk (Nat.not_lt_zero _)⟩
    · rw [h0]
      show (K_main_v156 (F := Ideal)) (ix4 b h d e) = (0 : EReal)
      pointwise [K_main_v156, K_main_cst_16]
    · rw [h0]
      show (K_main_v156 (F := Ideal)) (ix4 b h d e) = (0 : EReal)
      pointwise [K_main_v156, K_main_cst_16]
  | succ n ih =>
    obtain ⟨i1, i2, i3, i4⟩ := ih (by omega)
    obtain ⟨j, rfl⟩ : ∃ j : Fin 16, j.val = n := ⟨⟨n, by omega⟩, rfl⟩
    refine ⟨fun d e => ?_, fun d e => ?_, fun k hk i e => ?_, fun k hk i e => ?_⟩
    · rw [hs, step_main_v174_15, b49_at, i1, const_9 it h0 hs, const_8 it h0 hs]
      simp only [b11_at, b17_at, const_1 it h0 hs, const_2 it h0 hs, k_at, v_at, end0_at, all0_at]
      rfl
    · rw [hs, step_main_v174_16, b64_at, i2, const_13 it h0 hs, const_12 it h0 hs]
      simp only [b29_at, b35_at, const_4 it h0 hs, const_5 it h0 hs, kr_at, vr_at, end1_at, all1_at]
      rfl
    · rw [hs, step_main_v174_17, b71_at]
      by_cases hk' : k = j
      · subst hk'
        rw [if_pos rfl, b50_at, const_6 it h0 hs, const_7 it h0 hs]
        simp only [b5_at, b11_at, b17_at, const_0 it h0 hs, const_1 it h0 hs, const_2 it h0 hs, q_at, k_at, v_at, dec0_at, next0_at, i1]
        rfl
      · rw [if_neg hk']
        exact i3 k (by have := Fin.val_ne_of_ne hk'; omega) i e
    · rw [hs, step_main_v174_18, b77_at]
      by_cases hk' : k = j
      · subst hk'
        rw [if_pos rfl, b65_at, const_10 it h0 hs, const_11 it h0 hs]
        simp only [b23_at, b29_at, b35_at, const_3 it h0 hs, const_4 it h0 hs, const_5 it h0 hs, qr_at, kr_at, vr_at, dec1_at, next1_at, i2]
        rfl
      · rw [if_neg hk']
        exact i4 k (by have := Fin.val_ne_of_ne hk'; omega) i e

end Cert.ReferenceIdeal.Ret

end
-- ==== Proof.RetValue.lean ====
/- The retention's value: what each grid point writes is the reference's result on its block, so the kernel's array is the
   reference's. -/
module

public import proofs.«01_k».proof.Proof.RetBlock
public import proofs.«01_k».proof.Proof.RetBody
public import proofs.«01_k».proof.Proof.RetEq
public import proofs.«01_k».proof.Proof.RetFrame
public import proofs.«01_k».proof.Proof.RetRefOut
public import proofs.«01_k».proof.Proof.RetStep
public import proofs.«01_k».proof.Proof.RetSweep
public import proofs.«01_k».proof.Defs

@[expose] public section

set_option maxRecDepth 16384

noncomputable section

open Idealize.ShloMosaic Idealize.ShloMosaic.TcCoe Idealize.SL.Sem
open Idealize.ShloMosaic.Pipeline (Dat)

namespace Cert.Ret

/-- A mixed head of which the tables are known, on rows in sequence order: both sweeps' rows, normalized and gated. -/
theorem head_eq (a a' : EReal) (q k v g : ℕ → ℕ → EReal) (q' k' v' g' : ℕ → Fin 128 → Fin 128 → EReal)
    (hq : ∀ n, n < 16 → q' n = fwd q n) (hk : ∀ n, n < 16 → k' n = fwd k n) (hv : ∀ n, n < 16 → v' n = fwd v n)
    (hg : ∀ n, n < 16 → g' n = fwd g n) (gn : Fin 128 → EReal) (n : ℕ) (hn : n < 16) (i e : Fin 128) :
    headRow q' k' v' g' (fun i j => decF a i j + decK a' i j) (fun i _ => wEnd a i) (fun i _ => wPos a' i) (fun i _ => wNext a i)
        (fun i _ => wLeft a' i) (fun _ _ => wAll a) (fun _ _ => wAll a') gn n i e =
      gated (fun e => half (fwd q n) (fwd k n) (fwd v n) (decF a) (wNext a) (state (fun i _ => wEnd a i) (fun _ _ => wAll a) (fwd k) (fwd v) n) i e +
          half (bwd q (15 - n)) (bwd k (15 - n)) (bwd v (15 - n)) (decB a') (wNext a')
            (state (fun i _ => wEnd a' i) (fun _ _ => wAll a') (bwd k) (bwd v) (15 - n)) i.rev e)
        (Ideal.ofBits .f32 0x358637BD#32) (gn e) (g (n * 128 + i.val) e.val) e := by
  unfold headRow
  rw [hq n hn, hk n hn, hv n hn, hg n hn,
    state_congr _ _ k' v' (fwd k) (fwd v) n (fun j hj => ⟨hk j (by omega), hv j (by omega)⟩),
    state_congr _ _ (fun m => k' (15 - m)) (fun m => v' (15 - m)) (fun m => fwd k (15 - m)) (fun m => fwd v (15 - m)) (15 - n)
      (fun j hj => ⟨hk (15 - j) (by omega), hv (15 - j) (by omega)⟩),
    state_rev]
  refine congrArg (fun o : Fin 128 → EReal => gated o _ _ _ e) (funext fun e => ?_)
  exact mix_eq a a' q k v n hn _ _ i e

end Cert.Ret

namespace Cert.KernelIdeal.Ret

open Cert.KernelIdeal Cert.KernelIdeal.Gen
open Cert.Ret
open Cert.ReferenceIdeal.Step (State step init R_main_v205)

variable (m : (ℓ : Loc nD τ sig) → Buf (Elt Ideal) ℓ) (c : Dev nD)

/-- The decays' parameters, as launched. -/
abbrev W : FVec Ideal ⟨2, ![2, 4]⟩ .f32 := m ((c : Thread nD τ).loc main_arg1)

/-- The normalization's weights, as launched. -/
abbrev G : FVec Ideal ⟨1, ![512]⟩ .f32 := m ((c : Thread nD τ).loc main_arg2)

/-- The reference's states, one a trip. -/
def states (x : (⟨Cert.ReferenceIdeal.S65536x2048, .f32⟩ : BufTy).Contents (Elt Ideal))
    (w : (⟨Cert.ReferenceIdeal.S2x4, .f32⟩ : BufTy).Contents (Elt Ideal)) : ℕ → State Ideal
  | 0 => init x w
  | n + 1 => step n (states x w n)

/-- The reference's result on the kernel's arguments. -/
def result : FVec Ideal ⟨2, ![65536, 512]⟩ .bf16 := R_main_v205 (states (X m c) (W m c) 16) (X m c) (G m c)

/-- What the body leaves at a grid point, at a row and column of its block, is the reference's result there. -/
theorem point_at (t : Fin cfg0.N) (n : ℕ) (hn : n < 16) (r e : Fin 128)
    (hr : t.val / 4 * 2048 + (n * 128 + r.val) < 65536) (hk : t.val % 4 * 128 + e.val < 512) :
    outsAt0 m c t (ix2 ⟨(n * 128 + r.val) % 2048, Nat.mod_lt _ (by decide)⟩ e)
      = result m c (ix2 ⟨t.val / 4 * 2048 + (n * 128 + r.val), hr⟩ ⟨t.val % 4 * 128 + e.val, hk⟩) := by
  have hrow : ∀ (y : Vec Ideal S2048x128 .f32) (f : ℕ → ℕ → EReal), (∀ (p : Fin 2048) (d : Fin 128), y (ix2 p d) = f p.val d.val) →
      ∀ n, n < 16 → row y n = fwd f n := fun y f h n hn => by
    funext i d
    refine (h _ _).trans ?_
    show f ((n * 128 + i.val) % 2048) d.val = f (n * 128 + i.val) d.val
    rw [Nat.mod_eq_of_lt (by omega)]
  have hb : t.val / 4 < 32 := by have := pt_lt t; omega
  have hh : t.val % 4 < 4 := by omega
  have sw := Cert.ReferenceIdeal.Ret.sweeps (x := X m c) (w := W m c) (states (X m c) (W m c)) rfl (fun _ => rfl) 16 le_rfl ⟨t.val / 4, hb⟩ ⟨t.val % 4, hh⟩
  have hD : (fun i j => (iblk m c 6 t : Vec Ideal S1x128x128 .f32) (ix3 0 i j)) =
      fun i j => decF (lgOf (W m c (ix2 0 ⟨t.val % 4, hh⟩))) i j + decK (lgOf (W m c (ix2 1 ⟨t.val % 4, hh⟩))) i j := by
    funext i j; exact (blk6 m c t i j).trans (dec_tab m c _ i j)
  have s0 : (fun i d => (iblk m c 7 t : Vec Ideal S1x6x128x128 .f32) (ix4 0 0 i d)) = fun i _ => wEnd (lgOf (W m c (ix2 0 ⟨t.val % 4, hh⟩))) i := by
    funext i d; exact (blk7 m c t 0 i d).trans (slot0 m c _ i d)
  have s1 : (fun i d => (iblk m c 7 t : Vec Ideal S1x6x128x128 .f32) (ix4 0 1 i d)) = fun i _ => wPos (lgOf (W m c (ix2 1 ⟨t.val % 4, hh⟩))) i := by
    funext i d; exact (blk7 m c t 1 i d).trans (slot1 m c _ i d)
  have s2 : (fun i d => (iblk m c 7 t : Vec Ideal S1x6x128x128 .f32) (ix4 0 2 i d)) = fun i _ => wNext (lgOf (W m c (ix2 0 ⟨t.val % 4, hh⟩))) i := by
    funext i d; exact (blk7 m c t 2 i d).trans (slot2 m c _ i d)
  have s3 : (fun i d => (iblk m c 7 t : Vec Ideal S1x6x128x128 .f32) (ix4 0 3 i d)) = fun i _ => wLeft (lgOf (W m c (ix2 1 ⟨t.val % 4, hh⟩))) i := by
    funext i d; exact (blk7 m c t 3 i d).trans (slot3 m c _ i d)
  have s4 : (fun i d => (iblk m c 7 t : Vec Ideal S1x6x128x128 .f32) (ix4 0 4 i d)) = fun _ _ => wAll (lgOf (W m c (ix2 0 ⟨t.val % 4, hh⟩))) := by
    funext i d; exact (blk7 m c t 4 i d).trans (slot4 m c _ i d)
  have s5 : (fun i d => (iblk m c 7 t : Vec Ideal S1x6x128x128 .f32) (ix4 0 5 i d)) = fun _ _ => wAll (lgOf (W m c (ix2 1 ⟨t.val % 4, hh⟩))) := by
    funext i d; exact (blk7 m c t 5 i d).trans (slot5 m c _ i d)
  have hG : (iblk m c 8 t : Vec Ideal S1x128 .f32) (ix2 0 e) = G m c (ix1 ⟨t.val % 4 * 128 + e.val, hk⟩) :=
    (blk8 m c t e).trans (gn_tab m c _)
  unfold outsAt0
  rw [out_body _ _ _ _ _ _ _ _ _ _ _ _ _ _ _ _ _ _ _ _ _ _ _ _ _ _ _ _ _ _ _ _ _ _ _ _ _ n hn r e, hD, s0, s1, s2, s3, s4, s5]
  refine (head_eq _ _ (qAt (X m c) (t.val / 4) (t.val % 4)) (kAt (X m c) (t.val / 4) (t.val % 4)) (cell (X m c) 2 (t.val / 4) (t.val % 4))
    (cell (X m c) 3 (t.val / 4) (t.val % 4)) _ _ _ _ (hrow _ _ (qrow m c t)) (hrow _ _ (krow m c t)) (hrow _ _ (cell2 m c t)) (hrow _ _ (cell3 m c t))
    _ n hn r e).trans ?_
  unfold result
  rw [Cert.ReferenceIdeal.Ret.out_at (X m c) (states (X m c) (W m c) 16) (G m c) _ _ ⟨n, hn⟩ ⟨t.val / 4, hb⟩ ⟨t.val % 4, hh⟩ r e rfl rfl]
  have e17 := fun e => sw.2.2.1 ⟨n, hn⟩ hn r e
  have e18 := fun e => sw.2.2.2 (Fin.rev ⟨n, hn⟩) (Fin.rev ⟨n, hn⟩).isLt r.rev e
  simp only [e17, e18, hG]
  rw [show ((Fin.rev (⟨n, hn⟩ : Fin 16)) : Fin 16).val = 15 - n from (Fin.val_rev _).trans (by show 16 - (n + 1) = 15 - n; omega)]
  rfl

/-- Where the result's array holds an element of a grid point's block. -/
theorem emb9 (z : FVec Ideal ⟨2, ![65536, 512]⟩ .bf16) (t : Fin cfg0.N) (p : Fin 2048) (e : Fin 128) :
    z (((cfg0.win 9).blk t).view.emb (ix2 p e)) =
      z (ix2 ⟨t.val / 4 * 2048 + p.val, by have := pt_lt t; omega⟩ ⟨t.val % 4 * 128 + e.val, by omega⟩) := by
  blk_point [idx t]

/-- What a grid point leaves in its block is the reference's result on the block's rows and columns. -/
theorem point9 (t : Fin cfg0.N) (y) : outsAt0 m c t y = result m c (((cfg0.win 9).blk t).view.emb y) := by
  have key : ∀ (p : Fin 2048) (e : Fin 128), outsAt0 m c t (ix2 p e) = result m c (((cfg0.win 9).blk t).view.emb (ix2 p e)) := fun p e => by
    have hp : p = ⟨(p.val / 128 * 128 + p.val % 128) % 2048, Nat.mod_lt _ (by decide)⟩ := Fin.ext (by
      show p.val = (p.val / 128 * 128 + p.val % 128) % 2048; omega)
    have ht := pt_lt t
    refine (congrArg (fun p => outsAt0 m c t (ix2 p e)) hp).trans
      ((point_at m c t (p.val / 128) (by omega) ⟨p.val % 128, by omega⟩ e (by show _ + (_ + p.val % 128) < _; omega) (by omega)).trans ?_)
    have e1 : t.val / 4 * 2048 + (p.val / 128 * 128 + p.val % 128) = t.val / 4 * 2048 + p.val := by omega
    refine Eq.trans ?_ (emb9 (result m c) t p e).symm
    exact congrArg (fun r => result m c (ix2 r _)) (Fin.ext e1)
  rw [eq_ix2 (n0 := 2048) (n1 := 128) y]
  exact key (y 0) (y 1)

/-- The kernel's array after the run is the reference's result. -/
theorem final9 : (dats m 0 c).arrAt 9 (cfgs 0).N = result m c := by
  refine (dats m 0 c).arrAt_eq_of_covers 9 _ (by decide +kernel) fun t _ y => ?_
  blk_simp
  rw [after0_9]
  exact point9 m c t y

/-- The kernel's run: its array is the reference's result on its arguments, its arguments end unchanged. -/
theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v116) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).1 9).trans (final9 m c),
      ((h c).1 3).trans (((dats m 0 c).arrAt_in 3 rfl _).trans ((A_eq m c 3).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

/-- The retention: from the same arguments the kernel and its reference end with the same result. -/
theorem algebraic : Cert.algebraic_KernelIdeal_ReferenceIdeal := by
  intro m ρ m' ρ' _ hagree
  refine ⟨fun c => result m c, run m ρ, (θ_run _ _ _).mono (fun _ h c => ?_)
    (Cert.ReferenceIdeal.Ret.run_iter (F := Ideal) m' ρ'
      (fun c => states (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1)))
      (fun _ => rfl) (fun _ _ => rfl))⟩
  obtain ⟨h0, h1, h2⟩ := hagree c
  refine ⟨(h c).1.trans ?_, (h c).2⟩
  rw [h0, h1, h2]
  rfl

end Cert.KernelIdeal.Ret

end
-- ==== Proof.NaSpec.lean ====
/- Neighbourhood attention of one head, on its rows alone: normalized queries and keys, scores, their softmax against the
   values. -/
module

public import Idealize.ShloMosaic.Lib.Pipeline.ValueKit

@[expose] public section

set_option maxRecDepth 16384

noncomputable section

namespace Cert.Na

open Idealize.ShloMosaic

/-- The first grid row of the window of row `r`. -/
def start (r : ℕ) : ℕ := min (r - 4) 24

/-- Element `d` of head `h` of part `o` (queries, keys, values) of position `t` of sequence `b`. -/
def cell (z : FVec Ideal ⟨2, ![65536, 3072]⟩ .f32) (o b h t d : ℕ) : EReal :=
  z (ix2 ⟨(b * 2048 + t) % 65536, Nat.mod_lt _ (by decide)⟩ ⟨(o * 1024 + h * 64 + d) % 3072, Nat.mod_lt _ (by decide)⟩)

theorem cell_eq (z : FVec Ideal ⟨2, ![65536, 3072]⟩ .f32) (o b h t d : ℕ) (r k : ℕ) (hr : r < 65536) (hk : k < 3072)
    (er : r = b * 2048 + t) (ek : k = o * 1024 + h * 64 + d) : z (ix2 ⟨r, hr⟩ ⟨k, hk⟩) = cell z o b h t d := by
  subst er ek
  unfold cell
  simp only [Nat.mod_eq_of_lt hr, Nat.mod_eq_of_lt hk]

/-- The gain of element `d` of head `h`. -/
def gain (g : FVec Ideal ⟨2, ![16, 64]⟩ .f32) (h d : ℕ) : EReal :=
  g (ix2 ⟨h % 16, Nat.mod_lt _ (by decide)⟩ ⟨d % 64, Nat.mod_lt _ (by decide)⟩)

theorem gain_eq (g : FVec Ideal ⟨2, ![16, 64]⟩ .f32) (h d : ℕ) (hh : h < 16) (hd : d < 64) : g (ix2 ⟨h, hh⟩ ⟨d, hd⟩) = gain g h d := by
  unfold gain
  simp only [Nat.mod_eq_of_lt hh, Nat.mod_eq_of_lt hd]

/-- The bias of a head at offset `o` of the row in its window, column `j`, key `c` of the window. -/
def bias (t : FVec Ideal ⟨4, ![16, 8, 64, 512]⟩ .f32) (h o j c : ℕ) : EReal :=
  t (ix4 ⟨h % 16, Nat.mod_lt _ (by decide)⟩ ⟨o % 8, Nat.mod_lt _ (by decide)⟩ ⟨j % 64, Nat.mod_lt _ (by decide)⟩ ⟨c % 512, Nat.mod_lt _ (by decide)⟩)

theorem bias_eq (t : FVec Ideal ⟨4, ![16, 8, 64, 512]⟩ .f32) (h o j c : ℕ) (hh : h < 16) (ho : o < 8) (hj : j < 64) (hc : c < 512) :
    t (ix4 ⟨h, hh⟩ ⟨o, ho⟩ ⟨j, hj⟩ ⟨c, hc⟩) = bias t h o j c := by
  unfold bias
  simp only [Nat.mod_eq_of_lt hh, Nat.mod_eq_of_lt ho, Nat.mod_eq_of_lt hj, Nat.mod_eq_of_lt hc]

/-- A head's row, normalized by its root mean square. -/
def nrm (x g : ℕ → EReal) (d : ℕ) : EReal :=
  x d * Ideal.rsqrt (Ideal.div (∑ e : Fin 64, x e.val * x e.val) (Ideal.ofBits .f32 0x42800000#32) + Ideal.ofBits .f32 0x358637BD#32) * g d

/-- A query, normalized and scaled. -/
def qAt (z : FVec Ideal ⟨2, ![65536, 3072]⟩ .f32) (g : FVec Ideal ⟨2, ![16, 64]⟩ .f32) (b h t d : ℕ) : EReal :=
  nrm (cell z 0 b h t) (gain g h) d * Ideal.ofBits .f32 0x3E000000#32

/-- A key, normalized. -/
def kAt (z : FVec Ideal ⟨2, ![65536, 3072]⟩ .f32) (g : FVec Ideal ⟨2, ![16, 64]⟩ .f32) (b h t d : ℕ) : EReal :=
  nrm (cell z 1 b h t) (gain g h) d

/-- The softmax of scores, against values. -/
def soft (s v : Fin 512 → EReal) : EReal :=
  ∑ c, Ideal.div (Ideal.exp (s c - Finset.fold max (Ideal.ofBits .f32 0xFF800000#32) s Finset.univ))
    (∑ c, Ideal.exp (s c - Finset.fold max (Ideal.ofBits .f32 0xFF800000#32) s Finset.univ)) * v c

/-- The score of the query at row `r`, column `j` against key `c` of the window, for a head's queries and keys by position. -/
def score (q k : ℕ → ℕ → EReal) (t : ℕ → ℕ → ℕ → EReal) (r j : ℕ) (c : Fin 512) : EReal :=
  ∑ x : Fin 64, q (r * 64 + j) x.val * k (start r * 64 + c.val) x.val + t (r - start r) j c.val

/-- Element `d` of the head's result at row `r`, column `j`. -/
def attn (q k v : ℕ → ℕ → EReal) (t : ℕ → ℕ → ℕ → EReal) (r j d : ℕ) : EReal :=
  soft (score q k t r j) (fun c => v (start r * 64 + c.val) d)

theorem start_le (r : ℕ) (hr : r < 32) : start r ≤ 24 ∧ start r ≤ r ∧ r - start r < 8 := by
  unfold start; omega

end Cert.Na

end
-- ==== Proof.NaKernel.lean ====
/- What the neighbourhood attention's kernel computes at one grid point, on the blocks it reads: the normalized rows it keeps
   in scratch and one grid row of a pair of heads. -/
module

public import proofs.«01_k».proof.Proof.Gen.Kernel7Ideal.Skeleton
public import proofs.«01_k».proof.Proof.NaSpec

@[expose] public section

set_option maxRecDepth 16384

noncomputable section

namespace Cert.Kernel7Ideal.Na

open Cert.Kernel7Ideal Cert.Kernel7Ideal.Gen
open Idealize.ShloMosaic Idealize.ShloMosaic.TcCoe
open Cert.Na

/-- Element `d` of head `s` of a pair, at position `t`. -/
def pairAt (x : Vec Ideal S2048x128 .bf16) (s t d : ℕ) : EReal :=
  x (ix2 ⟨t % 2048, Nat.mod_lt _ (by decide)⟩ ⟨(s * 64 + d) % 128, Nat.mod_lt _ (by decide)⟩)

/-- The bias of head `s` of a pair. -/
def pairBias (x : Vec Ideal S2x8x64x512 .f32) (s o j c : ℕ) : EReal :=
  x (ix4 ⟨s % 2, Nat.mod_lt _ (by decide)⟩ ⟨o % 8, Nat.mod_lt _ (by decide)⟩ ⟨j % 64, Nat.mod_lt _ (by decide)⟩ ⟨c % 512, Nat.mod_lt _ (by decide)⟩)

/-- The first head's result. -/
theorem pay1_at (q : Vec Ideal S64x128 .bf16) (k v : Vec Ideal S512x128 .bf16) (b : Vec Ideal S1x1x64x512 .f32) (j d : Fin 64) :
    k0_pay1 (F := Ideal) q k v b (ix2 j d) =
      soft (fun c => ∑ x : Fin 64, (q (ix2 j ⟨x.val, by omega⟩) : EReal) * k (ix2 c ⟨x.val, by omega⟩) + b (ix4 0 0 j c)) (fun c => v (ix2 c ⟨d.val, by omega⟩)) := by
  pointwise [k0_pay1]
  rfl

/-- The second head's scores. -/
theorem pay2_at (q : Vec Ideal S64x128 .bf16) (k : Vec Ideal S512x128 .bf16) (b : Vec Ideal S1x1x64x512 .f32) (j : Fin 64) (c : Fin 512) :
    k0_pay2 (F := Ideal) q k b (ix2 j c) =
      ∑ x : Fin 64, (q (ix2 j ⟨64 + x.val, by omega⟩) : EReal) * k (ix2 c ⟨64 + x.val, by omega⟩) + b (ix4 0 0 j c) := by
  pointwise [k0_pay2]

/-- The pair's results side by side. -/
theorem pay7_at (v : Vec Ideal S512x128 .bf16) (o : FVec Ideal S64x64 .f32) (s : FVec Ideal S64x512 .f32) (j : Fin 64) (d : Fin 128) :
    k0_pay7 (F := Ideal) v o s (ix2 j d) =
      if h : d.val < 64 then o (ix2 j ⟨d.val, h⟩) else soft (fun c => s (ix2 j c)) (fun c => v (ix2 c ⟨64 + (d.val - 64), by omega⟩)) := by
  pointwise [k0_pay7]
  rfl

/-- One grid row of the pair. -/
theorem trip_at (qs ks vs : Vec Ideal S2048x128 .bf16) (tb : Vec Ideal S2x8x64x512 .f32) (n : ℕ) (hn : n < 32)
    (q : Vec Ideal S64x128 .bf16) (k v : Vec Ideal S512x128 .bf16) (b0 b1 : Vec Ideal S1x1x64x512 .f32)
    (hq : ∀ j x, q (ix2 j x) = qs (ix2 ⟨(n * 64 + j.val) % 2048, Nat.mod_lt _ (by decide)⟩ x))
    (hk : ∀ c x, k (ix2 c x) = ks (ix2 ⟨(start n * 64 + c.val) % 2048, Nat.mod_lt _ (by decide)⟩ x))
    (hv : ∀ c x, v (ix2 c x) = vs (ix2 ⟨(start n * 64 + c.val) % 2048, Nat.mod_lt _ (by decide)⟩ x))
    (h0 : ∀ j c, b0 (ix4 0 0 j c) = tb (ix4 0 ⟨(n - start n) % 8, Nat.mod_lt _ (by decide)⟩ j c))
    (h1 : ∀ j c, b1 (ix4 0 0 j c) = tb (ix4 1 ⟨(n - start n) % 8, Nat.mod_lt _ (by decide)⟩ j c)) (j : Fin 64) (e : Fin 128) :
    k0_pay7 (F := Ideal) v (k0_pay1 q k v b0) (k0_pay2 q k b1) (ix2 j e) =
      attn (pairAt qs (e.val / 64)) (pairAt ks (e.val / 64)) (pairAt vs (e.val / 64)) (pairBias tb (e.val / 64)) n j.val (e.val % 64) := by
  refine (pay7_at _ _ _ _ _).trans ?_
  have hj : (⟨j.val % 64, Nat.mod_lt _ (by decide)⟩ : Fin 64) = j := Fin.ext (Nat.mod_eq_of_lt j.isLt)
  have hc : ∀ c : Fin 512, (⟨c.val % 512, Nat.mod_lt _ (by decide)⟩ : Fin 512) = c := fun c => Fin.ext (Nat.mod_eq_of_lt c.isLt)
  by_cases he : e.val < 64
  · rw [dif_pos he, show e.val / 64 = 0 from by omega, Nat.mod_eq_of_lt he]
    refine (pay1_at _ _ _ _ _ _).trans ?_
    unfold attn score pairAt pairBias
    refine congrArg₂ soft (funext fun c => ?_) (funext fun c => ?_)
    · rw [h0]
      simp only [hq, hk, hj, hc]
      refine congrArg₂ (· + ·) (Finset.sum_congr rfl fun x _ => ?_) rfl
      have hx : (⟨x.val, by omega⟩ : Fin 128) = ⟨(0 * 64 + x.val) % 128, Nat.mod_lt _ (by decide)⟩ := Fin.ext (by show x.val = (0 * 64 + x.val) % 128; omega)
      rw [hx]
    · rw [hv]
      exact congrArg (fun u => vs (ix2 _ u)) (Fin.ext (by show e.val = (0 * 64 + e.val) % 128; omega))
  · rw [dif_neg he, show e.val / 64 = 1 from by omega]
    unfold attn score pairAt pairBias
    refine congrArg₂ soft (funext fun c => ?_) (funext fun c => ?_)
    · refine (pay2_at _ _ _ _ _).trans ?_
      rw [h1]
      simp only [hq, hk, hj, hc]
      refine congrArg₂ (· + ·) (Finset.sum_congr rfl fun x _ => ?_) rfl
      have hx : (⟨64 + x.val, by omega⟩ : Fin 128) = ⟨(1 * 64 + x.val) % 128, Nat.mod_lt _ (by decide)⟩ := Fin.ext (by show 64 + x.val = (1 * 64 + x.val) % 128; omega)
      rw [hx]
    · rw [hv]
      exact congrArg (fun u => vs (ix2 _ u)) (Fin.ext (by show 64 + (e.val - 64) = (1 * 64 + e.val % 64) % 128; omega))

/-- The lanes of the first head, by their bit. -/
theorem lane_bit : ∀ x : Fin 128, IntOp.cmpi .slt (BitVec.ofNat 32 x.val) 64#32 = if x.val < 64 then 1#1 else 0#1 := by decide +kernel

/-- A sum over the lanes of the first head. -/
theorem sum_lo (f : Fin 128 → EReal) : ∑ x : Fin 128, Scalar.select (IntOp.cmpi .slt (BitVec.ofNat 32 x.val) 64#32) (f x) 0 =
    ∑ x : Fin 64, f ⟨x.val, by omega⟩ := by
  have hs := Fin.sum_univ_add (a := 64) (b := 64) (fun x : Fin 128 => Scalar.select (IntOp.cmpi .slt (BitVec.ofNat 32 x.val) 64#32) (f x) 0)
  refine hs.trans ?_
  have e1 : ∀ x : Fin 64, Scalar.select (IntOp.cmpi .slt (BitVec.ofNat 32 (Fin.castAdd 64 x : Fin 128).val) 64#32) (f (Fin.castAdd 64 x)) 0 = f ⟨x.val, by omega⟩ := fun x => by
    rw [lane_bit, if_pos (by show x.val < 64; omega), ValueIdx.select_one]; rfl
  have e2 : ∀ x : Fin 64, Scalar.select (IntOp.cmpi .slt (BitVec.ofNat 32 (Fin.natAdd 64 x : Fin 128).val) 64#32) (f (Fin.natAdd 64 x)) 0 = 0 := fun x => by
    rw [lane_bit, if_neg (by show ¬ 64 + x.val < 64; omega), ValueIdx.select_zero]
  rw [Finset.sum_congr rfl fun x _ => e1 x, Finset.sum_congr rfl fun x _ => e2 x, Finset.sum_const_zero, add_zero]

/-- A sum over the lanes of the second head. -/
theorem sum_hi (f : Fin 128 → EReal) : ∑ x : Fin 128, Scalar.select (IntOp.cmpi .slt (BitVec.ofNat 32 x.val) 64#32) 0 (f x) =
    ∑ x : Fin 64, f ⟨64 + x.val, by omega⟩ := by
  have hs := Fin.sum_univ_add (a := 64) (b := 64) (fun x : Fin 128 => Scalar.select (IntOp.cmpi .slt (BitVec.ofNat 32 x.val) 64#32) 0 (f x))
  refine hs.trans ?_
  have e1 : ∀ x : Fin 64, Scalar.select (IntOp.cmpi .slt (BitVec.ofNat 32 (Fin.castAdd 64 x : Fin 128).val) 64#32) 0 (f (Fin.castAdd 64 x)) = 0 := fun x => by
    rw [lane_bit, if_pos (by show x.val < 64; omega), ValueIdx.select_one]
  have e2 : ∀ x : Fin 64, Scalar.select (IntOp.cmpi .slt (BitVec.ofNat 32 (Fin.natAdd 64 x : Fin 128).val) 64#32) 0 (f (Fin.natAdd 64 x)) = f ⟨64 + x.val, by omega⟩ := fun x => by
    rw [lane_bit, if_neg (by show ¬ 64 + x.val < 64; omega), ValueIdx.select_zero]; rfl
  rw [Finset.sum_congr rfl fun x _ => e1 x, Finset.sum_congr rfl fun x _ => e2 x, Finset.sum_const_zero, zero_add]

/-- The word 1/64 multiplies as the word 64 divides. -/
theorem mean_word (u : EReal) : u * Ideal.ofBits .f32 0x3C800000#32 = Ideal.div u (Ideal.ofBits .f32 0x42800000#32) := by
  have h1 : Ideal.ofBits .f32 0x3C800000#32 = ((1 / 64 : ℝ) : EReal) := by
    simp [Ideal.ofBits, Ideal.ieee]; rw [← EReal.coe_mul]; norm_num
  have h2 : Ideal.ofBits .f32 0x42800000#32 = ((64 : ℝ) : EReal) := by
    simp [Ideal.ofBits, Ideal.ieee]; rw [← EReal.coe_mul]; norm_num
  unfold Ideal.div
  rw [h1, h2, if_neg (by norm_num), ← EReal.coe_inv]
  norm_num

/-- The mean square of a lane's own head. -/
theorem own_sum (f : Fin 128 → EReal) (s d : ℕ) (hs : s < 2) (hd : d < 64) :
    Scalar.select (IntOp.cmpi .slt (BitVec.ofNat 32 ((s * 64 + d) % 128)) 64#32)
      (∑ x : Fin 128, Scalar.select (IntOp.cmpi .slt (BitVec.ofNat 32 x.val) 64#32) (f x) 0)
      (∑ x : Fin 128, Scalar.select (IntOp.cmpi .slt (BitVec.ofNat 32 x.val) 64#32) 0 (f x)) =
    ∑ x : Fin 64, f ⟨(s * 64 + x.val) % 128, Nat.mod_lt _ (by decide)⟩ := by
  rw [lane_bit ⟨(s * 64 + d) % 128, Nat.mod_lt _ (by decide)⟩, sum_lo, sum_hi]
  have h : s = 0 ∨ s = 1 := by omega
  rcases h with rfl | rfl
  · rw [if_pos (by show (0 * 64 + d) % 128 < 64; omega), ValueIdx.select_one]
    exact Finset.sum_congr rfl fun x _ => congrArg f (Fin.ext (by show x.val = (0 * 64 + x.val) % 128; omega))
  · rw [if_neg (by show ¬ (1 * 64 + d) % 128 < 64; omega), ValueIdx.select_zero]
    exact Finset.sum_congr rfl fun x _ => congrArg f (Fin.ext (by show 64 + x.val = (1 * 64 + x.val) % 128; omega))

/-- A block's rows, as a head's. -/
def rowAt (x : Vec Ideal S2048x128 .f32) (s t d : ℕ) : EReal :=
  x (ix2 ⟨t % 2048, Nat.mod_lt _ (by decide)⟩ ⟨(s * 64 + d) % 128, Nat.mod_lt _ (by decide)⟩)

/-- A block's gains, as a head's. -/
def gainAt (x : Vec Ideal S1x128 .f32) (s d : ℕ) : EReal := x (ix2 0 ⟨(s * 64 + d) % 128, Nat.mod_lt _ (by decide)⟩)

/-- The queries the body keeps. -/
theorem q_pair (x : Vec Ideal S2048x128 .f32) (g : Vec Ideal S1x128 .f32) (s t d : ℕ) (hs : s < 2) (hd : d < 64) :
    pairAt (k0_pay4 (F := Ideal) x g) s t d = nrm (rowAt x s t) (gainAt g s) d * Ideal.ofBits .f32 0x3E000000#32 := by
  unfold pairAt
  pointwise [k0_pay4, k0_pay3]
  rw [own_sum (fun y => (x (ix2 ⟨t % 2048, Nat.mod_lt _ (by decide)⟩ y) : EReal) * x (ix2 ⟨t % 2048, Nat.mod_lt _ (by decide)⟩ y)) s d hs hd, mean_word]
  rfl

/-- The keys the body keeps. -/
theorem k_pair (x : Vec Ideal S2048x128 .f32) (g : Vec Ideal S1x128 .f32) (s t d : ℕ) (hs : s < 2) (hd : d < 64) :
    pairAt (k0_pay5 (F := Ideal) k0_pay3 x g) s t d = nrm (rowAt x s t) (gainAt g s) d := by
  unfold pairAt
  pointwise [k0_pay5, k0_pay3]
  rw [own_sum (fun y => (x (ix2 ⟨t % 2048, Nat.mod_lt _ (by decide)⟩ y) : EReal) * x (ix2 ⟨t % 2048, Nat.mod_lt _ (by decide)⟩ y)) s d hs hd, mean_word]
  rfl

/-- The values the body keeps. -/
theorem v_pair (x : Vec Ideal S2048x128 .f32) (s t d : ℕ) : pairAt (k0_pay6 (F := Ideal) x) s t d = rowAt x s t d := by
  unfold pairAt
  pointwise [k0_pay6]
  rfl

end Cert.Kernel7Ideal.Na

end
-- ==== Proof.NaBody.lean ====
/- The neighbourhood attention's body at one grid point: its loop is the 32 grid rows of a pair of heads. -/
module

public import proofs.«01_k».proof.Proof.Gen.Kernel7Ideal.Frame
public import proofs.«01_k».proof.Proof.NaKernel
public import Idealize.ShloMosaic.Lib.VecWindow
public import Idealize.ShloMosaic.Lib.WholeRead

@[expose] public section

set_option maxRecDepth 16384

noncomputable section

namespace Cert.Kernel7Ideal.Na

open Cert.Kernel7Ideal Cert.Kernel7Ideal.Gen
open Idealize.ShloMosaic Idealize.ShloMosaic.TcCoe
open Cert.Na

/-- The loop makes 32 trips. -/
theorem trips1 : k0_t1_loop.trips = 32 := by decide +kernel

/-- Where each trip reads and writes. -/
theorem off1_eq : ∀ k : Fin k0_t1_loop.trips, k0_off1 k = ![k.val * 64, 0] := by decide +kernel
theorem off2_eq : ∀ k : Fin k0_t1_loop.trips, k0_off2 k = ![start k.val * 64, 0] := by decide +kernel
theorem off3_eq : ∀ k : Fin k0_t1_loop.trips, k0_off3 k = ![0, k.val - start k.val, 0, 0] := by decide +kernel
theorem off4_eq : ∀ k : Fin k0_t1_loop.trips, k0_off4 k = ![1, k.val - start k.val, 0, 0] := by decide +kernel

/-- A block of 64 rows places its rows at the array's. -/
theorem idx_rows (off : Fin 2 → ℕ) (h : ∀ a, off a + S64x128.size a ≤ S2048x128.size a) (n : ℕ) (hn : n < 32)
    (ho : off = ![n * 64, 0]) (j : Fin 64) (e : Fin 128) : (Rect.unit (s := S2048x128) off S64x128.size h).toLoadRect.idx (ix2 j e)
      = (ix2 ⟨(n * 64 + j.val) % 2048, Nat.mod_lt _ (by decide)⟩ e : S2048x128.Idx) := by
  subst ho
  refine funext fun a => Fin.ext ?_
  match a with
  | ⟨0, _⟩ =>
    show n * 64 + 1 * j.val = (n * 64 + j.val) % 2048
    rw [Nat.mod_eq_of_lt (by omega)]; omega
  | ⟨1, _⟩ => show 0 + 1 * e.val = e.val; omega

/-- A window of 512 rows likewise. -/
theorem idx_win (off : Fin 2 → ℕ) (h : ∀ a, off a + S512x128.size a ≤ S2048x128.size a) (n : ℕ) (hn : n ≤ 24)
    (ho : off = ![n * 64, 0]) (j : Fin 512) (e : Fin 128) : (Rect.unit (s := S2048x128) off S512x128.size h).toLoadRect.idx (ix2 j e)
      = (ix2 ⟨(n * 64 + j.val) % 2048, Nat.mod_lt _ (by decide)⟩ e : S2048x128.Idx) := by
  subst ho
  refine funext fun a => Fin.ext ?_
  match a with
  | ⟨0, _⟩ =>
    show n * 64 + 1 * j.val = (n * 64 + j.val) % 2048
    rw [Nat.mod_eq_of_lt (by omega)]; omega
  | ⟨1, _⟩ => show 0 + 1 * e.val = e.val; omega

/-- A table's offset likewise. -/
theorem idx_tab (off : Fin 4 → ℕ) (h : ∀ a, off a + S1x1x64x512.size a ≤ S2x8x64x512.size a) (s : Fin 2) (n : ℕ) (hn : n < 8)
    (ho : off = ![s.val, n, 0, 0]) (j : Fin 64) (c : Fin 512) : (Rect.unit (s := S2x8x64x512) off S1x1x64x512.size h).toLoadRect.idx (ix4 0 0 j c)
      = (ix4 s ⟨n % 8, Nat.mod_lt _ (by decide)⟩ j c : S2x8x64x512.Idx) := by
  subst ho
  refine funext fun a => Fin.ext ?_
  match a with
  | ⟨0, _⟩ => show s.val + 1 * 0 = s.val; omega
  | ⟨1, _⟩ => show n + 1 * 0 = n % 8; omega
  | ⟨2, _⟩ => show 0 + 1 * j.val = j.val; omega
  | ⟨3, _⟩ => show 0 + 1 * c.val = c.val; omega

/-- What the last write of a list leaves where its rectangle places an index. -/
theorem canon_at {s : Shape} {e : EltTy} (r : Rect s) (w : r.shape.Idx → Elt Ideal e) (L : List (View.Piece (Elt Ideal) s e))
    (x : r.shape.Idx) (y : s.Idx) (h : r.toLoadRect.idx x = y) : View.canon (⟨r, w⟩ :: L) y = w x := by
  subst h
  exact View.canon_cons_emb r w L x

/-- The grid rows written by trip `k`. -/
theorem loop_seq (S : ℕ → List (View.Piece (Elt Ideal) S2048x128 .bf16)) (qs ks vs : Vec Ideal S2048x128 .bf16) (tb : Vec Ideal S2x8x64x512 .f32)
    (hs : ∀ k : Fin k0_t1_loop.trips, ∃ (q : Vec Ideal S64x128 .bf16) (kk v : Vec Ideal S512x128 .bf16) (b0 b1 : Vec Ideal S1x1x64x512 .f32),
      q = (fun y => qs ((Rect.unit (s := S2048x128) (k0_off1 k) S64x128.size (k0_off1_inb k)).toLoadRect.idx y))
      ∧ kk = (fun y => ks ((Rect.unit (s := S2048x128) (k0_off2 k) S512x128.size (k0_off2_inb k)).toLoadRect.idx y))
      ∧ v = (fun y => vs ((Rect.unit (s := S2048x128) (k0_off2 k) S512x128.size (k0_off2_inb k)).toLoadRect.idx y))
      ∧ b0 = (fun y => tb ((Rect.unit (s := S2x8x64x512) (k0_off3 k) S1x1x64x512.size (k0_off3_inb k)).toLoadRect.idx y))
      ∧ b1 = (fun y => tb ((Rect.unit (s := S2x8x64x512) (k0_off4 k) S1x1x64x512.size (k0_off4_inb k)).toLoadRect.idx y))
      ∧ S (k.val + 1) = [⟨Rect.unit (s := S2048x128) (k0_off1 k) S64x128.size (k0_off1_inb k), k0_pay7 v (k0_pay1 q kk v b0) (k0_pay2 q kk b1)⟩] ++ S k.val) :
    ∀ k ≤ 32, ∀ n < k, ∀ (j : Fin 64) (e : Fin 128), View.canon (S k) (ix2 ⟨(n * 64 + j.val) % 2048, Nat.mod_lt _ (by decide)⟩ e)
      = attn (pairAt qs (e.val / 64)) (pairAt ks (e.val / 64)) (pairAt vs (e.val / 64)) (pairBias tb (e.val / 64)) n j.val (e.val % 64) := by
  intro k
  induction k with
  | zero => exact fun _ n h => absurd h (by omega)
  | succ k ih =>
    intro hk n hn j e
    have hkt : k < k0_t1_loop.trips := by rw [trips1]; omega
    obtain ⟨q, kk, v, b0, b1, hq, hkk, hv, h0, h1, h⟩ := hs ⟨k, hkt⟩
    rw [h]
    have hst := start_le k (by omega)
    by_cases e1 : n = k
    · subst e1
      refine (canon_at _ _ _ (ix2 j e) _ (idx_rows _ _ n (by omega) (off1_eq ⟨n, hkt⟩) j e)).trans ?_
      refine trip_at qs ks vs tb n (by omega) q kk v b0 b1 (fun j x => ?_) (fun c x => ?_) (fun c x => ?_) (fun j c => ?_) (fun j c => ?_) j e
      · rw [hq]; exact congrArg qs (idx_rows _ _ n (by omega) (off1_eq ⟨n, hkt⟩) j x)
      · rw [hkk]; exact congrArg ks (idx_win _ _ (start n) (by omega) (off2_eq ⟨n, hkt⟩) c x)
      · rw [hv]; exact congrArg vs (idx_win _ _ (start n) (by omega) (off2_eq ⟨n, hkt⟩) c x)
      · rw [h0]; exact congrArg tb (idx_tab _ _ 0 (n - start n) (by omega) (off3_eq ⟨n, hkt⟩) j c)
      · rw [h1]; exact congrArg tb (idx_tab _ _ 1 (n - start n) (by omega) (off4_eq ⟨n, hkt⟩) j c)
    · refine (View.canon_cons_of_not_mem _ _ fun hm => e1 ?_).trans (ih (by omega) n (by omega) j e)
      obtain ⟨x, hx⟩ := LoadRect.exists_idx_of_mem (Rect.toLoadRect _) hm
      have h1 : (k0_off1 ⟨k, hkt⟩) 0 + 1 * (x 0).val = (n * 64 + j.val) % 2048 := congrArg (fun z => (z 0).val) hx
      have h2 : (x 0).val < 64 := (x 0).isLt
      have h3 : (k0_off1 ⟨k, hkt⟩) 0 = k * 64 := congrFun (off1_eq ⟨k, hkt⟩) 0
      rw [Nat.mod_eq_of_lt (by omega)] at h1
      omega

variable (c : Dev nD) (i : grid0.Coords)
  (arg2 : Memref sig .tc .vmem S2048x128 .f32) (harg2 : arg2.IsWhole)
  (arg3 : Memref sig .tc .vmem S2048x128 .f32) (harg3 : arg3.IsWhole)
  (arg4 : Memref sig .tc .vmem S2048x128 .f32) (harg4 : arg4.IsWhole)
  (arg5 : Memref sig .tc .vmem S1x128 .f32) (harg5 : arg5.IsWhole)
  (arg6 : Memref sig .tc .vmem S1x128 .f32) (harg6 : arg6.IsWhole)
  (arg7 : Memref sig .tc .vmem S2x8x64x512 .f32) (harg7 : arg7.IsWhole)
  (arg8 : Memref sig .tc .vmem S2048x128 .bf16) (harg8 : arg8.IsWhole)
  (arg9 : Memref sig .tc .vmem S2048x128 .bf16) (harg9 : arg9.IsWhole)
  (arg10 : Memref sig .tc .vmem S2048x128 .bf16) (harg10 : arg10.IsWhole)
  (arg11 : Memref sig .tc .vmem S2048x128 .bf16) (harg11 : arg11.IsWhole)

/-- The loop leaves the grid rows. -/
theorem loop_body (v2 : IVec S1x128 1) (v40 : Vec Ideal S2048x128 .f32) (X7 : BufTy.Contents (Elt Ideal) arg7.view.ty)
    (X9 : BufTy.Contents (Elt Ideal) arg9.view.ty) (X10 : BufTy.Contents (Elt Ideal) arg10.view.ty) (X11 : BufTy.Contents (Elt Ideal) arg11.view.ty)
    (qs ks vs : Vec Ideal S2048x128 .bf16) (tb : Vec Ideal S2x8x64x512 .f32) (h9 : arg9.view.read (Elt Ideal) X9 = qs)
    (h10 : arg10.view.read (Elt Ideal) X10 = ks) (h11 : arg11.view.read (Elt Ideal) X11 = vs) (h7 : arg7.view.read (Elt Ideal) X7 = tb)
    (n : ℕ) (hn : n < 32) (j : Fin 64) (e : Fin 128) :
    View.canon (pb_k0_t1 (F := Ideal) Variants.none c none i arg2 harg2 arg3 harg3 arg4 harg4 arg5 harg5 arg6 harg6 arg7 harg7 arg8 harg8 arg9 harg9 arg10 harg10 arg11 harg11
      v2 v40 X7 X9 X10 X11 k0_t1_loop.trips) (ix2 ⟨(n * 64 + j.val) % 2048, Nat.mod_lt _ (by decide)⟩ e)
      = attn (pairAt qs (e.val / 64)) (pairAt ks (e.val / 64)) (pairAt vs (e.val / 64)) (pairBias tb (e.val / 64)) n j.val (e.val % 64) := by
  subst h9 h10 h11 h7
  rw [trips1]
  refine loop_seq _ _ _ _ _ (fun k => ?_) 32 le_rfl n hn j e
  refine ⟨_, _, _, _, _, rfl, rfl, rfl, rfl, rfl, (pb_k0_t1_succ (F := Ideal) Variants.none c none i arg2 harg2 arg3 harg3 arg4 harg4 arg5 harg5 arg6 harg6 arg7 harg7 arg8 harg8 arg9 harg9 arg10 harg10 arg11 harg11 v2 v40 X7 X9 X10 X11 k).trans ?_⟩
  unfold tripL_k0_t1 trip_k0_t1
  rfl

/-- The block the body leaves, by grid row, of the blocks it reads. -/
theorem out_body (x0 x1 x2 : Vec Ideal S2048x128 .f32) (x3 x4 : Vec Ideal S1x128 .f32) (x5 : Vec Ideal S2x8x64x512 .f32)
    (n : ℕ) (hn : n < 32) (j : Fin 64) (e : Fin 128) :
    out0_A_6 (F := Ideal) c i arg2 harg2 arg3 harg3 arg4 harg4 arg5 harg5 arg6 harg6 arg7 harg7 arg8 harg8 arg9 harg9 arg10 harg10 arg11 harg11 x0 x1 x2 x3 x4 x5
        (ix2 ⟨(n * 64 + j.val) % 2048, Nat.mod_lt _ (by decide)⟩ e)
      = attn (pairAt (k0_pay4 x0 x3) (e.val / 64)) (pairAt (k0_pay5 k0_pay3 x1 x4) (e.val / 64)) (pairAt (k0_pay6 x2) (e.val / 64)) (pairBias x5 (e.val / 64))
          n j.val (e.val % 64) := by
  unfold out0_A_6
  rw [View.read_writes_junk_eq_canon]
  unfold kernelRun0_A
  dsimp only
  have hq : arg9.view.read (Elt Ideal) (arg9.view.writes (Elt Ideal) arg9.view.junk
      (kernelRun0_A.sl.HS0_1 c arg2 harg2 arg5 harg5 x0 x3)) = k0_pay4 x0 x3 := by
    unfold kernelRun0_A.sl.HS0_1
    rw [View.read_writes_full, View.readAt_full, View.readAt_full, harg2.read_unread, harg5.read_unread]
  have hk : arg10.view.read (Elt Ideal) (arg10.view.writes (Elt Ideal) arg10.view.junk
      (kernelRun0_A.sl.HS1_1 c arg3 harg3 arg6 harg6 x1 x4)) = k0_pay5 k0_pay3 x1 x4 := by
    unfold kernelRun0_A.sl.HS1_1 kernelRun0_A.sl.r
    rw [View.read_writes_full, View.readAt_full, View.readAt_full, harg3.read_unread, harg6.read_unread]
  have hv : arg11.view.read (Elt Ideal) (arg11.view.writes (Elt Ideal) arg11.view.junk
      (kernelRun0_A.sl.HS2_1 c arg4 harg4 x2)) = k0_pay6 x2 := by
    unfold kernelRun0_A.sl.HS2_1
    rw [View.read_writes_full, View.readAt_full, harg4.read_unread]
  exact loop_body c i arg2 harg2 arg3 harg3 arg4 harg4 arg5 harg5 arg6 harg6 arg7 harg7 arg8 harg8 arg9 harg9 arg10 harg10 arg11 harg11 _ _ _ _ _ _ _ _ _ x5 hq hk hv (harg7.read_unread x5) n hn j e

end Cert.Kernel7Ideal.Na

end
-- ==== Proof.NaRef.lean ====
/- The neighbourhood attention's reference at an index: its queries, keys and values, the windows it gathers, its scores. -/
module

public import proofs.«01_k».proof.Proof.Gen.Reference7Ideal.Read
public import proofs.«01_k».proof.Proof.NaSpec
public import Idealize.ShloMosaic.Lib.ValueIdxRank6

@[expose] public section

set_option maxRecDepth 16384

noncomputable section

namespace Cert.Reference7Ideal.Na

open Cert.Reference7Ideal
open Cert.Reference7Ideal.Read
open Idealize.ShloMosaic Idealize.ShloMosaic.TcCoe
open Cert.Na

variable (z : (⟨S65536x3072, .f32⟩ : BufTy).Contents (Elt Ideal)) (g g' : (⟨S16x64, .f32⟩ : BufTy).Contents (Elt Ideal))
  (tab : (⟨S16x8x64x512, .f32⟩ : BufTy).Contents (Elt Ideal))

theorem q_raw (b r : Fin 32) (j : Fin 64) (h : Fin 16) (d : Fin 64) :
    val_main_v3 z (ix5 b r j h d) = cell z 0 b.val h.val (r.val * 64 + j.val) d.val := by
  pointwise [val_main_v3, val_main_v0]
  exact cell_eq z 0 _ _ _ _ _ _ _ _ (by omega) (by omega)

theorem k_raw (b r : Fin 32) (j : Fin 64) (h : Fin 16) (d : Fin 64) :
    val_main_v4 z (ix5 b r j h d) = cell z 1 b.val h.val (r.val * 64 + j.val) d.val := by
  pointwise [val_main_v4, val_main_v1]
  exact cell_eq z 1 _ _ _ _ _ _ _ _ (by omega) (by omega)

theorem v_raw (b r : Fin 32) (j : Fin 64) (h : Fin 16) (d : Fin 64) :
    val_main_v5 z (ix5 b r j h d) = cell z 2 b.val h.val (r.val * 64 + j.val) d.val := by
  pointwise [val_main_v5, val_main_v2]
  exact cell_eq z 2 _ _ _ _ _ _ _ _ (by omega) (by omega)

theorem q_at (b r : Fin 32) (j : Fin 64) (h : Fin 16) (d : Fin 64) :
    val_main_v20 z g (ix5 b r j h d) = qAt z g b.val h.val (r.val * 64 + j.val) d.val := by
  have hs : val_main_v7 z (ix4 b r j h) = ∑ e : Fin 64, cell z 0 b.val h.val (r.val * 64 + j.val) e.val * cell z 0 b.val h.val (r.val * 64 + j.val) e.val := by
    pointwise [val_main_v7, val_main_v6, val_main_cst]
    simp only [q_raw]
  pointwise [val_main_v20, val_main_v19, val_main_cst_2, val_main_v18, val_main_v17, val_main_v16, val_main_v15, val_main_v14, val_main_v13, val_main_v12, val_main_v11, val_main_v10, val_main_v9, val_main_v8, val_main_cst_0, val_main_cst_1]
  rw [hs, q_raw]
  exact congrArg (fun u => _ * u * _) (gain_eq g _ _ _ _)

theorem k_at (b r : Fin 32) (j : Fin 64) (h : Fin 16) (d : Fin 64) :
    val_main_v33 z g (ix5 b r j h d) = kAt z g b.val h.val (r.val * 64 + j.val) d.val := by
  have hs : val_main_v22 z (ix4 b r j h) = ∑ e : Fin 64, cell z 1 b.val h.val (r.val * 64 + j.val) e.val * cell z 1 b.val h.val (r.val * 64 + j.val) e.val := by
    pointwise [val_main_v22, val_main_v21, val_main_cst_3]
    simp only [k_raw]
  pointwise [val_main_v33, val_main_v32, val_main_v31, val_main_v30, val_main_v29, val_main_v28, val_main_v27, val_main_v26, val_main_v25, val_main_v24, val_main_v23, val_main_cst_4, val_main_cst_5]
  rw [hs, k_raw]
  exact congrArg (fun u => _ * u) (gain_eq g _ _ _ _)

/-- The grid rows of a window. -/
theorem rows_at : ∀ (r : Fin 32) (n : Fin 8), (show BitVec 32 from val_main_v49 (F := Ideal) (ix3 r n 0)) = BitVec.ofNat 32 (start r.val + n.val) := by
  decide +kernel

theorem rows_at' : ∀ (r : Fin 32) (n : Fin 8), (show BitVec 32 from val_main_v57 (F := Ideal) (ix3 r n 0)) = BitVec.ofNat 32 (start r.val + n.val) := by
  decide +kernel

/-- The offset of a row in its window. -/
theorem offs_at : ∀ (r : Fin 32), (show BitVec 32 from val_main_v67 (F := Ideal) (ix2 r 0)) = BitVec.ofNat 32 (r.val - start r.val) := by
  decide +kernel

end Cert.Reference7Ideal.Na

end
-- ==== Proof.NaRefWin.lean ====
/- The windows the reference of the neighbourhood attention gathers: keys, values and biases at an index. -/
module

public import proofs.«01_k».proof.Proof.NaRef

@[expose] public section

set_option maxRecDepth 16384

noncomputable section

namespace Cert.Reference7Ideal.Na

open Cert.Reference7Ideal
open Cert.Reference7Ideal.Read
open Idealize.ShloMosaic Idealize.ShloMosaic.TcCoe
open Cert.Na

/-- Gathering grid rows reads the row the index names. -/
theorem gather_rows (x : (⟨S32x32x64x16x64, .f32⟩ : BufTy).Contents (Elt Ideal)) (idx : IVec S32x8x1 32) (b r : Fin 32) (n : Fin 8) (j : Fin 64) (h : Fin 16) (d : Fin 64)
    (w : ℕ) (hw : w < 32) (hi : idx (ix3 r n 0) = BitVec.ofNat 32 w) :
    Host.gather gather_S32x32x64x16x64_S32x8x1_S32x32x8x64x16x64_0345_1_n_n_1_2_321641664 x idx (ix6 b r n j h d) = x (ix5 b ⟨w, hw⟩ j h d) := by
  unfold Host.gather
  refine congrArg x (funext fun a => Fin.ext ?_)
  show GatherDims.start _ _ idx a + GatherDims.batchCoord _ _ a + GatherDims.offCoord _ _ a = _
  have hv : (BitVec.ofNat 32 w).toInt.toNat = w := by
    rw [BitVec.toInt_eq_toNat_of_lt (by rw [BitVec.toNat_ofNat]; omega), BitVec.toNat_ofNat]; omega
  match a with
  | ⟨0, _⟩ => show 0 + 0 + b.val = b.val; omega
  | ⟨1, _⟩ =>
    have hsi : (gather_S32x32x64x16x64_S32x8x1_S32x32x8x64x16x64_0345_1_n_n_1_2_321641664).siIdx (ix6 b r n j h d) ⟨0, by decide⟩ = ix3 r n 0 := by
      funext a; refine Fin.ext ?_
      match a with
      | ⟨0, _⟩ => rfl
      | ⟨1, _⟩ => rfl
      | ⟨2, _⟩ => rfl
    show min (idx ((gather_S32x32x64x16x64_S32x8x1_S32x32x8x64x16x64_0345_1_n_n_1_2_321641664).siIdx (ix6 b r n j h d) ⟨0, by decide⟩)).toInt.toNat 31 + 0 + 0 = w
    rw [hsi, hi, hv]; omega
  | ⟨2, _⟩ => show 0 + 0 + j.val = j.val; omega
  | ⟨3, _⟩ => show 0 + 0 + h.val = h.val; omega
  | ⟨4, _⟩ => show 0 + 0 + d.val = d.val; omega

/-- Gathering biases reads the offset the index names. -/
theorem gather_offs (x : (⟨S16x8x64x512, .f32⟩ : BufTy).Contents (Elt Ideal)) (idx : IVec S32x1 32) (h : Fin 16) (r : Fin 32) (j : Fin 64) (c : Fin 512)
    (w : ℕ) (hw : w < 8) (hi : idx (ix2 r 0) = BitVec.ofNat 32 w) :
    Host.gather gather_S16x8x64x512_S32x1_S16x32x64x512_023_1_n_n_1_1_16164512 x idx (ix4 h r j c) = x (ix4 h ⟨w, hw⟩ j c) := by
  unfold Host.gather
  refine congrArg x (funext fun a => Fin.ext ?_)
  show GatherDims.start _ _ idx a + GatherDims.batchCoord _ _ a + GatherDims.offCoord _ _ a = _
  have hv : (BitVec.ofNat 32 w).toInt.toNat = w := by
    rw [BitVec.toInt_eq_toNat_of_lt (by rw [BitVec.toNat_ofNat]; omega), BitVec.toNat_ofNat]; omega
  match a with
  | ⟨0, _⟩ => show 0 + 0 + h.val = h.val; omega
  | ⟨1, _⟩ =>
    have hsi : (gather_S16x8x64x512_S32x1_S16x32x64x512_023_1_n_n_1_1_16164512).siIdx (ix4 h r j c) ⟨0, by decide⟩ = ix2 r 0 := by
      funext a; refine Fin.ext ?_
      match a with
      | ⟨0, _⟩ => rfl
      | ⟨1, _⟩ => rfl
    show min (idx ((gather_S16x8x64x512_S32x1_S16x32x64x512_023_1_n_n_1_1_16164512).siIdx (ix4 h r j c) ⟨0, by decide⟩)).toInt.toNat 7 + 0 + 0 = w
    rw [hsi, hi, hv]; omega
  | ⟨2, _⟩ => show 0 + 0 + j.val = j.val; omega
  | ⟨3, _⟩ => show 0 + 0 + c.val = c.val; omega

variable (z : (⟨S65536x3072, .f32⟩ : BufTy).Contents (Elt Ideal)) (g g' : (⟨S16x64, .f32⟩ : BufTy).Contents (Elt Ideal))
  (tab : (⟨S16x8x64x512, .f32⟩ : BufTy).Contents (Elt Ideal))

theorem kw_at (b r : Fin 32) (c : Fin 512) (h : Fin 16) (d : Fin 64) :
    val_main_v51 z g (ix5 b r c h d) = kAt z g b.val h.val (start r.val * 64 + c.val) d.val := by
  have e : val_main_v51 z g (ix5 b r c h d) = val_main_v50 z g (ix6 b r ⟨c.val / 64, by omega⟩ ⟨c.val % 64, by omega⟩ h d) := by
    pointwise [val_main_v51]
  have hs := start_le r.val r.isLt
  refine e.trans ((gather_rows _ _ _ _ _ _ _ _ (start r.val + c.val / 64) (by omega) (rows_at r _)).trans ((k_at z g _ _ _ _ _).trans ?_))
  exact congrArg (fun t => kAt z g b.val h.val t d.val) (by show (start r.val + c.val / 64) * 64 + c.val % 64 = _; omega)

theorem vw_at (b r : Fin 32) (c : Fin 512) (h : Fin 16) (d : Fin 64) :
    val_main_v59 z (ix5 b r c h d) = cell z 2 b.val h.val (start r.val * 64 + c.val) d.val := by
  have e : val_main_v59 z (ix5 b r c h d) = val_main_v58 z (ix6 b r ⟨c.val / 64, by omega⟩ ⟨c.val % 64, by omega⟩ h d) := by
    pointwise [val_main_v59]
  have hs := start_le r.val r.isLt
  refine e.trans ((gather_rows _ _ _ _ _ _ _ _ (start r.val + c.val / 64) (by omega) (rows_at' r _)).trans ((v_raw z _ _ _ _ _).trans ?_))
  exact congrArg (fun t => cell z 2 b.val h.val t d.val) (by show (start r.val + c.val / 64) * 64 + c.val % 64 = _; omega)

theorem bias_at (b r : Fin 32) (h : Fin 16) (j : Fin 64) (c : Fin 512) :
    val_main_v71 tab (ix5 b r h j c) = bias tab h.val (r.val - start r.val) j.val c.val := by
  have e : val_main_v71 tab (ix5 b r h j c) = val_main_v68 tab (ix4 h r j c) := by
    pointwise [val_main_v71, val_main_v70, val_main_v69]
  have hs := start_le r.val r.isLt
  exact e.trans ((gather_offs _ _ _ _ _ _ (r.val - start r.val) (by omega) (offs_at r)).trans (bias_eq tab _ _ _ _ _ _ _ _))

/-- A score. -/
theorem score_at (b r : Fin 32) (h : Fin 16) (j : Fin 64) (c : Fin 512) :
    val_main_v72 z g g' tab (ix5 b r h j c) = score (qAt z g b.val h.val) (kAt z g' b.val h.val) (bias tab h.val) r.val j.val c := by
  have e : val_main_v72 z g g' tab (ix5 b r h j c) = ∑ x : Fin 64, val_main_v20 z g (ix5 b r j h x) * val_main_v51 z g' (ix5 b r c h x) + val_main_v71 tab (ix5 b r h j c) := by
    pointwise [val_main_v72, val_main_v60]
  rw [e, bias_at]
  simp only [q_at, kw_at]
  rfl

end Cert.Reference7Ideal.Na

end
-- ==== Proof.NaRefOut.lean ====
/- The result of the neighbourhood attention's reference at an index. -/
module

public import proofs.«01_k».proof.Proof.NaRefWin

@[expose] public section

set_option maxRecDepth 16384

noncomputable section

namespace Cert.Reference7Ideal.Na

open Cert.Reference7Ideal
open Cert.Reference7Ideal.Read
open Idealize.ShloMosaic Idealize.ShloMosaic.TcCoe
open Cert.Na

variable (z : (⟨S65536x3072, .f32⟩ : BufTy).Contents (Elt Ideal)) (g g' : (⟨S16x64, .f32⟩ : BufTy).Contents (Elt Ideal))
  (tab : (⟨S16x8x64x512, .f32⟩ : BufTy).Contents (Elt Ideal))

/-- The largest entry of a row, from −∞. -/
theorem red_max (s : FVec Ideal S32x32x16x64x512 .f32) (h' : S32x32x16x64x512.ReducesTo [4] S32x32x16x64) (hu : 0 < S_.numel)
    (hr : S32x32x16x64x512.Reduces [4] S32x32x16x64) (b r : Fin 32) (h : Fin 16) (j : Fin 64) :
    Host.reduce FloatOps.maximumf s (constant S_ .f32 0xFF800000#32) h' hu (ix4 b r h j) =
      Finset.fold max (Ideal.ofBits .f32 0xFF800000#32) (fun c => s (ix5 b r h j c)) Finset.univ := by
  rw [Host.reduce_eq_fold_single FloatOps.maximumf s _ h' hr hu]
  have hf : (s ∘ hr.lift (ix4 b r h j)) = fun c : Fin 512 => s (ix5 b r h j c) := funext fun k => congrArg s (by
    funext a; refine Fin.ext ?_
    match a with
    | ⟨0, _⟩ => rfl
    | ⟨1, _⟩ => rfl
    | ⟨2, _⟩ => rfl
    | ⟨3, _⟩ => rfl
    | ⟨4, _⟩ => rfl)
  exact congrArg (fun f => Finset.fold max (Ideal.ofBits .f32 0xFF800000#32) f (Finset.univ : Finset (Fin 512))) hf

/-- The maximum with −∞ is the other number. -/
theorem max_bot (y : EReal) : max (Ideal.ofBits .f32 0xFF800000#32) y = y := by simp [Ideal.ofBits, Ideal.ieee]

/-- The largest score of a query. -/
theorem top_at (b r : Fin 32) (h : Fin 16) (j : Fin 64) : val_main_v75 z g g' tab (ix4 b r h j) =
    Finset.fold max (Ideal.ofBits .f32 0xFF800000#32) (fun c => val_main_v72 z g g' tab (ix5 b r h j c)) Finset.univ := by
  have e : val_main_v75 z g g' tab (ix4 b r h j) = max (Ideal.ofBits .f32 0xFF800000#32) (val_main_v73 z g g' tab (ix4 b r h j)) := by
    rw [val_main_v75_apply]
    rfl
  rw [e, max_bot]
  unfold val_main_v73
  generalize val_main_v72 z g g' tab = s
  unfold val_main_cst_14
  exact red_max s _ _ (by decide) b r h j

/-- The reference's result. -/
theorem out_at (b r : Fin 32) (j : Fin 64) (h : Fin 16) (d : Fin 64) (p : Fin 65536) (k : Fin 1024) (hp : p.val = b.val * 2048 + (r.val * 64 + j.val))
    (hk : k.val = h.val * 64 + d.val) : val_main_v87 z g g' tab (ix2 p k) =
      attn (qAt z g b.val h.val) (kAt z g' b.val h.val) (cell z 2 b.val h.val) (bias tab h.val) r.val j.val d.val := by
  have e : val_main_v87 z g g' tab (ix2 p k) = val_main_v84 z g g' tab (ix5 b r h d j) := by
    pointwise [val_main_v87, val_main_v86, val_main_v85]
    refine congrArg (val_main_v84 z g g' tab) (funext fun a => Fin.ext ?_)
    match a with
    | ⟨0, _⟩ => show p.val / 2048 = b.val; omega
    | ⟨1, _⟩ => show p.val / 64 % 32 = r.val; omega
    | ⟨2, _⟩ => show k.val / 64 = h.val; omega
    | ⟨3, _⟩ => show k.val % 64 = d.val; omega
    | ⟨4, _⟩ => show p.val % 64 = j.val; omega
  have e2 : val_main_v84 z g g' tab (ix5 b r h d j) = ∑ c : Fin 512, val_main_v59 z (ix5 b r c h d) * val_main_v83 z g g' tab (ix5 b r h j c) := by
    pointwise [val_main_v84]
  have e3 : ∀ c, val_main_v79 z g g' tab (ix5 b r h j c) = Ideal.exp (val_main_v72 z g g' tab (ix5 b r h j c) - val_main_v75 z g g' tab (ix4 b r h j)) := fun c => by
    pointwise [val_main_v79, val_main_v78, val_main_v77, val_main_v76]
  have e4 : ∀ c, val_main_v83 z g g' tab (ix5 b r h j c) = Ideal.div (val_main_v79 z g g' tab (ix5 b r h j c)) (∑ c, val_main_v79 z g g' tab (ix5 b r h j c)) := fun c => by
    pointwise [val_main_v83, val_main_v82, val_main_v81, val_main_v80, val_main_cst_16]
  rw [e, e2]
  simp only [e4, e3, top_at, vw_at, score_at]
  exact Finset.sum_congr rfl fun c _ => mul_comm _ _

end Cert.Reference7Ideal.Na

end
-- ==== Proof.NaValue.lean ====
/- The neighbourhood attention's value: what each grid point writes is the reference's result on its block, so the kernel's
   array is the reference's. -/
module

public import proofs.«01_k».proof.Proof.Gen.Kernel7Ideal.Value
public import proofs.«01_k».proof.Proof.Gen.Reference7Ideal.Run
public import proofs.«01_k».proof.Proof.NaBody
public import proofs.«01_k».proof.Proof.NaRefOut
public import Idealize.ShloMosaic.Lib.StableHlo.ReadAt
public import proofs.«01_k».proof.Defs

@[expose] public section

set_option maxRecDepth 16384

noncomputable section

open Idealize.ShloMosaic Idealize.ShloMosaic.TcCoe Idealize.SL.Sem
open Idealize.ShloMosaic.Pipeline (Dat)

namespace Cert.Na

/-- A normalized row depends on the head's 64 elements. -/
theorem nrm_congr (x x' g g' : ℕ → EReal) (hx : ∀ d < 64, x d = x' d) (hg : ∀ d < 64, g d = g' d) (d : ℕ) (hd : d < 64) :
    nrm x g d = nrm x' g' d := by
  unfold nrm
  rw [hx d hd, hg d hd, Finset.sum_congr rfl fun (e : Fin 64) _ => congrArg₂ (· * ·) (hx e.val e.isLt) (hx e.val e.isLt)]

/-- A result of the attention depends on the 2048 positions and the head's 64 elements. -/
theorem attn_congr (q k v q' k' v' : ℕ → ℕ → EReal) (t t' : ℕ → ℕ → ℕ → EReal) (hq : ∀ p < 2048, ∀ d < 64, q p d = q' p d)
    (hk : ∀ p < 2048, ∀ d < 64, k p d = k' p d) (hv : ∀ p < 2048, ∀ d < 64, v p d = v' p d)
    (ht : ∀ o < 8, ∀ j < 64, ∀ c < 512, t o j c = t' o j c) (r j d : ℕ) (hr : r < 32) (hj : j < 64) (hd : d < 64) :
    attn q k v t r j d = attn q' k' v' t' r j d := by
  have hs := start_le r hr
  unfold attn
  refine congrArg₂ soft (funext fun c => ?_) (funext fun c => hv _ (by omega) _ hd)
  unfold score
  rw [ht _ hs.2.2 _ hj _ c.isLt, Finset.sum_congr rfl fun (x : Fin 64) _ => congrArg₂ (· * ·) (hq (r * 64 + j) (by omega) x.val x.isLt)
    (hk (start r * 64 + c.val) (by omega) x.val x.isLt)]

end Cert.Na

namespace Cert.Kernel7Ideal.Na

open Cert.Kernel7Ideal Cert.Kernel7Ideal.Gen
open Cert.Na

variable (m : (ℓ : Loc nD τ sig) → Buf (Elt Ideal) ℓ) (c : Dev nD) (t : Fin cfg0.N)

theorem pt_lt : t.val < 256 := t.isLt

theorem idx : ∀ t : Fin cfg0.N, win0_0.index t = ![t.val / 8, t.val % 8] ∧ win0_1.index t = ![t.val / 8, t.val % 8 + 8] ∧
    win0_2.index t = ![t.val / 8, t.val % 8 + 16] ∧ win0_3.index t = ![0, t.val % 8] ∧ win0_4.index t = ![0, t.val % 8] ∧
    win0_5.index t = ![t.val % 8, 0, 0, 0] ∧ win0_6.index t = ![t.val / 8, t.val % 8] :=
  (by decide +kernel : ∀ t : Fin grid0.N, _)

/-- The arguments, as launched. -/
abbrev Z : FVec Ideal ⟨2, ![65536, 3072]⟩ .f32 := m ((c : Thread nD τ).loc main_arg0)
abbrev Gq : FVec Ideal ⟨2, ![16, 64]⟩ .f32 := m ((c : Thread nD τ).loc main_arg1)
abbrev Gk : FVec Ideal ⟨2, ![16, 64]⟩ .f32 := m ((c : Thread nD τ).loc main_arg2)
abbrev B : FVec Ideal ⟨4, ![16, 8, 64, 512]⟩ .f32 := m ((c : Thread nD τ).loc main_arg3)

theorem blk0 (p : Fin 2048) (d : Fin 128) : (iblk m c 0 t : Vec Ideal S2048x128 .f32) (ix2 p d) =
    (V m c main_arg0 : FVec Ideal S65536x3072 .f32) (ix2 ⟨t.val / 8 * 2048 + p.val, by have := pt_lt t; omega⟩ ⟨t.val % 8 * 128 + d.val, by omega⟩) := by
  blk_point [iblk, idx t]

theorem blk1 (p : Fin 2048) (d : Fin 128) : (iblk m c 1 t : Vec Ideal S2048x128 .f32) (ix2 p d) =
    (V m c main_arg0 : FVec Ideal S65536x3072 .f32) (ix2 ⟨t.val / 8 * 2048 + p.val, by have := pt_lt t; omega⟩ ⟨(t.val % 8 + 8) * 128 + d.val, by omega⟩) := by
  blk_point [iblk, idx t]

theorem blk2 (p : Fin 2048) (d : Fin 128) : (iblk m c 2 t : Vec Ideal S2048x128 .f32) (ix2 p d) =
    (V m c main_arg0 : FVec Ideal S65536x3072 .f32) (ix2 ⟨t.val / 8 * 2048 + p.val, by have := pt_lt t; omega⟩ ⟨(t.val % 8 + 16) * 128 + d.val, by omega⟩) := by
  blk_point [iblk, idx t]

theorem blk3 (d : Fin 128) : (iblk m c 3 t : Vec Ideal S1x128 .f32) (ix2 0 d) =
    (V m c main_v0 : FVec Ideal S1x1024 .f32) (ix2 0 ⟨t.val % 8 * 128 + d.val, by omega⟩) := by
  blk_point [iblk, idx t]

theorem blk4 (d : Fin 128) : (iblk m c 4 t : Vec Ideal S1x128 .f32) (ix2 0 d) =
    (V m c main_v1 : FVec Ideal S1x1024 .f32) (ix2 0 ⟨t.val % 8 * 128 + d.val, by omega⟩) := by
  blk_point [iblk, idx t]

theorem blk5 (s : Fin 2) (o : Fin 8) (j : Fin 64) (k : Fin 512) : (iblk m c 5 t : Vec Ideal S2x8x64x512 .f32) (ix4 s o j k) =
    (V m c main_arg3 : FVec Ideal S16x8x64x512 .f32) (ix4 ⟨t.val % 8 * 2 + s.val, by omega⟩ o j k) := by
  blk_point [iblk, idx t]

/-- The gains, as one row. -/
theorem gq_tab (j : Fin 1024) : (V m c main_v0 : FVec Ideal S1x1024 .f32) (ix2 0 j) =
    (m (c, Proc.devRef .tc main_arg1) : FVec Ideal S16x64 .f32) (ix2 ⟨j.val / 64, by omega⟩ ⟨j.val % 64, by omega⟩) := by
  simp only [V, hostOps0, List.flatten_cons, List.flatten_nil, List.cons_append, List.nil_append, List.append_nil]
  after_reads_at

theorem gk_tab (j : Fin 1024) : (V m c main_v1 : FVec Ideal S1x1024 .f32) (ix2 0 j) =
    (m (c, Proc.devRef .tc main_arg2) : FVec Ideal S16x64 .f32) (ix2 ⟨j.val / 64, by omega⟩ ⟨j.val % 64, by omega⟩) := by
  simp only [V, hostOps0, List.flatten_cons, List.flatten_nil, List.cons_append, List.nil_append, List.append_nil]
  after_reads_at

/-- The rows of a grid point's blocks are its heads'. -/
theorem row0 (s p d : ℕ) (hs : s < 2) (hp : p < 2048) (hd : d < 64) : rowAt (iblk m c 0 t) s p d = cell (Z m c) 0 (t.val / 8) (t.val % 8 * 2 + s) p d := by
  have ht := pt_lt t
  unfold rowAt
  rw [blk0, V_main_arg0]
  exact cell_eq (Z m c) 0 _ _ _ _ _ _ _ _ (by show _ + p % 2048 = _; omega) (by show _ + (s * 64 + d) % 128 = _; omega)

theorem row1 (s p d : ℕ) (hs : s < 2) (hp : p < 2048) (hd : d < 64) : rowAt (iblk m c 1 t) s p d = cell (Z m c) 1 (t.val / 8) (t.val % 8 * 2 + s) p d := by
  have ht := pt_lt t
  unfold rowAt
  rw [blk1, V_main_arg0]
  exact cell_eq (Z m c) 1 _ _ _ _ _ _ _ _ (by show _ + p % 2048 = _; omega) (by show _ + (s * 64 + d) % 128 = _; omega)

theorem row2 (s p d : ℕ) (hs : s < 2) (hp : p < 2048) (hd : d < 64) : rowAt (iblk m c 2 t) s p d = cell (Z m c) 2 (t.val / 8) (t.val % 8 * 2 + s) p d := by
  have ht := pt_lt t
  unfold rowAt
  rw [blk2, V_main_arg0]
  exact cell_eq (Z m c) 2 _ _ _ _ _ _ _ _ (by show _ + p % 2048 = _; omega) (by show _ + (s * 64 + d) % 128 = _; omega)

theorem gain3 (s d : ℕ) (hs : s < 2) (hd : d < 64) : gainAt (iblk m c 3 t) s d = gain (Gq m c) (t.val % 8 * 2 + s) d := by
  unfold gainAt gain
  rw [blk3, gq_tab]
  exact congrArg₂ (fun a b => Gq m c (ix2 a b)) (Fin.ext (by show (t.val % 8 * 128 + (s * 64 + d) % 128) / 64 = (t.val % 8 * 2 + s) % 16; omega))
    (Fin.ext (by show (t.val % 8 * 128 + (s * 64 + d) % 128) % 64 = d % 64; omega))

theorem gain4 (s d : ℕ) (hs : s < 2) (hd : d < 64) : gainAt (iblk m c 4 t) s d = gain (Gk m c) (t.val % 8 * 2 + s) d := by
  unfold gainAt gain
  rw [blk4, gk_tab]
  exact congrArg₂ (fun a b => Gk m c (ix2 a b)) (Fin.ext (by show (t.val % 8 * 128 + (s * 64 + d) % 128) / 64 = (t.val % 8 * 2 + s) % 16; omega))
    (Fin.ext (by show (t.val % 8 * 128 + (s * 64 + d) % 128) % 64 = d % 64; omega))

theorem bias5 (s o j k : ℕ) (hs : s < 2) : pairBias (iblk m c 5 t) s o j k = bias (B m c) (t.val % 8 * 2 + s) o j k := by
  unfold pairBias bias
  rw [blk5, V_main_arg3]
  exact congrArg (fun a => B m c (ix4 a _ _ _)) (Fin.ext (by show t.val % 8 * 2 + s % 2 = (t.val % 8 * 2 + s) % 16; omega))

/-- The reference's result on the kernel's arguments. -/
def result : FVec Ideal ⟨2, ![65536, 1024]⟩ .bf16 := Cert.Reference7Ideal.Read.val_main_v87 (F := Ideal) (Z m c) (Gq m c) (Gk m c) (B m c)

/-- What the body leaves at a grid point, at a row and column of its block, is the reference's result there. -/
theorem point_at (n : ℕ) (hn : n < 32) (j : Fin 64) (e : Fin 128)
    (hr : t.val / 8 * 2048 + (n * 64 + j.val) < 65536) (hk : t.val % 8 * 128 + e.val < 1024) :
    outsAt0 m c t (ix2 ⟨(n * 64 + j.val) % 2048, Nat.mod_lt _ (by decide)⟩ e)
      = result m c (ix2 ⟨t.val / 8 * 2048 + (n * 64 + j.val), hr⟩ ⟨t.val % 8 * 128 + e.val, hk⟩) := by
  have ht := pt_lt t
  have hs : e.val / 64 < 2 := by omega
  unfold outsAt0
  rw [out_body _ _ _ _ _ _ _ _ _ _ _ _ _ _ _ _ _ _ _ _ _ _ _ _ _ _ _ _ n hn j e]
  refine Eq.trans ?_ (Cert.Reference7Ideal.Na.out_at (Z m c) (Gq m c) (Gk m c) (B m c) ⟨t.val / 8, by omega⟩ ⟨n, hn⟩ j ⟨t.val % 8 * 2 + e.val / 64, by omega⟩
    ⟨e.val % 64, by omega⟩ _ _ rfl (by show t.val % 8 * 128 + e.val = (t.val % 8 * 2 + e.val / 64) * 64 + e.val % 64; omega)).symm
  refine attn_congr _ _ _ _ _ _ _ _ (fun p hp d hd => ?_) (fun p hp d hd => ?_) (fun p hp d hd => ?_) (fun o _ j _ k _ => bias5 m c t _ o j k hs)
    n j.val (e.val % 64) hn j.isLt (by omega)
  · rw [q_pair _ _ _ _ _ hs hd]
    exact congrArg (· * Ideal.ofBits .f32 0x3E000000#32) (nrm_congr _ _ _ _ (fun d hd => row0 m c t _ p d hs hp hd) (fun d hd => gain3 m c t _ d hs hd) d hd)
  · rw [k_pair _ _ _ _ _ hs hd]
    exact nrm_congr _ _ _ _ (fun d hd => row1 m c t _ p d hs hp hd) (fun d hd => gain4 m c t _ d hs hd) d hd
  · rw [v_pair]
    exact row2 m c t _ p d hs hp hd

/-- Where the result's array holds an element of a grid point's block. -/
theorem emb6 (z : FVec Ideal ⟨2, ![65536, 1024]⟩ .bf16) (p : Fin 2048) (e : Fin 128) :
    z (((cfg0.win 6).blk t).view.emb (ix2 p e)) =
      z (ix2 ⟨t.val / 8 * 2048 + p.val, by have := pt_lt t; omega⟩ ⟨t.val % 8 * 128 + e.val, by omega⟩) := by
  blk_point [idx t]

/-- What a grid point leaves in its block is the reference's result on the block's rows and columns. -/
theorem point6 (y) : outsAt0 m c t y = result m c (((cfg0.win 6).blk t).view.emb y) := by
  have key : ∀ (p : Fin 2048) (e : Fin 128), outsAt0 m c t (ix2 p e) = result m c (((cfg0.win 6).blk t).view.emb (ix2 p e)) := fun p e => by
    have hp : p = ⟨(p.val / 64 * 64 + p.val % 64) % 2048, Nat.mod_lt _ (by decide)⟩ := Fin.ext (by
      show p.val = (p.val / 64 * 64 + p.val % 64) % 2048; omega)
    have ht := pt_lt t
    refine (congrArg (fun p => outsAt0 m c t (ix2 p e)) hp).trans
      ((point_at m c t (p.val / 64) (by omega) ⟨p.val % 64, by omega⟩ e (by show _ + (_ + p.val % 64) < _; omega) (by omega)).trans ?_)
    have e1 : t.val / 8 * 2048 + (p.val / 64 * 64 + p.val % 64) = t.val / 8 * 2048 + p.val := by omega
    refine Eq.trans ?_ (emb6 t (result m c) p e).symm
    exact congrArg (fun r => result m c (ix2 r _)) (Fin.ext e1)
  rw [eq_ix2 (n0 := 2048) (n1 := 128) y]
  exact key (y 0) (y 1)

/-- The kernel's array after the run is the reference's result. -/
theorem final6 : (dats m 0 c).arrAt 6 (cfgs 0).N = result m c := by
  refine (dats m 0 c).arrAt_eq_of_covers 6 _ (by decide +kernel) fun t _ y => ?_
  blk_simp
  rw [after0_6]
  exact point6 m c t y

end Cert.Kernel7Ideal.Na

namespace Cert.Na

/-- The attention's reference runs, leaves its arguments unchanged and ends with no semaphore raised. -/
theorem frame_reference7 : Cert.quiescent_Reference7Ideal := fun m ρ _ =>
  (θ_run _ _ _).mono (fun r h => ⟨fun c => (h c).2, sem_eq_zero_of_no_sems (by decide) r.2⟩)
    (Cert.Reference7Ideal.Value.run (F := Ideal) m ρ)

/-- The attention: from the same arguments the kernel and its reference end with the same result. -/
theorem algebraic7 : Cert.algebraic_Kernel7Ideal_Reference7Ideal := by
  intro m ρ m' ρ' _ hagree
  refine ⟨_, Cert.Kernel7Ideal.Value.run_blocks m ρ,
    (θ_run _ _ _).mono (fun _ h c => ?_) (Cert.Reference7Ideal.Value.run (F := Ideal) m' ρ')⟩
  obtain ⟨h0, h1, h2, h3⟩ := hagree c
  refine ⟨(h c).1.trans ?_, (h c).2⟩
  rw [Cert.Reference7Ideal.Read.val_main_v87_eq, h0, h1, h2, h3]
  exact (Cert.Kernel7Ideal.Na.final6 m c).symm

end Cert.Na

end
-- ==== Proof.ExRun.lean ====
/- The experts' body at one grid point, in the three cases of the column step: the first builds the table of gates by
   token and expert and clears the sum, each adds its block of experts, the last writes the sum out. -/
module

public import proofs.«01_k».proof.Proof.Gen.Kernel8Ideal.Frame
public import proofs.«01_k».proof.Proof.Gen.Kernel8Ideal.Skeleton
public import proofs.«01_k».proof.Proof.Gen.Kernel8Ideal.Loops
public import Idealize.ShloMosaic.Lib.VecWindow
public import Idealize.ShloMosaic.Lib.Pipeline.ValueKit
public import Idealize.ShloMosaic.Lib.WholeRead

@[expose] public section

set_option maxRecDepth 16384

noncomputable section

namespace Cert.Kernel8Ideal.Ex

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rows of the table a point reads for the `q`-th block of 128 experts: one row a token, 136 apart. -/
def wl (X : Vec F S34816x128 .f32) (i : grid0.Coords) (q : Fin 8) : Vec F S256x128 .f32 :=
  fun y => X ((⟨k0_off3 i (BitVec.ofNat 32 q.val), S256x128.size, ![136, 1], k0_off3_inb i q⟩ : LoadRect S34816x128).idx y)

/-- What a point leaves in the sum: the sum it finds and its block of experts. -/
def stepOut (i : grid0.Coords) (x0 : Vec F S256x1024 .bf16) (x4 x5 : Vec F S1024x1024 .bf16) (X : Vec F S34816x128 .f32)
    (a : Vec F S256x1024 .f32) : Vec F S256x1024 .f32 :=
  k0_pay1 (k0_pay9 (k0_pay5 x0 x4) (k0_pay6 x0 x4 (wl X i 0)) (k0_pay7 x0 x4 (wl X i 1)) (k0_pay8 x0 x4 (wl X i 2))
    (wl X i 3) (wl X i 4) (wl X i 5) (wl X i 6) (wl X i 7) a x5)

/-- A block's row, as one token's. -/
def rowOf {e : EltTy} (x : Vec F S256x128 e) (n : ℕ) : Vec F S1x128 e := fun y => x (ix2 ⟨n % 256, Nat.mod_lt _ (by decide)⟩ (y 1))

/-- The table of gates by token and expert: 136 rows a token, the first 128 in use. -/
def Wc (x1 x2 : Vec F S256x128 .i32) (x3 : Vec F S256x128 .f32) : Vec F S34816x128 .f32 := fun y =>
  k0_pay4 (rowOf x1 ((y 0).val / 136)) (rowOf x2 ((y 0).val / 136)) (rowOf x3 ((y 0).val / 136))
    (ix2 ⟨(y 0).val % 136 % 128, Nat.mod_lt _ (by decide)⟩ (y 1))

/-- A table agreeing on the rows in use. -/
def Good (W X : Vec F S34816x128 .f32) : Prop := ∀ y, (y 0).val % 136 < 128 → X y = W y

theorem off3_eq : ∀ (j : Fin 16) (q : Fin 8) (i : grid0.Coords), (i 1).val = j.val → k0_off3 i (BitVec.ofNat 32 q.val) = ![8 * j.val + q.val, 0] := by
  intro j q i hi
  unfold k0_off3
  rw [hi]
  clear hi i
  revert j q
  decide +kernel

theorem wl_good (W X : Vec F S34816x128 .f32) (h : Good W X) (i : grid0.Coords) (q : Fin 8) : wl X i q = wl W i q := by
  funext y
  unfold wl
  refine h _ ?_
  have hj : (i 1).val < 16 := (i 1).isLt
  have ho : (k0_off3 i (BitVec.ofNat 32 q.val)) 0 = 8 * (i 1).val + q.val := congrFun (off3_eq ⟨(i 1).val, hj⟩ q i rfl) 0
  have hv : (((⟨k0_off3 i (BitVec.ofNat 32 q.val), S256x128.size, ![136, 1], k0_off3_inb i q⟩ : LoadRect S34816x128).idx y) 0).val
      = (k0_off3 i (BitVec.ofNat 32 q.val)) 0 + 136 * (y 0).val := rfl
  have hq := q.isLt
  rw [hv, ho]
  omega

theorem stepOut_good (W X : Vec F S34816x128 .f32) (h : Good W X) (i : grid0.Coords) (x0 : Vec F S256x1024 .bf16) (x4 x5 : Vec F S1024x1024 .bf16)
    (a : Vec F S256x1024 .f32) : stepOut i x0 x4 x5 X a = stepOut i x0 x4 x5 W a := by
  unfold stepOut
  simp only [wl_good W X h]

/-- The loop makes 256 trips. -/
theorem trips1 : k0_t1_loop.trips = 256 := by decide +kernel

theorem off1_eq : ∀ k : Fin k0_t1_loop.trips, k0_off1 k = ![k.val, 0] := by decide +kernel
theorem off2_eq : ∀ k : Fin k0_t1_loop.trips, k0_off2 k = ![136 * k.val, 0] := by decide +kernel

/-- What the last write of a list leaves where its rectangle places an index. -/
theorem canon_at {s : Shape} {e : EltTy} (r : Rect s) (w : r.shape.Idx → Elt F e) (L : List (View.Piece (Elt F) s e))
    (x : r.shape.Idx) (y : s.Idx) (h : r.toLoadRect.idx x = y) : View.canon (⟨r, w⟩ :: L) y = w x := by
  subst h
  exact View.canon_cons_emb r w L x

/-- A row of a block placed in it. -/
theorem row_eq {e : EltTy} (x : Vec F S256x128 e) (off : Fin 2 → ℕ) (h : ∀ a, off a + S1x128.size a ≤ S256x128.size a) (n : ℕ) (hn : n < 256)
    (ho : off = ![n, 0]) : (fun y => x ((Rect.unit (s := S256x128) off S1x128.size h).toLoadRect.idx y)) = rowOf x n := by
  subst ho
  funext y
  refine congrArg x (funext fun a => Fin.ext ?_)
  match a with
  | ⟨0, _⟩ =>
    have h0 : (y 0).val < 1 := (y 0).isLt
    show n + 1 * (y 0).val = n % 256
    omega
  | ⟨1, _⟩ => show 0 + 1 * (y 1).val = (y 1).val; omega

/-- Each trip writes its token's rows of the table. -/
theorem loop_seq (S : ℕ → List (View.Piece (Elt F) S34816x128 .f32)) (x1 x2 : Vec F S256x128 .i32) (x3 : Vec F S256x128 .f32)
    (hs : ∀ k : Fin k0_t1_loop.trips, ∃ (h1 : ∀ a, (k0_off1 k) a + S1x128.size a ≤ S256x128.size a)
        (h2 : ∀ a, (k0_off2 k) a + S128x128.size a ≤ S34816x128.size a) (r1 r2 : Vec F S1x128 .i32) (r3 : Vec F S1x128 .f32),
      r1 = (fun y => x1 ((Rect.unit (s := S256x128) (k0_off1 k) S1x128.size h1).toLoadRect.idx y))
      ∧ r2 = (fun y => x2 ((Rect.unit (s := S256x128) (k0_off1 k) S1x128.size h1).toLoadRect.idx y))
      ∧ r3 = (fun y => x3 ((Rect.unit (s := S256x128) (k0_off1 k) S1x128.size h1).toLoadRect.idx y))
      ∧ S (k.val + 1) = [⟨Rect.unit (s := S34816x128) (k0_off2 k) S128x128.size h2, k0_pay4 r1 r2 r3⟩] ++ S k.val) :
    ∀ k ≤ 256, ∀ y : S34816x128.Idx, (y 0).val / 136 < k → (y 0).val % 136 < 128 →
      (∃ p ∈ S k, y ∈ p.1.set) ∧ View.canon (S k) y = Wc x1 x2 x3 y := by
  intro k
  induction k with
  | zero => exact fun _ y h => absurd h (by omega)
  | succ k ih =>
    intro hk y hn hy
    have hkt : k < k0_t1_loop.trips := by rw [trips1]; omega
    obtain ⟨h1, h2, r1, r2, r3, e1, e2, e3, h⟩ := hs ⟨k, hkt⟩
    rw [row_eq x1 _ _ k (by omega) (off1_eq ⟨k, hkt⟩)] at e1
    rw [row_eq x2 _ _ k (by omega) (off1_eq ⟨k, hkt⟩)] at e2
    rw [row_eq x3 _ _ k (by omega) (off1_eq ⟨k, hkt⟩)] at e3
    have ho : (k0_off2 ⟨k, hkt⟩) 0 = 136 * k := congrFun (off2_eq ⟨k, hkt⟩) 0
    have ho1 : (k0_off2 ⟨k, hkt⟩) 1 = 0 := congrFun (off2_eq ⟨k, hkt⟩) 1
    have h' : S (k + 1) = [⟨Rect.unit (s := S34816x128) (k0_off2 ⟨k, hkt⟩) S128x128.size h2, k0_pay4 r1 r2 r3⟩] ++ S k := h
    rw [h']
    by_cases e : (y 0).val / 136 = k
    · have hi : (Rect.unit (s := S34816x128) (k0_off2 ⟨k, hkt⟩) S128x128.size h2).toLoadRect.idx
          (ix2 ⟨(y 0).val % 136 % 128, Nat.mod_lt _ (by decide)⟩ (y 1)) = y := by
        refine funext fun a => Fin.ext ?_
        match a with
        | ⟨0, _⟩ => show (k0_off2 ⟨k, hkt⟩) 0 + 1 * ((y 0).val % 136 % 128) = (y 0).val; rw [ho]; omega
        | ⟨1, _⟩ => show (k0_off2 ⟨k, hkt⟩) 1 + 1 * (y 1).val = (y 1).val; rw [ho1]; omega
      refine ⟨⟨_, List.mem_cons_self, ?_⟩, ?_⟩
      · have := (Rect.unit (s := S34816x128) (k0_off2 ⟨k, hkt⟩) S128x128.size h2).toLoadRect.idx_mem
          (ix2 ⟨(y 0).val % 136 % 128, Nat.mod_lt _ (by decide)⟩ (y 1))
        rw [hi] at this
        exact this
      · refine (canon_at _ _ _ _ _ hi).trans ?_
        unfold Wc
        rw [e1, e2, e3, e]
    · obtain ⟨⟨p, hp, hm⟩, hv⟩ := ih (by omega) y (by omega) hy
      refine ⟨⟨p, List.mem_cons_of_mem _ hp, hm⟩, (View.canon_cons_of_not_mem _ _ fun hm => e ?_).trans hv⟩
      obtain ⟨x, hx⟩ := LoadRect.exists_idx_of_mem (Rect.toLoadRect _) hm
      have g1 : (k0_off2 ⟨k, hkt⟩) 0 + 1 * (x 0).val = (y 0).val := congrArg (fun z => (z 0).val) hx
      have g2 : (x 0).val < 128 := (x 0).isLt
      omega

variable (c : Dev nD) (i : grid0.Coords)
  (arg2 : Memref sig .tc .vmem S256x1024 .bf16) (harg2 : arg2.IsWhole)
  (arg3 : Memref sig .tc .vmem S256x128 .i32) (harg3 : arg3.IsWhole)
  (arg4 : Memref sig .tc .vmem S256x128 .i32) (harg4 : arg4.IsWhole)
  (arg5 : Memref sig .tc .vmem S256x128 .f32) (harg5 : arg5.IsWhole)
  (arg6 : Memref sig .tc .vmem S1024x1024 .bf16) (harg6 : arg6.IsWhole)
  (arg7 : Memref sig .tc .vmem S1024x1024 .bf16) (harg7 : arg7.IsWhole)
  (arg8 : Memref sig .tc .vmem S256x1024 .f32) (harg8 : arg8.IsWhole)
  (arg9 : Memref sig .tc .vmem S256x1024 .f32) (harg9 : arg9.IsWhole)
  (arg10 : Memref sig .tc .vmem S34816x128 .f32) (harg10 : arg10.IsWhole)
  (arg11 : Memref sig .tc .vmem S256x1024 .f32) (harg11 : arg11.IsWhole)

set_option maxHeartbeats 1000000 in
/-- A middle point: its block of experts is added. -/
theorem run_mid (h1 : ¬ k0_cond1 i = 1#1) (h2 : ¬ k0_cond2 i = 1#1) (x0 : Vec F S256x1024 .bf16) (x4 x5 : Vec F S1024x1024 .bf16)
    (X : Vec F S34816x128 .f32) (a : Vec F S256x1024 .f32) (E : Set ℕ) (K : PUnit → sProp 𝕄) :
    iprop(owns (c : Thread nD τ) arg2 fullShare x0 ∗ owns (c : Thread nD τ) arg6 fullShare x4 ∗ owns (c : Thread nD τ) arg7 fullShare x5
        ∗ owns (c : Thread nD τ) arg10 fullShare X ∗ owns (c : Thread nD τ) arg11 fullShare a
        ∗ (iprop(owns (c : Thread nD τ) arg2 fullShare x0 ∗ owns (c : Thread nD τ) arg6 fullShare x4 ∗ owns (c : Thread nD τ) arg7 fullShare x5
            ∗ owns (c : Thread nD τ) arg10 fullShare X ∗ owns (c : Thread nD τ) arg11 fullShare (stepOut i x0 x4 x5 X a)) -∗ K ⟨⟩))
      ⊢ wp frame (wpE (defs₀ (F := F)) Variants.none c none) E
          (cc0_peer_experts i arg2 harg2 arg3 harg3 arg4 harg4 arg5 harg5 arg6 harg6 arg7 harg7 arg8 harg8 arg9 harg9 arg10 harg10 arg11 harg11) K := by
  simp only [cc0_peer_experts_eq_skeleton]; unfold cc0_peer_experts_skel
  simp only [k0_part1_eq_skeleton, k0_part2_eq_skeleton]; unfold k0_part1_skel k0_part2_skel
  simp only [dif_neg h1, dif_neg h2]
  unfold owns
  iintro ⟨⟨%f0, %hf0, H0⟩, ⟨%f4, %hf4, H4⟩, ⟨%f5, %hf5, H5⟩, ⟨%f10, %hf10, H10⟩, ⟨%f11, %hf11, H11⟩, Hk⟩
  obtain rfl := harg2.eq_unread hf0; obtain rfl := harg6.eq_unread hf4; obtain rfl := harg7.eq_unread hf5
  obtain rfl := harg10.eq_unread hf10; obtain rfl := harg11.eq_unread hf11
  sl_exec
  sl_step
  iapply Hk
  isplitl [H0]
  · iexists _; isplitr; · ipureintro; exact harg2.read_unread _
    iexact H0
  isplitl [H4]
  · iexists _; isplitr; · ipureintro; exact harg6.read_unread _
    iexact H4
  isplitl [H5]
  · iexists _; isplitr; · ipureintro; exact harg7.read_unread _
    iexact H5
  isplitl [H10]
  · iexists _; isplitr; · ipureintro; exact harg10.read_unread _
    iexact H10
  iexists _; isplitr; swap; · iexact H11
  ipureintro
  rw [View.read_writes_full, View.readAt_full, View.readAt_full, View.readAt_full, View.readAt_full, harg2.read_unread, harg6.read_unread, harg7.read_unread, harg11.read_unread]
  have h : ∀ r, View.readAt (Elt F) arg10.view r (harg10.unread X) = fun y => X (r.idx y) :=
    fun r => funext fun y => congrFun (harg10.read_unread X) _
  unfold stepOut wl
  simp only [h]
  rfl

set_option maxHeartbeats 1000000 in
/-- A tile's last point: its block of experts is added and the sum, over the residual, written out. -/
theorem run_last (h1 : ¬ k0_cond1 i = 1#1) (h2 : k0_cond2 i = 1#1) (x0 : Vec F S256x1024 .bf16) (x4 x5 : Vec F S1024x1024 .bf16)
    (x6 : Vec F S256x1024 .f32) (X : Vec F S34816x128 .f32) (a : Vec F S256x1024 .f32) (E : Set ℕ) (K : PUnit → sProp 𝕄) :
    iprop(owns (c : Thread nD τ) arg2 fullShare x0 ∗ owns (c : Thread nD τ) arg6 fullShare x4 ∗ owns (c : Thread nD τ) arg7 fullShare x5
        ∗ owns (c : Thread nD τ) arg8 fullShare x6 ∗ (∃ d, owns (c : Thread nD τ) arg9 fullShare d)
        ∗ owns (c : Thread nD τ) arg10 fullShare X ∗ owns (c : Thread nD τ) arg11 fullShare a
        ∗ (iprop(owns (c : Thread nD τ) arg2 fullShare x0 ∗ owns (c : Thread nD τ) arg6 fullShare x4 ∗ owns (c : Thread nD τ) arg7 fullShare x5
            ∗ owns (c : Thread nD τ) arg8 fullShare x6 ∗ owns (c : Thread nD τ) arg9 fullShare (k0_pay2 x6 (stepOut i x0 x4 x5 X a))
            ∗ owns (c : Thread nD τ) arg10 fullShare X ∗ owns (c : Thread nD τ) arg11 fullShare (stepOut i x0 x4 x5 X a)) -∗ K ⟨⟩))
      ⊢ wp frame (wpE (defs₀ (F := F)) Variants.none c none) E
          (cc0_peer_experts i arg2 harg2 arg3 harg3 arg4 harg4 arg5 harg5 arg6 harg6 arg7 harg7 arg8 harg8 arg9 harg9 arg10 harg10 arg11 harg11) K := by
  simp only [cc0_peer_experts_eq_skeleton]; unfold cc0_peer_experts_skel
  simp only [k0_part1_eq_skeleton, k0_part2_eq_skeleton]; unfold k0_part1_skel k0_part2_skel
  simp only [dif_neg h1, dif_pos h2]
  unfold owns
  iintro ⟨⟨%f0, %hf0, H0⟩, ⟨%f4, %hf4, H4⟩, ⟨%f5, %hf5, H5⟩, ⟨%f6, %hf6, H6⟩, ⟨%d9, %f9, -, H9⟩, ⟨%f10, %hf10, H10⟩, ⟨%f11, %hf11, H11⟩, Hk⟩
  obtain rfl := harg2.eq_unread hf0; obtain rfl := harg6.eq_unread hf4; obtain rfl := harg7.eq_unread hf5
  obtain rfl := harg8.eq_unread hf6; obtain rfl := harg10.eq_unread hf10; obtain rfl := harg11.eq_unread hf11
  sl_exec
  sl_step
  have h : ∀ r, View.readAt (Elt F) arg10.view r (harg10.unread X) = fun y => X (r.idx y) :=
    fun r => funext fun y => congrFun (harg10.read_unread X) _
  iapply Hk
  isplitl [H0]
  · iexists _; isplitr; · ipureintro; exact harg2.read_unread _
    iexact H0
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H9]
  · iexists _; isplitr; swap; · iexact H9
    ipureintro
    unfold run_last.sl.v84 run_last.sl.H11_1
    rw [View.read_writes_full, View.readAt_full, harg8.read_unread, View.readCov_full, View.readAt_full, View.readAt_full, View.readAt_full, View.readAt_full, harg2.read_unread, harg6.read_unread, harg7.read_unread, harg11.read_unread]
    unfold stepOut wl
    simp only [h]
    rfl
  isplitl [H10]
  · iexists _; isplitr; · ipureintro; exact harg10.read_unread _
    iexact H10
  iexists _; isplitr; swap; · iexact H11
  ipureintro
  unfold run_last.sl.H11_1
  rw [View.read_writes_full, View.readAt_full, View.readAt_full, View.readAt_full, View.readAt_full, harg2.read_unread, harg6.read_unread, harg7.read_unread, harg11.read_unread]
  unfold stepOut wl
  simp only [h]
  rfl

/-- The loop leaves the table. -/
theorem loop_good (h1 : k0_cond1 i = 1#1) (x1 x2 : Vec F S256x128 .i32) (x3 : Vec F S256x128 .f32) (f : BufTy.Contents (Elt F) arg10.view.ty) :
    Good (Wc x1 x2 x3) (View.read (Elt F) arg10.view (arg10.view.writes (Elt F) f
      (pb_k0_t1 (F := F) Variants.none c none i arg2 harg2 arg3 harg3 arg4 harg4 arg5 harg5 arg6 harg6 arg7 harg7 arg8 harg8 arg9 harg9 arg10 harg10 arg11 harg11
        h1 (harg3.unread x1) (harg4.unread x2) (harg5.unread x3) k0_t1_loop.trips))) := by
  have hp := loop_seq (fun k => pb_k0_t1 (F := F) Variants.none c none i arg2 harg2 arg3 harg3 arg4 harg4 arg5 harg5 arg6 harg6 arg7 harg7 arg8 harg8 arg9 harg9 arg10 harg10 arg11 harg11
        h1 (harg3.unread x1) (harg4.unread x2) (harg5.unread x3) k) x1 x2 x3 (fun k => by
    refine ⟨k0_off1_inb i k h1, k0_off2_inb i k h1, _, _, _, (funext fun y => congrFun (harg3.read_unread x1) _), (funext fun y => congrFun (harg4.read_unread x2) _),
      (funext fun y => congrFun (harg5.read_unread x3) _), (pb_k0_t1_succ (F := F) Variants.none c none i arg2 harg2 arg3 harg3 arg4 harg4 arg5 harg5 arg6 harg6 arg7 harg7 arg8 harg8 arg9 harg9 arg10 harg10 arg11 harg11 h1 (harg3.unread x1) (harg4.unread x2) (harg5.unread x3) k).trans ?_⟩
    unfold tripL_k0_t1 trip_k0_t1
    rfl) 256 le_rfl
  intro y hy
  have hlt : (y 0).val < 34816 := (y 0).isLt
  obtain ⟨hm, hv⟩ := hp y (by omega) hy
  rw [trips1]
  exact (View.read_writes_apply_eq_canon _ _ _ _ hm).trans hv

set_option maxHeartbeats 1000000 in
/-- A tile's first point: the table is built, the sum cleared, and its block of experts added. -/
theorem run_first (h1 : k0_cond1 i = 1#1) (h2 : ¬ k0_cond2 i = 1#1) (x0 : Vec F S256x1024 .bf16) (x1 x2 : Vec F S256x128 .i32)
    (x3 : Vec F S256x128 .f32) (x4 x5 : Vec F S1024x1024 .bf16) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ (∃ X, ⌜Good (Wc x1 x2 x3) X⌝ ∗ owns (c : Thread nD τ) arg10 fullShare X)
            ∗ owns (c : Thread nD τ) arg11 fullShare (stepOut i x0 x4 x5 (Wc x1 x2 x3) k0_pay3)) -∗ K ⟨⟩))
      ⊢ wp frame (wpE (defs₀ (F := F)) Variants.none c none) E
          (cc0_peer_experts i arg2 harg2 arg3 harg3 arg4 harg4 arg5 harg5 arg6 harg6 arg7 harg7 arg8 harg8 arg9 harg9 arg10 harg10 arg11 harg11) K := by
  simp only [cc0_peer_experts_eq_skeleton]; unfold cc0_peer_experts_skel
  simp only [k0_part1_eq_skeleton, k0_part2_eq_skeleton]; unfold k0_part1_skel k0_part2_skel
  simp only [dif_pos h1, dif_neg h2, bind_assoc, pure_bind]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d10, %f10, -, H10⟩, ⟨%d11, %f11, -, H11⟩, Hk⟩
  obtain rfl := harg2.eq_unread hf0; obtain rfl := harg6.eq_unread hf4; obtain rfl := harg7.eq_unread hf5
  obtain rfl := harg3.eq_unread hf1; obtain rfl := harg4.eq_unread hf2; obtain rfl := harg5.eq_unread hf3
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H10]
  · iexists _; isplitr; swap
    · iexists _; isplitr; swap; · iexact H10
      ipureintro; rfl
    ipureintro
    exact loop_good c i arg2 harg2 arg3 harg3 arg4 harg4 arg5 harg5 arg6 harg6 arg7 harg7 arg8 harg8 arg9 harg9 arg10 harg10 arg11 harg11 h1 x1 x2 x3 f10
  iexists _; isplitr; swap; · iexact H11
  ipureintro
  have hG := loop_good c i arg2 harg2 arg3 harg3 arg4 harg4 arg5 harg5 arg6 harg6 arg7 harg7 arg8 harg8 arg9 harg9 arg10 harg10 arg11 harg11 h1 x1 x2 x3 f10
  rw [← stepOut_good _ _ hG, View.read_writes_full, View.readAt_full, View.readAt_full, View.readAt_full, harg2.read_unread, harg6.read_unread, harg7.read_unread]
  have h8 : run_first.sl.x_8 (F := F) c arg11 = k0_pay3 := by
    unfold run_first.sl.x_8 run_first.sl.H11_1
    rw [View.readCov_full]
  rw [h8]
  unfold stepOut wl run_first.sl.x run_first.sl.x_1 run_first.sl.x_2 run_first.sl.x_3 run_first.sl.x_4 run_first.sl.x_5 run_first.sl.x_6 run_first.sl.x_7
  rfl

end Cert.Kernel8Ideal.Ex

end
-- ==== Proof.ExFrame.lean ====
/- The experts' frame: what the sum and the result's staging buffer hold after every grid point, the pipeline's proof data
   and the run, over the body's run in ExRun. -/
module

public import proofs.«01_k».proof.Proof.ExRun
public import proofs.«01_k».proof.Proof.Gen.Kernel8Ideal.Points
public import proofs.«01_k».proof.Proof.Gen.Kernel8Ideal.Launch
public import Idealize.ShloMosaic.Lib.Pipeline.Value
public import Idealize.ShloMosaic.Lib.Claim

@[expose] public section

set_option maxRecDepth 16384

noncomputable section

namespace Cert.Kernel8Ideal.Ex

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The scratch buffers: the table and the sum. -/
abbrev scM0_0 : Memref sig .tc .vmem S34816x128 .f32 := Memref.whole cc0_scratch0
abbrev scM0_1 : Memref sig .tc .vmem S256x1024 .f32 := Memref.whole cc0_scratch1

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

abbrev ms0_0 (t : Fin cfg0.N) : Memref sig .tc .vmem S256x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x128 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x128 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x1024 .f32 := win0_7.stage (cfg0.slots t 7)
abbrev hs0_7 (t : Fin cfg0.N) : (ms0_7 t).IsWhole := hstage0_7 ((cfg0.slots t 7).cast nbuf0_7)

/-- The conditions of the body, by point. -/
theorem cond1_iff : ∀ t : Fin cfg0.N, k0_cond1 (grid0.coords t) = 1#1 ↔ t.val % 16 = 0 :=
  (by decide +kernel : ∀ t : Fin grid0.N, k0_cond1 (grid0.coords t) = 1#1 ↔ t.val % 16 = 0)
theorem cond2_iff : ∀ t : Fin cfg0.N, k0_cond2 (grid0.coords t) = 1#1 ↔ t.val % 16 = 15 :=
  (by decide +kernel : ∀ t : Fin grid0.N, k0_cond2 (grid0.coords t) = 1#1 ↔ t.val % 16 = 15)

theorem idx : ∀ t : Fin cfg0.N, win0_0.index t = ![t.val / 16, 0] ∧ win0_1.index t = ![t.val / 16, 0] ∧ win0_2.index t = ![t.val / 16, 0] ∧
    win0_3.index t = ![t.val / 16, 0] ∧ win0_4.index t = ![0, t.val % 16] ∧ win0_5.index t = ![t.val % 16, 0] ∧
    win0_6.index t = ![t.val / 16, 0] ∧ win0_7.index t = ![t.val / 16, 0] :=
  (by decide +kernel : ∀ t : Fin grid0.N, _)

theorem pt_lt (t : Fin cfg0.N) : t.val < 4096 := t.isLt

variable (m : (ℓ : Loc nD τ sig) → Buf (Elt F) ℓ) (ρ : Dev nD → PrngReg)

theorem blk1 (c : Dev nD) (t : Fin cfg0.N) (p : Fin 256) (d : Fin 128) : (iblk m c 1 t : Vec F S256x128 .i32) (ix2 p d) =
    (V m c main_arg1 : Vec F S65536x128 .i32) (ix2 ⟨t.val / 16 * 256 + p.val, by have := pt_lt t; omega⟩ d) := by
  blk_point [iblk, idx t]

theorem blk2 (c : Dev nD) (t : Fin cfg0.N) (p : Fin 256) (d : Fin 128) : (iblk m c 2 t : Vec F S256x128 .i32) (ix2 p d) =
    (V m c main_arg2 : Vec F S65536x128 .i32) (ix2 ⟨t.val / 16 * 256 + p.val, by have := pt_lt t; omega⟩ d) := by
  blk_point [iblk, idx t]

theorem blk3 (c : Dev nD) (t : Fin cfg0.N) (p : Fin 256) (d : Fin 128) : (iblk m c 3 t : Vec F S256x128 .f32) (ix2 p d) =
    (V m c main_arg3 : Vec F S65536x128 .f32) (ix2 ⟨t.val / 16 * 256 + p.val, by have := pt_lt t; omega⟩ d) := by
  blk_point [iblk, idx t]

/-- The first point of a tile of rows. -/
def fst (b : ℕ) : Fin cfg0.N := ⟨b % 256 * 16, by show _ < 4096; omega⟩

/-- A tile's table of gates. -/
def tab (c : Dev nD) (b : ℕ) : Vec F S34816x128 .f32 := Wc (iblk m c 1 (fst b)) (iblk m c 2 (fst b)) (iblk m c 3 (fst b))

theorem vec_ext {e : EltTy} (X Y : Vec F S256x128 e) (h : ∀ (p : Fin 256) (d : Fin 128), X (ix2 p d) = Y (ix2 p d)) : X = Y := by
  funext y
  rw [eq_ix2 (n0 := 256) (n1 := 128) y]
  exact h (y 0) (y 1)

/-- Every point of a tile reads the tile's rows. -/
theorem tab_eq (c : Dev nD) (t : Fin cfg0.N) : Wc (iblk m c 1 t) (iblk m c 2 t) (iblk m c 3 t) = tab m c (t.val / 16) := by
  have ht := pt_lt t
  have hb : t.val / 16 % 256 * 16 / 16 = t.val / 16 := by omega
  have e1 : (iblk m c 1 t : Vec F S256x128 .i32) = iblk m c 1 (fst (t.val / 16)) := vec_ext _ _ fun p d =>
    (blk1 m c t p d).trans ((congrArg (fun a => (V m c main_arg1 : Vec F S65536x128 .i32) (ix2 a d)) (Fin.ext (by
      show t.val / 16 * 256 + p.val = t.val / 16 % 256 * 16 / 16 * 256 + p.val; rw [hb]))).trans (blk1 m c (fst (t.val / 16)) p d).symm)
  have e2 : (iblk m c 2 t : Vec F S256x128 .i32) = iblk m c 2 (fst (t.val / 16)) := vec_ext _ _ fun p d =>
    (blk2 m c t p d).trans ((congrArg (fun a => (V m c main_arg2 : Vec F S65536x128 .i32) (ix2 a d)) (Fin.ext (by
      show t.val / 16 * 256 + p.val = t.val / 16 % 256 * 16 / 16 * 256 + p.val; rw [hb]))).trans (blk2 m c (fst (t.val / 16)) p d).symm)
  have e3 : (iblk m c 3 t : Vec F S256x128 .f32) = iblk m c 3 (fst (t.val / 16)) := vec_ext _ _ fun p d =>
    (blk3 m c t p d).trans ((congrArg (fun a => (V m c main_arg3 : Vec F S65536x128 .f32) (ix2 a d)) (Fin.ext (by
      show t.val / 16 * 256 + p.val = t.val / 16 % 256 * 16 / 16 * 256 + p.val; rw [hb]))).trans (blk3 m c (fst (t.val / 16)) p d).symm)
  unfold tab
  rw [e1, e2, e3]

/-- The sum before a point: the experts of the tile's points so far. -/
def acc (c : Dev nD) : ℕ → Vec F S256x1024 .f32
  | 0 => k0_pay3
  | n + 1 => if h : n < 4096 then stepOut (grid0.coords ⟨n, h⟩) (iblk m c 0 ⟨n, h⟩) (iblk m c 4 ⟨n, h⟩) (iblk m c 5 ⟨n, h⟩) (tab m c (n / 16))
      (if n % 16 = 0 then k0_pay3 else acc c n) else k0_pay3

theorem acc_first (c : Dev nD) (t : Fin cfg0.N) (h : t.val % 16 = 0) :
    acc m c (t.val + 1) = stepOut (grid0.coords t) (iblk m c 0 t) (iblk m c 4 t) (iblk m c 5 t) (tab m c (t.val / 16)) k0_pay3 := by
  rw [acc.eq_2, dif_pos (pt_lt t), if_pos h]

theorem acc_next (c : Dev nD) (t : Fin cfg0.N) (h : ¬ t.val % 16 = 0) :
    acc m c (t.val + 1) = stepOut (grid0.coords t) (iblk m c 0 t) (iblk m c 4 t) (iblk m c 5 t) (tab m c (t.val / 16)) (acc m c t.val) := by
  rw [acc.eq_2, dif_pos (pt_lt t), if_neg h]

/-- What a point leaves in the result's block where it is written: the residual and the sum. -/
def outsAt0 (c : Dev nD) (t : Fin cfg0.N) : Vec F S256x1024 .f32 := k0_pay2 (iblk m c 6 t) (acc m c (t.val + 1))

/-- The scratch between points: within a tile, the tile's table and the sum so far. -/
def PhiS (c : Dev nD) (n : ℕ) (h : n ≤ cfg0.N) : sProp 𝕄 :=
  if n % 16 = 0 then Pipeline.ΦA spec0 c
  else iprop(iprop((∃ X, ⌜Good (tab m c (n / 16)) X⌝ ∗ owns (c : Thread nD τ) scM0_0 fullShare X) ∗ owns (c : Thread nD τ) scM0_1 fullShare (acc m c n))
    ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outsAt0 m c t
  Φ t := PhiS m c t.val (Nat.le_of_lt_succ t.isLt)
  q w := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outsAt0 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body leaves in the result's staging buffer: at a point that does not write it, what it found. -/
def out7 (c : Dev nD) (t : Fin cfg0.N) : sProp 𝕄 :=
  match cfg0.idle 7 (cfg0.grid.coords t) with
  | true =>
    match (cfg0.win 7).flush t with
    | false => iprop(∃ d, owns (c : Thread nD τ) ((cfg0.win 7).stage (cfg0.slots t 7)) fullShare ((dats m 0 c).before 7 t d))
    | true => owns (c : Thread nD τ) ((cfg0.win 7).stage (cfg0.slots t 7)) fullShare ((dats m 0 c).after 7 t)
  | false => owns (c : Thread nD τ) ((cfg0.win 7).stage (cfg0.slots t 7)) fullShare ((dats m 0 c).after 7 t)

theorem out7_idle (c : Dev nD) (t : Fin cfg0.N) (h : ¬ t.val % 16 = 15) :
    out7 m c t = iprop(∃ d, owns (c : Thread nD τ) (ms0_7 t) fullShare ((dats m 0 c).before 7 t d)) := by
  have h1 : cfg0.idle 7 (cfg0.grid.coords t) = true := by
    show (!(k0_cond2 (grid0.coords t) == 1#1)) = true
    rw [beq_false_of_ne (fun e => h ((cond2_iff t).mp e))]; rfl
  have h2 : (cfg0.win 7).flush t = false := by
    rw [Bool.eq_false_iff]; exact fun e => h ((flush0_7 t).mp e)
  unfold out7
  rw [h1, h2]

theorem out7_last (c : Dev nD) (t : Fin cfg0.N) (h : t.val % 16 = 15) :
    out7 m c t = owns (c : Thread nD τ) (ms0_7 t) fullShare ((dats m 0 c).after 7 t) := by
  have h1 : cfg0.idle 7 (cfg0.grid.coords t) = false := by
    show (!(k0_cond2 (grid0.coords t) == 1#1)) = false
    rw [(cond2_iff t).mpr h]; rfl
  unfold out7
  rw [h1]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ out7 m c t)

set_option maxHeartbeats 1200000 in
theorem sound_first (c : Dev nD) (t : Fin cfg0.N) (h : t.val % 16 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [PhiS_castSucc, show (dats m 0 c).Φ t.succ = PhiS m c (t.val + 1) t.isLt from rfl,
    show (dats m 0 c).owesAt () t.succ = (dats m 0 c).owesAt () t.castSucc from rfl,
    after0_0, after0_1, after0_2, after0_3, after0_4, after0_5, after0_6]
  unfold PhiS
  rw [if_pos h, if_neg (by omega : ¬ (t.val + 1) % 16 = 0), PhiA0_eq, out7_idle m c t (by omega), acc_first m c t h,
    show (t.val + 1) / 16 = t.val / 16 by omega, ← tab_eq m c t]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_first c (grid0.coords t) _ _ _ _ _ _ _ _ _ _ _ _ _ _ _ _ _ _ _ _ ((cond1_iff t).mpr h) (fun e => by have := (cond2_iff t).mp e; omega)
    (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

set_option maxHeartbeats 1200000 in
theorem sound_mid (c : Dev nD) (t : Fin cfg0.N) (h : ¬ t.val % 16 = 0) (h' : ¬ t.val % 16 = 15) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [PhiS_castSucc, show (dats m 0 c).Φ t.succ = PhiS m c (t.val + 1) t.isLt from rfl,
    show (dats m 0 c).owesAt () t.succ = (dats m 0 c).owesAt () t.castSucc from rfl,
    after0_0, after0_1, after0_2, after0_3, after0_4, after0_5, after0_6]
  unfold PhiS
  rw [if_neg h, if_neg (by omega : ¬ (t.val + 1) % 16 = 0), out7_idle m c t h', acc_next m c t h,
    show (t.val + 1) / 16 = t.val / 16 by omega]
  iintro ⟨⟨⟨⟨%X, %hX, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  rw [← stepOut_good _ _ hX]
  iapply (run_mid c (grid0.coords t) _ _ _ _ _ _ _ _ _ _ _ _ _ _ _ _ _ _ _ _ (fun e => h ((cond1_iff t).mp e)) (fun e => h' ((cond2_iff t).mp e))
    (iblk m c 0 t) (iblk m c 4 t) (iblk m c 5 t) X (acc m c t.val) Set.univ _)
  isplitl [H0]; · iexact H0
  isplitl [H4]; · iexact H4
  isplitl [H5]; · iexact H5
  isplitl [HS0]; · iexact HS0
  isplitl [HS1]; · iexact HS1
  iintro ⟨H0, H4, H5, HS0, HS1⟩
  isplitl [HS0 HS1 Hg]
  · isplitl [HS0 HS1]
    · isplitl [HS0]
      · iexists X
        isplitr
        · ipureintro; exact hX
        iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

set_option maxHeartbeats 1200000 in
theorem sound_last (c : Dev nD) (t : Fin cfg0.N) (h : t.val % 16 = 15) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [PhiS_castSucc, show (dats m 0 c).Φ t.succ = PhiS m c (t.val + 1) t.isLt from rfl,
    show (dats m 0 c).owesAt () t.succ = (dats m 0 c).owesAt () t.castSucc from rfl,
    after0_0, after0_1, after0_2, after0_3, after0_4, after0_5, after0_6]
  unfold PhiS
  rw [if_neg (by omega : ¬ t.val % 16 = 0), if_pos (by omega : (t.val + 1) % 16 = 0), PhiA0_eq, out7_last m c t h, after0_7]
  unfold outsAt0
  rw [acc_next m c t (by omega)]
  iintro ⟨⟨⟨⟨%X, %hX, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  rw [← stepOut_good _ _ hX]
  iapply (run_last c (grid0.coords t) _ _ _ _ _ _ _ _ _ _ _ _ _ _ _ _ _ _ _ _ (fun e => by have := (cond1_iff t).mp e; omega) ((cond2_iff t).mpr h)
    (iblk m c 0 t) (iblk m c 4 t) (iblk m c 5 t) (iblk m c 6 t) X (acc m c t.val) Set.univ _)
  isplitl [H0]; · iexact H0
  isplitl [H4]; · iexact H4
  isplitl [H5]; · iexact H5
  isplitl [H6]; · iexact H6
  isplitl [H7]; · iexists _; iexact H7
  isplitl [HS0]; · iexact HS0
  isplitl [HS1]; · iexact HS1
  iintro ⟨H0, H4, H5, H6, H7, HS0, HS1⟩
  isplitl [HS0 HS1 Hg]
  · isplitl [HS0 HS1]
    · isplitl [HS0]
      · iexists _; iexact HS0
      iexists _; iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem sound_body (c : Dev nD) (t : Fin cfg0.N) :
    bodyPre m c t ⊢ wp frame (wpE (defs₀ (F := F)) Variants.none c none) Set.univ (bodyAt0 t) (fun _ => bodyPost m c t) := by
  by_cases h : t.val % 16 = 0
  · exact sound_first m c t h
  by_cases h' : t.val % 16 = 15
  · exact sound_last m c t h'
  exact sound_mid m c t h h'

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem share_full (c : Dev nD) (w : Fin cfg0.W) : (dats m 0 c).share w = fullShare := by
  unfold Dat.share; split <;> rfl

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := share_full m)
    (howed := fun _ _ => rfl) (V := V m) (hmain := hmain m Variants.none) (hA := A_eq m)
    (hin := fun c => .rfl) (hout := fun c => .rfl)

theorem run_main : θ_run defs (onTc (τ := τ) (main (F := F))) (s₀ m ρ) (Pipeline.FramePost cfgs (dats m) 0 (V m)) :=
  (θ_run defs _ _).mono (fun _ h => h.1) (run_main_quiescent m ρ)

/-- Every run ends with the arguments unchanged and no semaphore raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.Kernel8Ideal.Ex

end
-- ==== Proof.ExSum.lean ====
/- The experts' activation, and a sum over the chosen experts as a sum over all of them: each expert has the gates of the slots that chose it. -/
module

public import Idealize.ShloMosaic.PureOps.Ideal.Laws
public import Mathlib.Data.EReal.Operations
public import Mathlib.Algebra.Order.BigOperators.Group.Finset
public import Mathlib.Algebra.BigOperators.Intervals
public import Mathlib.Algebra.BigOperators.Ring.Finset

@[expose] public section

noncomputable section

namespace Cert.Ex

open Idealize.ShloMosaic

/-- The activation. -/
def gl (s : EReal) : EReal := Ideal.ofBits .f32 0x3F000000#32 * s * (1 + Ideal.erf (s * Ideal.ofBits .f32 0x3F3504F3#32))

/-- A factor distributes over a sum of terms none of which is negative. -/
theorem mul_sum_nonneg {ι : Type} (S : Finset ι) (y : EReal) (f : ι → EReal) (hf : ∀ s ∈ S, 0 ≤ f s) : y * ∑ s ∈ S, f s = ∑ s ∈ S, y * f s := by
  classical
  induction S using Finset.induction_on with
  | empty => simp
  | insert a S ha ih =>
    rw [Finset.sum_insert ha, Finset.sum_insert ha,
      EReal.left_distrib_of_nonneg (hf a (Finset.mem_insert_self a S)) (Finset.sum_nonneg fun s hs => hf s (Finset.mem_insert_of_mem hs)),
      ih fun s hs => hf s (Finset.mem_insert_of_mem hs)]

/-- All experts' sum is the chosen ones'. -/
theorem all_eq {n : ℕ} (N : ℕ) (a v : ℕ → EReal) (g : Fin n → EReal) (c : Fin n → ℕ) (hg : ∀ s, 0 ≤ g s) (hc : ∀ s, c s < N) :
    ∑ E ∈ Finset.range N, (a E * ∑ s : Fin n, if E = c s then g s else 0) * v E = ∑ s : Fin n, (g s * a (c s)) * v (c s) := by
  have h1 : ∀ E, (a E * ∑ s : Fin n, if E = c s then g s else 0) * v E = ∑ s : Fin n, if E = c s then (g s * a E) * v E else 0 := fun E => by
    rw [mul_right_comm, mul_sum_nonneg _ _ _ (fun s _ => by split; exacts [hg s, le_rfl])]
    refine Finset.sum_congr rfl fun s _ => ?_
    split
    · rw [mul_comm (g s), mul_right_comm]
    · rw [mul_zero]
  rw [Finset.sum_congr rfl fun E _ => h1 E, Finset.sum_comm]
  refine Finset.sum_congr rfl fun s _ => ?_
  rw [Finset.sum_ite_eq' (Finset.range N) (c s) fun E => (g s * a E) * v E, if_pos (Finset.mem_range.2 (hc s))]

end Cert.Ex

end
-- ==== Proof.ExBody.lean ====
/- The experts' body at an index: the gates' table, and what a grid point adds to the sum. -/
module

public import proofs.«01_k».proof.Proof.ExRun
public import proofs.«01_k».proof.Proof.ExSum
public import Idealize.ShloMosaic.Lib.Pipeline.Value
public import Idealize.ShloMosaic.PureOps.Ideal.Laws

@[expose] public section

set_option maxRecDepth 16384

noncomputable section

namespace Cert.Kernel8Ideal.Ex

open Cert.Kernel8Ideal Cert.Kernel8Ideal.Gen
open Idealize.ShloMosaic Idealize.ShloMosaic.TcCoe
open Cert.Ex

theorem pay5_at (x0 : Vec Ideal S256x1024 .bf16) (x4 : Vec Ideal S1024x1024 .bf16) (p : Fin 256) (e : Fin 1024) :
    k0_pay5 x0 x4 (ix2 p e) = gl (∑ d : Fin 1024, x0 (ix2 p d) * x4 (ix2 d e)) := by
  have e : k0_pay5 x0 x4 (ix2 p e) = Ideal.ofBits .f32 0x3F000000#32 * (∑ d : Fin 1024, x0 (ix2 p d) * x4 (ix2 d e)) *
      (1 + FloatOps.erf (F := Ideal) (φ := .f32) ((∑ d : Fin 1024, x0 (ix2 p d) * x4 (ix2 d e)) * Ideal.ofBits .f32 0x3F3504F3#32)) := by
    pointwise [k0_pay5]
  exact e

theorem sel_eq (x y : BitVec 32) (u v : EReal) : Scalar.select (IntOp.cmpi .eq x y) u v = if x = y then u else v := by
  unfold Scalar.select IntOp.cmpi
  by_cases h : x = y
  · subst h; simp
  · have hb : (x == y) = false := by simpa using h
    simp [h, hb]

/-- A row's table: the gates of each expert, summed. -/
theorem pay4_at (a b : Vec Ideal S1x128 .i32) (g : Vec Ideal S1x128 .f32) (r k : Fin 128) :
    k0_pay4 a b g (ix2 r k) = ∑ s : Fin 128, (if BitVec.ofNat 32 k.val = b (ix2 0 s) then
      (if BitVec.ofNat 32 r.val = a (ix2 0 s) then (g (ix2 0 s) : EReal) else 0) else 0) := by
  have e : k0_pay4 a b g (ix2 r k) = ∑ s : Fin 128, Scalar.select (IntOp.cmpi .eq (BitVec.ofNat 32 k.val) (b (ix2 0 s)))
      (Scalar.select (IntOp.cmpi .eq (BitVec.ofNat 32 r.val) (a (ix2 0 s))) (g (ix2 0 s) : EReal) 0) 0 := by
    pointwise [k0_pay4]
  rw [e]
  exact Finset.sum_congr rfl fun s _ => by rw [sel_eq, sel_eq]

/-- The eight blocks of 128 experts side by side. -/
def cat (w : Fin 8 → Vec Ideal S256x128 .bf16) : FVec Ideal S256x1024 .bf16 :=
  concatenate S256x1024 1 [⟨S256x128, w 0⟩, ⟨S256x128, w 1⟩, ⟨S256x128, w 2⟩, ⟨S256x128, w 3⟩, ⟨S256x128, w 4⟩, ⟨S256x128, w 5⟩, ⟨S256x128, w 6⟩, ⟨S256x128, w 7⟩] concatenates_S256x128_S256x128_S256x128_S256x128_S256x128_S256x128_S256x128_S256x128_S256x1024_d1

theorem cat_at (w : Fin 8 → Vec Ideal S256x128 .bf16) (p : Fin 256) (q : Fin 8) (r : Fin 128) :
    cat w (ix2 p ⟨q.val * 128 + r.val, by omega⟩) = w q (ix2 p r) := by
  match q with
  | ⟨0, _⟩ =>
    pointwise [cat]
  | ⟨1, _⟩ =>
    pointwise [cat]
  | ⟨2, _⟩ =>
    pointwise [cat]
    rw [dif_neg (by omega), dif_neg (by omega), dif_pos (by omega)]
    exact congrArg (fun z => w 2 (ix2 p z)) (Fin.ext (by show 256 + r.val - 128 - 128 = r.val; omega))
  | ⟨3, _⟩ =>
    pointwise [cat]
    rw [dif_neg (by omega), dif_neg (by omega), dif_neg (by omega), dif_pos (by omega)]
    exact congrArg (fun z => w 3 (ix2 p z)) (Fin.ext (by show 384 + r.val - 128 - 128 - 128 = r.val; omega))
  | ⟨4, _⟩ =>
    pointwise [cat]
    rw [dif_neg (by omega), dif_neg (by omega), dif_neg (by omega), dif_neg (by omega), dif_pos (by omega)]
    exact congrArg (fun z => w 4 (ix2 p z)) (Fin.ext (by show 512 + r.val - 128 - 128 - 128 - 128 = r.val; omega))
  | ⟨5, _⟩ =>
    pointwise [cat]
    rw [dif_neg (by omega), dif_neg (by omega), dif_neg (by omega), dif_neg (by omega), dif_neg (by omega), dif_pos (by omega)]
    exact congrArg (fun z => w 5 (ix2 p z)) (Fin.ext (by show 640 + r.val - 128 - 128 - 128 - 128 - 128 = r.val; omega))
  | ⟨6, _⟩ =>
    pointwise [cat]
    rw [dif_neg (by omega), dif_neg (by omega), dif_neg (by omega), dif_neg (by omega), dif_neg (by omega), dif_neg (by omega), dif_pos (by omega)]
    exact congrArg (fun z => w 6 (ix2 p z)) (Fin.ext (by show 768 + r.val - 128 - 128 - 128 - 128 - 128 - 128 = r.val; omega))
  | ⟨7, _⟩ =>
    pointwise [cat]
    rw [dif_neg (by omega), dif_neg (by omega), dif_neg (by omega), dif_neg (by omega), dif_neg (by omega), dif_neg (by omega), dif_neg (by omega)]
    exact congrArg (fun z => w 7 (ix2 p z)) (Fin.ext (by show 896 + r.val - 128 - 128 - 128 - 128 - 128 - 128 - 128 = r.val; omega))

/-- A block of activations and its gates. -/
def part (v : FVec Ideal S256x1024 .f32) (w : Fin 8 → Vec Ideal S256x128 .f32) (q : Fin 8) : Vec Ideal S256x128 .bf16 :=
  fun y => v (ix2 (y 0) ⟨q.val * 128 + (y 1).val, by have : (y 1).val < 128 := (y 1).isLt; omega⟩) * w q y

theorem part_at (v : FVec Ideal S256x1024 .f32) (w : Fin 8 → Vec Ideal S256x128 .f32) (q : Fin 8) (p : Fin 256) (r : Fin 128) :
    part v w q (ix2 p r) = v (ix2 p ⟨q.val * 128 + r.val, by omega⟩) * w q (ix2 p r) := rfl

theorem ext128 (x y : Vec Ideal S256x128 .bf16) (h : ∀ (p : Fin 256) (r : Fin 128), x (ix2 p r) = y (ix2 p r)) : x = y := by
  funext z
  rw [eq_ix2 (n0 := 256) (n1 := 128) z]
  exact h (z 0) (z 1)

/-- The sum and a block of experts. -/
def plus (a : FVec Ideal S256x1024 .f32) (C : FVec Ideal S256x1024 .bf16) (x5 : FVec Ideal S1024x1024 .bf16) : FVec Ideal S256x1024 .f32 :=
  addf a (matmul dot_S256x1024_S1024x1024_S256x1024_1_0_0_1_n_n none C (shapeCast S1024x1024 x5 shapeCasts_S1024x1024_S1024x1024)
    (constant S256x1024 .f32 0x00000000#32))

theorem plus_at (a : FVec Ideal S256x1024 .f32) (C : FVec Ideal S256x1024 .bf16) (x5 : FVec Ideal S1024x1024 .bf16) (p : Fin 256) (col : Fin 1024) :
    plus a C x5 (ix2 p col) = a (ix2 p col) + ∑ e : Fin 1024, C (ix2 p e) * x5 (ix2 e col) := by
  pointwise [plus]

theorem pay6_eq (x0 : Vec Ideal S256x1024 .bf16) (x4 : Vec Ideal S1024x1024 .bf16) (w : Fin 8 → Vec Ideal S256x128 .f32) :
    k0_pay6 x0 x4 (w 0) = part (k0_pay5 x0 x4) w 0 := by
  refine ext128 _ _ fun p r => ?_
  rw [part_at]; unfold k0_pay6; generalize k0_pay5 x0 x4 = v; pointwise []

theorem pay7_eq (x0 : Vec Ideal S256x1024 .bf16) (x4 : Vec Ideal S1024x1024 .bf16) (w : Fin 8 → Vec Ideal S256x128 .f32) :
    k0_pay7 x0 x4 (w 1) = part (k0_pay5 x0 x4) w 1 := by
  refine ext128 _ _ fun p r => ?_
  rw [part_at]; unfold k0_pay7; generalize k0_pay5 x0 x4 = v; pointwise []

theorem pay8_eq (x0 : Vec Ideal S256x1024 .bf16) (x4 : Vec Ideal S1024x1024 .bf16) (w : Fin 8 → Vec Ideal S256x128 .f32) :
    k0_pay8 x0 x4 (w 2) = part (k0_pay5 x0 x4) w 2 := by
  refine ext128 _ _ fun p r => ?_
  rw [part_at]; unfold k0_pay8; generalize k0_pay5 x0 x4 = v; pointwise []

theorem pay9_eq (v : FVec Ideal S256x1024 .f32) (c0 c1 c2 : Vec Ideal S256x128 .bf16) (w : Fin 8 → Vec Ideal S256x128 .f32)
    (a : Vec Ideal S256x1024 .f32) (x5 : Vec Ideal S1024x1024 .bf16) (h0 : c0 = part v w 0) (h1 : c1 = part v w 1) (h2 : c2 = part v w 2) :
    k0_pay9 v c0 c1 c2 (w 3) (w 4) (w 5) (w 6) (w 7) a x5 = plus a (cat (part v w)) x5 := by
  have h3 : truncf .bf16 (mulf (extractStridedSlice S256x128 ![0, 384] v slices_S256x1024_o0_384_S256x128) (w 3)) bitsLt_bf16_f32 = part v w 3 :=
    ext128 _ _ fun p r => by rw [part_at]; pointwise []
  have h4 : truncf .bf16 (mulf (extractStridedSlice S256x128 ![0, 512] v slices_S256x1024_o0_512_S256x128) (w 4)) bitsLt_bf16_f32 = part v w 4 :=
    ext128 _ _ fun p r => by rw [part_at]; pointwise []
  have h5 : truncf .bf16 (mulf (extractStridedSlice S256x128 ![0, 640] v slices_S256x1024_o0_640_S256x128) (w 5)) bitsLt_bf16_f32 = part v w 5 :=
    ext128 _ _ fun p r => by rw [part_at]; pointwise []
  have h6 : truncf .bf16 (mulf (extractStridedSlice S256x128 ![0, 768] v slices_S256x1024_o0_768_S256x128) (w 6)) bitsLt_bf16_f32 = part v w 6 :=
    ext128 _ _ fun p r => by rw [part_at]; pointwise []
  have h7 : truncf .bf16 (mulf (extractStridedSlice S256x128 ![0, 896] v slices_S256x1024_o0_896_S256x128) (w 7)) bitsLt_bf16_f32 = part v w 7 :=
    ext128 _ _ fun p r => by rw [part_at]; pointwise []
  unfold k0_pay9 plus cat
  dsimp only
  rw [h0, h1, h2, h3, h4, h5, h6, h7]

/-- What a point leaves in the sum, at an index. -/
theorem step_at (i : grid0.Coords) (x0 : Vec Ideal S256x1024 .bf16) (x4 x5 : Vec Ideal S1024x1024 .bf16) (X : Vec Ideal S34816x128 .f32)
    (a : Vec Ideal S256x1024 .f32) (p : Fin 256) (col : Fin 1024) :
    stepOut i x0 x4 x5 X a (ix2 p col) = a (ix2 p col) + ∑ e : Fin 1024, (gl (∑ d : Fin 1024, x0 (ix2 p d) * x4 (ix2 d e)) *
      wl X i ⟨e.val / 128, by omega⟩ (ix2 p ⟨e.val % 128, by omega⟩)) * x5 (ix2 e col) := by
  have e1 : stepOut i x0 x4 x5 X a = plus a (cat (part (k0_pay5 x0 x4) (fun q => wl X i q))) x5 := by
    refine Eq.trans ?_ (pay9_eq (k0_pay5 x0 x4) _ _ _ (fun q => wl X i q) a x5 (pay6_eq x0 x4 (fun q => wl X i q)) (pay7_eq x0 x4 (fun q => wl X i q))
      (pay8_eq x0 x4 (fun q => wl X i q)))
    unfold stepOut k0_pay1
    funext y
    rw [shapeCast_self]
  rw [e1, plus_at]
  refine congrArg (a (ix2 p col) + ·) (Finset.sum_congr rfl fun e _ => congrArg (· * x5 (ix2 e col)) ?_)
  have he : e = ⟨(⟨e.val / 128, by omega⟩ : Fin 8).val * 128 + (⟨e.val % 128, by omega⟩ : Fin 128).val, by show e.val / 128 * 128 + e.val % 128 < 1024; omega⟩ :=
    Fin.ext (by show e.val = e.val / 128 * 128 + e.val % 128; omega)
  rw [← pay5_at]
  have h := (cat_at (part (k0_pay5 x0 x4) (fun q => wl X i q)) p ⟨e.val / 128, by omega⟩ ⟨e.val % 128, by omega⟩).trans (part_at _ _ _ _ _)
  rw [← he] at h
  exact h

end Cert.Kernel8Ideal.Ex

end
-- ==== Proof.ExRef.lean ====
/- The experts' reference at an index: each slot's activation under its gate, times its expert's row. -/
module

public import proofs.«01_k».proof.Proof.Gen.Reference8Ideal.Read
public import proofs.«01_k».proof.Proof.ExSum
public import Idealize.ShloMosaic.Lib.Pointwise

@[expose] public section

set_option maxRecDepth 16384

noncomputable section

namespace Cert.Reference8Ideal.Ex

open Cert.Reference8Ideal
open Cert.Reference8Ideal.Read
open Idealize.ShloMosaic Idealize.ShloMosaic.TcCoe
open Cert.Ex

/-- Gathering experts' rows reads the row the index names. -/
theorem gather_rows (x : (⟨S16384x1024, .f32⟩ : BufTy).Contents (Elt Ideal)) (idx : IVec S65536x128x1 32) (n : Fin 65536) (s : Fin 128) (d : Fin 1024)
    (w : ℕ) (hw : w < 16384) (hi : idx (ix3 n s 0) = BitVec.ofNat 32 w) :
    Host.gather gather_S16384x1024_S65536x128x1_S65536x128x1024_2_0_n_n_0_2_11024 x idx (ix3 n s d) = x (ix2 ⟨w, hw⟩ d) := by
  unfold Host.gather
  refine congrArg x (funext fun a => Fin.ext ?_)
  show GatherDims.start _ _ idx a + GatherDims.batchCoord _ _ a + GatherDims.offCoord _ _ a = _
  have hv : (BitVec.ofNat 32 w).toInt.toNat = w := by
    rw [BitVec.toInt_eq_toNat_of_lt (by rw [BitVec.toNat_ofNat]; omega), BitVec.toNat_ofNat]; omega
  match a with
  | ⟨0, _⟩ =>
    have hsi : (gather_S16384x1024_S65536x128x1_S65536x128x1024_2_0_n_n_0_2_11024).siIdx (ix3 n s d) ⟨0, by decide⟩ = ix3 n s 0 := by
      funext a; refine Fin.ext ?_
      match a with
      | ⟨0, _⟩ => rfl
      | ⟨1, _⟩ => rfl
      | ⟨2, _⟩ => rfl
    show min (idx ((gather_S16384x1024_S65536x128x1_S65536x128x1024_2_0_n_n_0_2_11024).siIdx (ix3 n s d) ⟨0, by decide⟩)).toInt.toNat 16383 + 0 + 0 = w
    rw [hsi, hi, hv]; omega
  | ⟨1, _⟩ => show 0 + 0 + d.val = d.val; omega

variable (x0 : (⟨S65536x1024, .bf16⟩ : BufTy).Contents (Elt Ideal)) (x1 x2 : (⟨S65536x128, .i32⟩ : BufTy).Contents (Elt Ideal))
  (x3 : (⟨S65536x128, .f32⟩ : BufTy).Contents (Elt Ideal)) (x4 x5 : (⟨S16384x1024, .f32⟩ : BufTy).Contents (Elt Ideal))
  (x6 : (⟨S65536x1024, .f32⟩ : BufTy).Contents (Elt Ideal))

/-- The number of the expert a slot chose. -/
theorem num_at (n : Fin 65536) (s : Fin 128) (a b : ℕ) (ha : a < 128) (hb : b < 128) (h1 : x1 (ix2 n s) = BitVec.ofNat 32 a)
    (h2 : x2 (ix2 n s) = BitVec.ofNat 32 b) : val_main_v2 (F := Ideal) x1 x2 (ix2 n s) = BitVec.ofNat 32 (a * 128 + b) := by
  have e : val_main_v2 (F := Ideal) x1 x2 (ix2 n s) = x1 (ix2 n s) * 128#32 + x2 (ix2 n s) := rfl
  rw [e, h1, h2]
  apply BitVec.eq_of_toNat_eq
  simp only [BitVec.toNat_add, BitVec.toNat_mul, BitVec.toNat_ofNat]
  omega

/-- No number in range is taken for a negative one. -/
theorem wrap_eq (w : ℕ) (hw : w < 16384) (z : BitVec 32) :
    Scalar.select (IntOp.cmpi .slt (BitVec.ofNat 32 w) 0#32) z (BitVec.ofNat 32 w) = BitVec.ofNat 32 w := by
  have h : IntOp.cmpi .slt (BitVec.ofNat 32 w) 0#32 = 0#1 := by
    show BitVec.ofBool ((BitVec.ofNat 32 w).slt 0#32) = 0#1
    have : (BitVec.ofNat 32 w).slt 0#32 = false := by
      rw [BitVec.slt_eq_decide, decide_eq_false_iff_not]
      rw [BitVec.toInt_eq_toNat_of_lt (by rw [BitVec.toNat_ofNat]; omega)]
      simp only [BitVec.toInt_zero, not_lt]
      omega
    rw [this]; rfl
  rw [h]; rfl

theorem row_at (n : Fin 65536) (s : Fin 128) (d : Fin 1024) (a b : ℕ) (ha : a < 128) (hb : b < 128) (h1 : x1 (ix2 n s) = BitVec.ofNat 32 a)
    (h2 : x2 (ix2 n s) = BitVec.ofNat 32 b) : val_main_v10 (F := Ideal) x1 x2 x4 (ix3 n s d) = x4 (ix2 ⟨a * 128 + b, by omega⟩ d) := by
  refine gather_rows _ _ _ _ _ _ _ ?_
  have e : val_main_v9 (F := Ideal) x1 x2 (ix3 n s 0) = Scalar.select (IntOp.cmpi .slt (val_main_v2 (F := Ideal) x1 x2 (ix2 n s)) 0#32)
      (val_main_v7 (F := Ideal) x1 x2 (ix2 n s)) (val_main_v2 (F := Ideal) x1 x2 (ix2 n s)) := by
    refine (val_main_v9_apply x1 x2 _).trans ?_
    have : idx_main_v9 (ix3 n s 0) = ix2 n s := by
      funext a; match a with
      | ⟨0, _⟩ => rfl
      | ⟨1, _⟩ => rfl
    rw [this]; rfl
  rw [e, num_at x1 x2 n s a b ha hb h1 h2]
  exact wrap_eq _ (by omega) _

theorem row_at' (n : Fin 65536) (s : Fin 128) (d : Fin 1024) (a b : ℕ) (ha : a < 128) (hb : b < 128) (h1 : x1 (ix2 n s) = BitVec.ofNat 32 a)
    (h2 : x2 (ix2 n s) = BitVec.ofNat 32 b) : val_main_v26 (F := Ideal) x1 x2 x5 (ix3 n s d) = x5 (ix2 ⟨a * 128 + b, by omega⟩ d) :=
  row_at x1 x2 x5 n s d a b ha hb h1 h2

/-- A slot's activation. -/
theorem act_at (n : Fin 65536) (s : Fin 128) : val_main_v18 (F := Ideal) x0 x1 x2 x4 (ix2 n s)
    = gl (∑ d : Fin 1024, x0 (ix2 n d) * val_main_v10 (F := Ideal) x1 x2 x4 (ix3 n s d)) := by
  have e : val_main_v18 (F := Ideal) x0 x1 x2 x4 (ix2 n s) = Ideal.ofBits .f32 0x3F000000#32 * val_main_v11 (F := Ideal) x0 x1 x2 x4 (ix2 n s) *
      Ideal.erfc (-(val_main_v11 (F := Ideal) x0 x1 x2 x4 (ix2 n s)) * Ideal.ofBits .f32 0x3F3504F3#32) := rfl
  have e' : val_main_v11 (F := Ideal) x0 x1 x2 x4 (ix2 n s) = ∑ d : Fin 1024, x0 (ix2 n d) * val_main_v10 (F := Ideal) x1 x2 x4 (ix3 n s d) := by
    refine (val_main_v11_apply x0 x1 x2 x4 (ix2 n s)).trans ?_
    refine Finset.sum_congr rfl fun d _ => ?_
    have e1 : lidx_main_v11 (ix2 n s) d = ix2 n d := by
      funext a; match a with
      | ⟨0, _⟩ => rfl
      | ⟨1, _⟩ => rfl
    have e2 : ridx_main_v11 (ix2 n s) d = ix3 n s d := by
      funext a; match a with
      | ⟨0, _⟩ => rfl
      | ⟨1, _⟩ => rfl
      | ⟨2, _⟩ => rfl
    rw [e1, e2]; rfl
  rw [e, e', neg_mul, Ideal.erfc_neg]
  rfl

/-- The reference's result. -/
theorem out_at (n : Fin 65536) (col : Fin 1024) (a b : Fin 128 → ℕ) (ha : ∀ s, a s < 128) (hb : ∀ s, b s < 128)
    (h1 : ∀ s, x1 (ix2 n s) = BitVec.ofNat 32 (a s)) (h2 : ∀ s, x2 (ix2 n s) = BitVec.ofNat 32 (b s)) :
    val_main_v28 (F := Ideal) x0 x1 x2 x3 x4 x5 x6 (ix2 n col) = x6 (ix2 n col) +
      ∑ s : Fin 128, (x3 (ix2 n s) * gl (∑ d : Fin 1024, x0 (ix2 n d) * x4 (ix2 ⟨a s * 128 + b s, by have := ha s; have := hb s; omega⟩ d))) *
        x5 (ix2 ⟨a s * 128 + b s, by have := ha s; have := hb s; omega⟩ col) := by
  refine (val_main_v28_apply x0 x1 x2 x3 x4 x5 x6 (ix2 n col)).trans ?_
  refine congrArg (fun z : EReal => (x6 (ix2 n col) : EReal) + z) ?_
  refine (val_main_v27_apply x0 x1 x2 x3 x4 x5 (ix2 n col)).trans (Finset.sum_congr rfl fun s _ => ?_)
  have e1 : lidx_main_v27 (ix2 n col) s = ix2 n s := by
    funext a; match a with
    | ⟨0, _⟩ => rfl
    | ⟨1, _⟩ => rfl
  have e2 : ridx_main_v27 (ix2 n col) s = ix3 n s col := by
    funext a; match a with
    | ⟨0, _⟩ => rfl
    | ⟨1, _⟩ => rfl
    | ⟨2, _⟩ => rfl
  rw [e1, e2, row_at' x1 x2 x5 n s col (a s) (b s) (ha s) (hb s) (h1 s) (h2 s)]
  refine congrArg (fun z : EReal => z * (x5 _ : EReal)) ?_
  refine congrArg (fun z : EReal => (x3 (ix2 n s) : EReal) * z) ?_
  refine (act_at x0 x1 x2 x4 n s).trans (congrArg gl (Finset.sum_congr rfl fun d _ => ?_))
  rw [row_at x1 x2 x4 n s d (a s) (b s) (ha s) (hb s) (h1 s) (h2 s)]

end Cert.Reference8Ideal.Ex

end
-- ==== Proof.ExValue.lean ====
/- The experts' value: within a tile the sum over the steps' blocks is the sum over all experts, which is the reference's over
   the chosen ones. -/
module

public import proofs.«01_k».proof.Proof.ExFrame
public import proofs.«01_k».proof.Proof.ExBody
public import proofs.«01_k».proof.Proof.ExRef
public import Idealize.ShloMosaic.Lib.StableHlo.ReadAt
public import proofs.«01_k».proof.Defs

@[expose] public section

set_option maxRecDepth 16384

noncomputable section

open Idealize.ShloMosaic Idealize.ShloMosaic.TcCoe Idealize.SL.Sem
open Idealize.ShloMosaic.Pipeline (Dat)

namespace Cert.Kernel8Ideal.Ex

open Cert.Kernel8Ideal Cert.Kernel8Ideal.Gen
open Cert.Ex

/-- A key number's test, on words and on numbers. -/
theorem ofNat_eq (x y : ℕ) (hx : x < 128) (hy : y < 128) : (BitVec.ofNat 32 x = BitVec.ofNat 32 y) ↔ x = y := by
  constructor
  · intro h
    have := congrArg BitVec.toNat h
    simp only [BitVec.toNat_ofNat] at this
    omega
  · rintro rfl; rfl

/-- A gate counts for the expert its two key numbers name. -/
theorem both (r k a b : ℕ) (hr : r < 128) (hk : k < 128) (ha : a < 128) (hb : b < 128) (g : EReal) :
    (if BitVec.ofNat 32 k = BitVec.ofNat 32 b then (if BitVec.ofNat 32 r = BitVec.ofNat 32 a then g else 0) else 0)
      = if r * 128 + k = a * 128 + b then g else 0 := by
  by_cases h1 : k = b
  · by_cases h2 : r = a
    · rw [if_pos (by rw [h1]), if_pos (by rw [h2]), if_pos (by omega)]
    · rw [if_pos (by rw [h1]), if_neg (by rw [ofNat_eq r a hr ha]; exact h2), if_neg (by omega)]
  · rw [if_neg (by rw [ofNat_eq k b hk hb]; exact h1), if_neg (by omega)]

/-- What a point reads of its tile's table. -/
theorem wl_at (i : grid0.Coords) (x1 x2 : Vec Ideal S256x128 .i32) (x3 : Vec Ideal S256x128 .f32) (j : Fin 16) (hj : (i 1).val = j.val) (q : Fin 8)
    (p : Fin 256) (r : Fin 128) (a b : Fin 128 → ℕ) (ha : ∀ s, a s < 128) (hb : ∀ s, b s < 128)
    (h1 : ∀ s, x1 (ix2 p s) = BitVec.ofNat 32 (a s)) (h2 : ∀ s, x2 (ix2 p s) = BitVec.ofNat 32 (b s)) :
    wl (Wc x1 x2 x3) i q (ix2 p r) = ∑ s : Fin 128, if j.val * 1024 + (q.val * 128 + r.val) = a s * 128 + b s then (x3 (ix2 p s) : EReal) else 0 := by
  have hrow : 8 * j.val + q.val + 136 * p.val < 34816 := by omega
  have e1 : wl (Wc x1 x2 x3) i q (ix2 p r) = Wc x1 x2 x3 (ix2 ⟨8 * j.val + q.val + 136 * p.val, hrow⟩ r) := by
    unfold wl
    refine congrArg (Wc x1 x2 x3) (funext fun z => Fin.ext ?_)
    have ho := off3_eq j q i hj
    match z with
    | ⟨0, _⟩ =>
      show (k0_off3 i (BitVec.ofNat 32 q.val)) 0 + 136 * p.val = 8 * j.val + q.val + 136 * p.val
      rw [ho]; rfl
    | ⟨1, _⟩ =>
      show (k0_off3 i (BitVec.ofNat 32 q.val)) 1 + 1 * r.val = r.val
      rw [ho]; show 0 + 1 * r.val = r.val; omega
  have hp : (8 * j.val + q.val + 136 * p.val) / 136 = p.val := by omega
  have hm : (8 * j.val + q.val + 136 * p.val) % 136 % 128 = 8 * j.val + q.val := by omega
  have hrw : ∀ {e : EltTy} (x : Vec Ideal S256x128 e) (s : Fin 128), rowOf x ((8 * j.val + q.val + 136 * p.val) / 136) (ix2 0 s) = x (ix2 p s) := fun x s =>
    congrArg (fun z => x (ix2 z s)) (Fin.ext (by show (8 * j.val + q.val + 136 * p.val) / 136 % 256 = p.val; omega))
  rw [e1]
  refine (pay4_at _ _ _ _ _).trans (Finset.sum_congr rfl fun s _ => ?_)
  have k1 := (hrw x1 s).trans (h1 s)
  have k2 := (hrw x2 s).trans (h2 s)
  have k3 := hrw x3 s
  refine Eq.trans ?_ ((both (8 * j.val + q.val) r.val (a s) (b s) (by omega) r.isLt (ha s) (hb s) (x3 (ix2 p s))).trans ?_)
  · show (if BitVec.ofNat 32 r.val = rowOf x2 ((8 * j.val + q.val + 136 * p.val) / 136) (ix2 0 s) then
      (if BitVec.ofNat 32 ((8 * j.val + q.val + 136 * p.val) % 136 % 128) = rowOf x1 ((8 * j.val + q.val + 136 * p.val) / 136) (ix2 0 s) then
        (rowOf x3 ((8 * j.val + q.val + 136 * p.val) / 136) (ix2 0 s) : EReal) else 0) else 0) = _
    rw [k1, k2, k3, hm]
  · exact if_congr (by omega) rfl rfl

theorem coord1 : ∀ t : Fin grid0.N, ((grid0.coords t) 1).val = t.val % 16 := by decide +kernel

variable (m : (ℓ : Loc nD τ sig) → Buf (Elt Ideal) ℓ) (c : Dev nD)

/-- The arguments, as launched. -/
abbrev H : FVec Ideal ⟨2, ![65536, 1024]⟩ .bf16 := m ((c : Thread nD τ).loc main_arg0)
abbrev KA : IVec ⟨2, ![65536, 128]⟩ 32 := m ((c : Thread nD τ).loc main_arg1)
abbrev KB : IVec ⟨2, ![65536, 128]⟩ 32 := m ((c : Thread nD τ).loc main_arg2)
abbrev G : FVec Ideal ⟨2, ![65536, 128]⟩ .f32 := m ((c : Thread nD τ).loc main_arg3)
abbrev U : FVec Ideal ⟨2, ![16384, 1024]⟩ .f32 := m ((c : Thread nD τ).loc main_arg4)
abbrev W : FVec Ideal ⟨2, ![16384, 1024]⟩ .f32 := m ((c : Thread nD τ).loc main_arg5)
abbrev X : FVec Ideal ⟨2, ![65536, 1024]⟩ .f32 := m ((c : Thread nD τ).loc main_arg6)

theorem blk0 (t : Fin cfg0.N) (p : Fin 256) (d : Fin 1024) : (iblk m c 0 t : Vec Ideal S256x1024 .bf16) (ix2 p d) =
    (V m c main_arg0 : FVec Ideal S65536x1024 .bf16) (ix2 ⟨t.val / 16 * 256 + p.val, by have := pt_lt t; omega⟩ d) := by
  blk_point [iblk, idx t]

theorem blk4 (t : Fin cfg0.N) (d e : Fin 1024) : (iblk m c 4 t : Vec Ideal S1024x1024 .bf16) (ix2 d e) =
    (V m c main_v1 : FVec Ideal S1024x16384 .bf16) (ix2 d ⟨t.val % 16 * 1024 + e.val, by omega⟩) := by
  blk_point [iblk, idx t]

theorem blk5 (t : Fin cfg0.N) (e d : Fin 1024) : (iblk m c 5 t : Vec Ideal S1024x1024 .bf16) (ix2 e d) =
    (V m c main_v2 : FVec Ideal S16384x1024 .bf16) (ix2 ⟨t.val % 16 * 1024 + e.val, by omega⟩ d) := by
  blk_point [iblk, idx t]

theorem blk6 (t : Fin cfg0.N) (p : Fin 256) (d : Fin 1024) : (iblk m c 6 t : Vec Ideal S256x1024 .f32) (ix2 p d) =
    (V m c main_arg6 : FVec Ideal S65536x1024 .f32) (ix2 ⟨t.val / 16 * 256 + p.val, by have := pt_lt t; omega⟩ d) := by
  blk_point [iblk, idx t]

/-- The tables the experts' blocks are cut from. -/
theorem u_tab (d : Fin 1024) (E : Fin 16384) : (V m c main_v1 : FVec Ideal S1024x16384 .bf16) (ix2 d E) =
    (m (c, Proc.devRef .tc main_arg4) : FVec Ideal S16384x1024 .f32) (ix2 E d) := by
  simp only [V, hostOps0, List.flatten_cons, List.flatten_nil, List.cons_append, List.nil_append, List.append_nil]
  after_reads_at

theorem v_tab (E : Fin 16384) (d : Fin 1024) : (V m c main_v2 : FVec Ideal S16384x1024 .bf16) (ix2 E d) =
    (m (c, Proc.devRef .tc main_arg5) : FVec Ideal S16384x1024 .f32) (ix2 E d) := by
  simp only [V, hostOps0, List.flatten_cons, List.flatten_nil, List.cons_append, List.nil_append, List.append_nil]
  after_reads_at

/-- A row of a table of experts, the experts numbered by all naturals. -/
def tabAt (z : FVec Ideal ⟨2, ![16384, 1024]⟩ .f32) (E : ℕ) (d : Fin 1024) : EReal := z (ix2 ⟨E % 16384, Nat.mod_lt _ (by decide)⟩ d)

/-- An expert's activation at a token. -/
def act (n : Fin 65536) (E : ℕ) : EReal := gl (∑ d : Fin 1024, (H m c (ix2 n d) : EReal) * tabAt (U m c) E d)

/-- An expert's share of a token's result. -/
def term (a b : Fin 128 → ℕ) (n : Fin 65536) (col : Fin 1024) (E : ℕ) : EReal :=
  (act m c n E * ∑ s : Fin 128, if E = a s * 128 + b s then (G m c (ix2 n s) : EReal) else 0) * tabAt (W m c) E col

/-- A tile's row, as a token's. -/
abbrev tok (t : Fin cfg0.N) (p : Fin 256) : Fin 65536 := ⟨t.val / 16 * 256 + p.val, by have := pt_lt t; omega⟩

/-- What a point adds to a token's sum: its block's experts. -/
theorem step_term (t : Fin cfg0.N) (A : Vec Ideal S256x1024 .f32) (p : Fin 256) (col : Fin 1024) (a b : Fin 128 → ℕ) (ha : ∀ s, a s < 128)
    (hb : ∀ s, b s < 128) (h1 : ∀ s, KA m c (ix2 (tok t p) s) = BitVec.ofNat 32 (a s)) (h2 : ∀ s, KB m c (ix2 (tok t p) s) = BitVec.ofNat 32 (b s)) :
    stepOut (grid0.coords t) (iblk m c 0 t) (iblk m c 4 t) (iblk m c 5 t) (tab m c (t.val / 16)) A (ix2 p col) =
      (A (ix2 p col) : EReal) + ∑ e ∈ Finset.range 1024, term m c a b (tok t p) col (t.val % 16 * 1024 + e) := by
  have ht : t.val % 16 < 16 := by omega
  rw [step_at, Finset.sum_range]
  refine congrArg (fun z : EReal => (A (ix2 p col) : EReal) + z) (Finset.sum_congr rfl fun e _ => ?_)
  have hE : (t.val % 16 * 1024 + e.val) % 16384 = t.val % 16 * 1024 + e.val := by omega
  rw [← tab_eq m c t, wl_at (grid0.coords t) (iblk m c 1 t) (iblk m c 2 t) (iblk m c 3 t) ⟨t.val % 16, ht⟩ (coord1 t) ⟨e.val / 128, by omega⟩ p
    ⟨e.val % 128, by omega⟩ a b ha hb (fun s => (blk1 m c t p s).trans ((congrFun (V_main_arg1 m c) _).trans (h1 s)))
    (fun s => (blk2 m c t p s).trans ((congrFun (V_main_arg2 m c) _).trans (h2 s)))]
  unfold term act tabAt
  refine congrArg₂ (fun x y : EReal => x * y) (congrArg₂ (fun x y : EReal => x * y) (congrArg gl (Finset.sum_congr rfl fun d _ =>
    congrArg₂ (fun x y : EReal => x * y) ?_ ?_)) (Finset.sum_congr rfl fun s _ => ?_)) ?_
  · exact (blk0 m c t p d).trans (congrFun (V_main_arg0 m c) _)
  · exact (blk4 m c t d e).trans ((u_tab m c d _).trans (congrArg (fun z => U m c (ix2 z d)) (Fin.ext hE.symm)))
  · exact if_congr (by show t.val % 16 * 1024 + (e.val / 128 * 128 + e.val % 128) = _ ↔ _; rw [show e.val / 128 * 128 + e.val % 128 = e.val by omega])
      ((blk3 m c t p s).trans (congrFun (V_main_arg3 m c) _)) rfl
  · exact (blk5 m c t e col).trans ((v_tab m c _ col).trans (congrArg (fun z => W m c (ix2 z col)) (Fin.ext hE.symm)))

/-- The sum after a step of a tile: the experts of its blocks so far. -/
theorem acc_at (k : ℕ) (hk : k < 256) (p : Fin 256) (col : Fin 1024) (a b : Fin 128 → ℕ) (ha : ∀ s, a s < 128) (hb : ∀ s, b s < 128)
    (n : Fin 65536) (hn : n.val = k * 256 + p.val) (h1 : ∀ s, KA m c (ix2 n s) = BitVec.ofNat 32 (a s)) (h2 : ∀ s, KB m c (ix2 n s) = BitVec.ofNat 32 (b s)) :
    ∀ j, j < 16 → acc m c (k * 16 + j + 1) (ix2 p col) = ∑ E ∈ Finset.range ((j + 1) * 1024), term m c a b n col E := by
  intro j
  induction j with
  | zero =>
    intro _
    obtain ⟨T, hT⟩ : ∃ T : Fin cfg0.N, T.val = k * 16 := ⟨⟨k * 16, by show k * 16 < 4096; omega⟩, rfl⟩
    have htok : tok T p = n := Fin.ext (by show T.val / 16 * 256 + p.val = n.val; omega)
    have hz : (k0_pay3 (F := Ideal)) (ix2 p col) = (0 : EReal) := by pointwise [k0_pay3]
    rw [show k * 16 + 0 + 1 = T.val + 1 by omega, acc_first m c T (by omega),
      step_term m c T _ p col a b ha hb (by rw [htok]; exact h1) (by rw [htok]; exact h2), hz, zero_add, htok]
    refine Finset.sum_congr rfl fun E _ => congrArg (term m c a b n col) ?_
    omega
  | succ j ih =>
    intro hj
    obtain ⟨T, hT⟩ : ∃ T : Fin cfg0.N, T.val = k * 16 + (j + 1) := ⟨⟨k * 16 + (j + 1), by show _ < 4096; omega⟩, rfl⟩
    have htok : tok T p = n := Fin.ext (by show T.val / 16 * 256 + p.val = n.val; omega)
    have hi := ih (by omega)
    rw [show k * 16 + j + 1 = T.val by omega] at hi
    rw [show k * 16 + (j + 1) + 1 = T.val + 1 by omega, acc_next m c T (by omega),
      step_term m c T _ p col a b ha hb (by rw [htok]; exact h1) (by rw [htok]; exact h2), htok, hi,
      show (j + 1 + 1) * 1024 = (j + 1) * 1024 + 1024 by omega, Finset.sum_range_add]
    refine congrArg (fun z : EReal => _ + z) (Finset.sum_congr rfl fun E _ => congrArg (term m c a b n col) ?_)
    omega

/-- The reference's result on the kernel's arguments. -/
def result : FVec Ideal ⟨2, ![65536, 1024]⟩ .f32 :=
  Cert.Reference8Ideal.Read.val_main_v28 (F := Ideal) (H m c) (KA m c) (KB m c) (G m c) (U m c) (W m c) (X m c)

theorem pay2_at (B A : Vec Ideal S256x1024 .f32) (p : Fin 256) (col : Fin 1024) : k0_pay2 B A (ix2 p col) = B (ix2 p col) + A (ix2 p col) := by
  pointwise [k0_pay2]

/-- The last point of a tile leaves the reference's result in its block. -/
theorem point_at (t : Fin cfg0.N) (ht : t.val % 16 = 15) (p : Fin 256) (col : Fin 1024) (a b : Fin 128 → ℕ) (ha : ∀ s, a s < 128) (hb : ∀ s, b s < 128)
    (h1 : ∀ s, KA m c (ix2 (tok t p) s) = BitVec.ofNat 32 (a s)) (h2 : ∀ s, KB m c (ix2 (tok t p) s) = BitVec.ofNat 32 (b s))
    (hg : ∀ s, (0 : EReal) ≤ G m c (ix2 (tok t p) s)) : outsAt0 m c t (ix2 p col) = result m c (ix2 (tok t p) col) := by
  have hlt := pt_lt t
  have e1 : outsAt0 m c t (ix2 p col) = _ := pay2_at (iblk m c 6 t) (acc m c (t.val + 1)) p col
  have e2 := acc_at m c (t.val / 16) (by omega) p col a b ha hb (tok t p) rfl h1 h2 15 (by omega)
  rw [show t.val / 16 * 16 + 15 + 1 = t.val + 1 by omega] at e2
  have e3 := all_eq (n := 128) 16384 (act m c (tok t p)) (fun E => tabAt (W m c) E col) (fun s => (G m c (ix2 (tok t p) s) : EReal)) (fun s => a s * 128 + b s) hg
    (fun s => by have := ha s; have := hb s; show _ < _; omega)
  rw [e1, e2, blk6]
  refine Eq.trans ?_ (Cert.Reference8Ideal.Ex.out_at (H m c) (KA m c) (KB m c) (G m c) (U m c) (W m c) (X m c) (tok t p) col a b ha hb h1 h2).symm
  refine congrArg₂ (fun x y : EReal => x + y) (congrFun (V_main_arg6 m c) _) (e3.trans (Finset.sum_congr rfl fun s _ => ?_))
  have hE : (a s * 128 + b s) % 16384 = a s * 128 + b s := by have := ha s; have := hb s; omega
  unfold act tabAt
  simp only [hE]

/-- Where the result's array holds an element of a grid point's block. -/
theorem emb7 (z : FVec Ideal ⟨2, ![65536, 1024]⟩ .f32) (t : Fin cfg0.N) (p : Fin 256) (e : Fin 1024) :
    z (((cfg0.win 7).blk t).view.emb (ix2 p e)) = z (ix2 (tok t p) e) := by
  blk_point [idx t]

/-- The routing's conditions: key numbers in range, gates not negative. -/
structure Routed : Prop where
  key : ∀ (n : Fin 65536) (s : Fin 128), (∃ a, a < 128 ∧ KA m c (ix2 n s) = BitVec.ofNat 32 a) ∧ ∃ b, b < 128 ∧ KB m c (ix2 n s) = BitVec.ofNat 32 b
  gate : ∀ (n : Fin 65536) (s : Fin 128), (0 : EReal) ≤ G m c (ix2 n s)

theorem and_one : ∀ x y : BitVec 1, x &&& y = 1#1 → x = 1#1 ∧ y = 1#1 := by decide

/-- A word the two comparisons hold of is a number below 128. -/
theorem small (x : BitVec 32) (h1 : IntOp.cmpi .sge x 0#32 = 1#1) (h2 : IntOp.cmpi .slt x 128#32 = 1#1) : ∃ a, a < 128 ∧ x = BitVec.ofNat 32 a := by
  have ofb : ∀ v : Bool, BitVec.ofBool v = 1#1 → v = true := by decide
  have e1 : (0#32 : BitVec 32).sle x = true := ofb _ h1
  have e2 : x.slt 128#32 = true := ofb _ h2
  rw [BitVec.sle_eq_decide, decide_eq_true_iff] at e1
  rw [BitVec.slt_eq_decide, decide_eq_true_iff] at e2
  have e3 : (128#32 : BitVec 32).toInt = 128 := by decide
  rw [e3] at e2
  rw [BitVec.toInt_zero] at e1
  have e4 := BitVec.toInt_eq_toNat_cond x
  refine ⟨x.toNat, ?_, BitVec.eq_of_toNat_eq (by simp)⟩
  have := x.isLt
  split at e4 <;> omega

theorem routed_of [Cert.Pre_routed.Facts] (h : Cert.Pre_Kernel8Ideal_routed m) : Routed m c := by
  have key : ∀ (n : Fin 65536) (s : Fin 128), ((((IntOp.cmpi .sge (KA m c (ix2 n s)) 0#32 &&& IntOp.cmpi .slt (KA m c (ix2 n s)) 128#32) &&&
      IntOp.cmpi .sge (KB m c (ix2 n s)) 0#32) &&& IntOp.cmpi .slt (KB m c (ix2 n s)) 128#32) &&&
      Ideal.cmp .oge (G m c (ix2 n s)) (Ideal.ofBits .f32 0x00000000#32)) = 1#1 := fun n s => congrFun (h c) (ix2 n s)
  refine ⟨fun n s => ?_, fun n s => ?_⟩
  · obtain ⟨h4, -⟩ := and_one _ _ (key n s)
    obtain ⟨h3, hd⟩ := and_one _ _ h4
    obtain ⟨h2, hc⟩ := and_one _ _ h3
    obtain ⟨ha, hb⟩ := and_one _ _ h2
    exact ⟨small _ ha hb, small _ hc hd⟩
  · obtain ⟨-, h5⟩ := and_one _ _ (key n s)
    have ofb : ∀ v : Bool, BitVec.ofBool v = 1#1 → v = true := by decide
    have := of_decide_eq_true (ofb _ h5)
    rwa [Ideal.ofBits_zero_f32] at this

/-- What the last point of a tile leaves in its block is the reference's result on the block's rows. -/
theorem point7 (hr : Routed m c) (t : Fin cfg0.N) (ht : t.val % 16 = 15) (y) : outsAt0 m c t y = result m c (((cfg0.win 7).blk t).view.emb y) := by
  have key : ∀ (p : Fin 256) (e : Fin 1024), outsAt0 m c t (ix2 p e) = result m c (((cfg0.win 7).blk t).view.emb (ix2 p e)) := fun p e => by
    choose a ha h1 using fun s => (hr.key (tok t p) s).1
    choose b hb h2 using fun s => (hr.key (tok t p) s).2
    exact (point_at m c t ht p e a b ha hb h1 h2 (fun s => hr.gate (tok t p) s)).trans (emb7 (result m c) t p e).symm
  rw [eq_ix2 (n0 := 256) (n1 := 1024) y]
  exact key (y 0) (y 1)

theorem flush7 : ∀ t : Fin cfg0.N, (cfg0.win 7).flush t = true → t.val % 16 = 15 := fun t e => (flush0_7 t).mp e

/-- The kernel's array after the run is the reference's result. -/
theorem final7 (hr : Routed m c) : (dats m 0 c).arrAt 7 (cfgs 0).N = result m c := by
  refine (dats m 0 c).arrAt_eq_of_covers 7 _ (by decide +kernel) fun t hf y => ?_
  blk_simp
  rw [after0_7]
  exact point7 m c hr t (flush7 t hf) y

/-- The kernel's run: its array is the reference's result on its arguments, its arguments end unchanged. -/
theorem run (hr : ∀ c, Routed m c) (ρ : Dev nD → PrngReg) : θ_run (defs (F := Ideal)) (onTc (τ := τ) (main (F := Ideal))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨((h.1 c).1 7).trans (final7 m c (hr c)), h.2.1 c⟩)
    (θ_run_and (run_main m ρ) (frame m ρ))

end Cert.Kernel8Ideal.Ex

namespace Cert.Ex

/-- The experts' reference runs, leaves its arguments unchanged and ends with no semaphore raised. -/
theorem frame_reference8 : Cert.quiescent_Reference8Ideal := fun m ρ _ =>
  (θ_run _ _ _).mono (fun r h => ⟨fun c => (h c).2, sem_eq_zero_of_no_sems (by decide) r.2⟩)
    (Cert.Reference8Ideal.Value.run (F := Ideal) m ρ)

/-- The experts: from the same arguments, routed, the kernel and its reference end with the same result. -/
theorem algebraic8 [Cert.Pre_routed.Facts] : Cert.algebraic_Kernel8Ideal_Reference8Ideal_pre_routed := by
  intro m ρ m' ρ' hpre hagree
  refine ⟨fun c => Cert.Kernel8Ideal.Ex.result m c, Cert.Kernel8Ideal.Ex.run m (fun c => Cert.Kernel8Ideal.Ex.routed_of m c hpre) ρ,
    (θ_run _ _ _).mono (fun _ h c => ?_) (Cert.Reference8Ideal.Value.run (F := Ideal) m' ρ')⟩
  obtain ⟨h0, h1, h2, h3, h4, h5, h6⟩ := hagree c
  refine ⟨(h c).1.trans ?_, (h c).2⟩
  rw [Cert.Reference8Ideal.Read.val_main_v28_eq, h0, h1, h2, h3, h4, h5, h6]
  rfl

end Cert.Ex

end
-- ==== Proof.lean ====
/- The claims, put together: of the retention, of the five projections, of the neighbourhood attention and of the experts,
   each kernel and its reference run, leave their arguments unchanged and end with no semaphore raised; and the idealized
   kernel's results are its reference's. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame.Runs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.KernelIdeal.Frame.Runs
public import proofs.«01_k».proof.Proof.Gen.ReferenceIdeal.Run
public import proofs.«01_k».proof.Proof.Gen.ReferenceIdeal.Step
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Gen.Reference6Ideal.Read
public import proofs.«01_k».proof.Proof.RetFrame
public import proofs.«01_k».proof.Proof.WordFrame
public import proofs.«01_k».proof.Proof.Projections
public import proofs.«01_k».proof.Proof.RetValue
public import proofs.«01_k».proof.Proof.NaValue
public import proofs.«01_k».proof.Proof.ExWordFrame
public import proofs.«01_k».proof.Proof.ExValue
public import Idealize.ShloMosaic.Lib.Quiescent
public import Idealize.ShloMosaic.Adequacy
public import Idealize.ShloMosaic.Init
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Pre_routed
public import proofs.«01_k».proof.Proof.Gen.Kernel8
public import proofs.«01_k».proof.Proof.Gen.Kernel8.Skeleton
public import proofs.«01_k».proof.Proof.Gen.Kernel8.Loops
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Loops
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal.Run
public import proofs.«01_k».proof.Proof.Gen.Reference8Ideal.Read

@[expose] public section

noncomputable section

namespace Cert.Proof

open Idealize.ShloMosaic Idealize.SL.Sem

/-- The retention's reference runs, leaves its arguments unchanged and ends with no semaphore raised. -/
theorem frame_reference : Cert.quiescent_ReferenceIdeal := fun m ρ _ =>
  (θ_run _ _ _).mono (fun r h => ⟨fun c => (h c).2, sem_eq_zero_of_no_sems (by decide) r.2⟩)
    (Cert.ReferenceIdeal.Value.run (F := Ideal) m ρ)

/-- The certificate's claim: its conjuncts together. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Pre_routed.Gen.facts,
  fun m ρ _ => Cert.Kernel.Ret.frame m ρ,
  fun m ρ _ => Cert.KernelIdeal.Ret.frame m ρ,
  frame_reference,
  fun m ρ _ => Cert.Kernel2.Gen.frame m ρ,
  fun m ρ _ => Cert.Kernel2Ideal.Gen.frame m ρ,
  frame_reference2,
  fun m ρ _ => Cert.Kernel3.Gen.frame m ρ,
  fun m ρ _ => Cert.Kernel3Ideal.Gen.frame m ρ,
  frame_reference3,
  fun m ρ _ => Cert.Kernel4.Gen.frame m ρ,
  fun m ρ _ => Cert.Kernel4Ideal.Gen.frame m ρ,
  frame_reference4,
  fun m ρ _ => Cert.Kernel5.Gen.frame m ρ,
  fun m ρ _ => Cert.Kernel5Ideal.Gen.frame m ρ,
  frame_reference5,
  fun m ρ _ => Cert.Kernel6.Gen.frame m ρ,
  fun m ρ _ => Cert.Kernel6Ideal.Gen.frame m ρ,
  frame_reference6,
  fun m ρ _ => Cert.Kernel7.Gen.frame m ρ,
  fun m ρ _ => Cert.Kernel7Ideal.Gen.frame m ρ,
  Cert.Na.frame_reference7,
  fun m ρ _ => Cert.Kernel8.Ex.frame m ρ,
  fun m ρ _ => Cert.Kernel8Ideal.Ex.frame m ρ,
  fun m ρ _ => Cert.Kernel8Ideal.Ex.frame m ρ,
  Cert.Ex.frame_reference8,
  fun m ρ _ => Cert.Ex.frame_reference8 m ρ trivial,
  trivial,
  Cert.KernelIdeal.Ret.algebraic,
  trivial,
  algebraic2,
  trivial,
  algebraic3,
  trivial,
  algebraic4,
  trivial,
  algebraic5,
  trivial,
  algebraic6,
  trivial,
  Cert.Na.algebraic7,
  trivial,
  Cert.Ex.algebraic8⟩

end Cert.Proof

end
